-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Exchange (m : (ℓ : Loc Cert.Exchange.nD Cert.Exchange.τ Cert.Exchange.sig) → Buf (Elt Bits) ℓ) : Prop :=
  True

def Pre_ExchangeIdeal (m : (ℓ : Loc Cert.ExchangeIdeal.nD Cert.ExchangeIdeal.τ Cert.ExchangeIdeal.sig) → Buf (Elt Ideal) ℓ) : Prop :=
  True

def Pre_ExchangeIdeal_finite_inputs_ExchangeIdeal [hPre_finite_inputs_ExchangeIdeal : Cert.Pre_finite_inputs_ExchangeIdeal.Facts] (m : (ℓ : Loc Cert.ExchangeIdeal.nD Cert.ExchangeIdeal.τ Cert.ExchangeIdeal.sig) → Buf (Elt Ideal) ℓ) : Prop :=
  ∀ c : Dev Cert.ExchangeIdeal.nD,
    (Cert.Pre_finite_inputs_ExchangeIdeal.fn (F := Ideal) (m ((c.tc : Thread Cert.ExchangeIdeal.nD Cert.ExchangeIdeal.τ).loc Cert.ExchangeIdeal.main_arg0)) (m ((c.tc : Thread Cert.ExchangeIdeal.nD Cert.ExchangeIdeal.τ).loc Cert.ExchangeIdeal.main_arg1))) = (fun _ => 1#1)

def Pre_GatesIdeal (m : (ℓ : Loc Cert.GatesIdeal.nD Cert.GatesIdeal.τ Cert.GatesIdeal.sig) → Buf (Elt Ideal) ℓ) : Prop :=
  True

def Pre_GatesIdeal_finite_inputs_GatesIdeal [hPre_finite_inputs_GatesIdeal : Cert.Pre_finite_inputs_GatesIdeal.Facts] (m : (ℓ : Loc Cert.GatesIdeal.nD Cert.GatesIdeal.τ Cert.GatesIdeal.sig) → Buf (Elt Ideal) ℓ) : Prop :=
  ∀ c : Dev Cert.GatesIdeal.nD,
    (Cert.Pre_finite_inputs_GatesIdeal.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1))) = (fun _ => 1#1)

def Pre_Experts [hPre_half_named : Cert.Pre_half_named.Facts] (m : (ℓ : Loc Cert.Experts.nD Cert.Experts.τ Cert.Experts.sig) → Buf (Elt Bits) ℓ) : Prop :=
  ∀ c : Dev Cert.Experts.nD,
    (Cert.Pre_half_named.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))) = (fun _ => 1#1)

def Pre_ExpertsIdeal [hPre_half_named : Cert.Pre_half_named.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_half_named.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) = (fun _ => 1#1)

def Pre_ExpertsIdeal_slots_apart [hPre_slots_apart : Cert.Pre_slots_apart.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_slots_apart.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) = (fun _ => 1#1)

def Pre_FfnIdeal (m : (ℓ : Loc Cert.FfnIdeal.nD Cert.FfnIdeal.τ Cert.FfnIdeal.sig) → Buf (Elt Ideal) ℓ) : Prop :=
  True

def Pre_FfnIdeal_slots_apart [hPre_slots_apart : Cert.Pre_slots_apart.Facts] (m : (ℓ : Loc Cert.FfnIdeal.nD Cert.FfnIdeal.τ Cert.FfnIdeal.sig) → Buf (Elt Ideal) ℓ) : Prop :=
  ∀ c : Dev Cert.FfnIdeal.nD,
    (Cert.Pre_slots_apart.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Exchange [hExchange : Cert.Exchange.Facts] : Prop :=
  ∀ (m : (ℓ : Loc Cert.Exchange.nD Cert.Exchange.τ Cert.Exchange.sig) → Buf (Elt Bits) ℓ) (g : Dev Cert.Exchange.nD → PrngReg), Pre_Exchange m →
    θ_run (Cert.Exchange.defs (F := Bits)) (onTc (τ := Cert.Exchange.τ) (Cert.Exchange.main (F := Bits))) ⟨m, fun _ => 0, g⟩ (fun r => (∀ c : Dev Cert.Exchange.nD,
      r.2.mem ((c.tc : Thread Cert.Exchange.nD Cert.Exchange.τ).loc Cert.Exchange.main_arg0) = m ((c.tc : Thread Cert.Exchange.nD Cert.Exchange.τ).loc Cert.Exchange.main_arg0)
      ∧ r.2.mem ((c.tc : Thread Cert.Exchange.nD Cert.Exchange.τ).loc Cert.Exchange.main_arg1) = m ((c.tc : Thread Cert.Exchange.nD Cert.Exchange.τ).loc Cert.Exchange.main_arg1))
      ∧ r.2.sem = fun _ => 0)

def quiescent_ExchangeIdeal [hExchangeIdeal : Cert.ExchangeIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg), Pre_ExchangeIdeal m →
    θ_run (Cert.ExchangeIdeal.defs (F := Ideal)) (onTc (τ := Cert.ExchangeIdeal.τ) (Cert.ExchangeIdeal.main (F := Ideal))) ⟨m, fun _ => 0, g⟩ (fun r => (∀ c : Dev Cert.ExchangeIdeal.nD,
      r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
      ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1))
      ∧ r.2.sem = fun _ => 0)

def quiescent_ExchangeIdeal_pre_finite_inputs_ExchangeIdeal [hExchangeIdeal : Cert.ExchangeIdeal.Facts] [hPre_finite_inputs_ExchangeIdeal : Cert.Pre_finite_inputs_ExchangeIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg), Pre_ExchangeIdeal_finite_inputs_ExchangeIdeal m →
    θ_run (Cert.ExchangeIdeal.defs (F := Ideal)) (onTc (τ := Cert.ExchangeIdeal.τ) (Cert.ExchangeIdeal.main (F := Ideal))) ⟨m, fun _ => 0, g⟩ (fun r => (∀ c : Dev Cert.ExchangeIdeal.nD,
      r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
      ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesIdeal_pre_finite_inputs_GatesIdeal [hGatesIdeal : Cert.GatesIdeal.Facts] [hPre_finite_inputs_GatesIdeal : Cert.Pre_finite_inputs_GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal_finite_inputs_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_Experts [hExperts : Cert.Experts.Facts] [hPre_half_named : Cert.Pre_half_named.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7))
      ∧ r.2.sem = fun _ => 0)

def quiescent_ExpertsIdeal [hExpertsIdeal : Cert.ExpertsIdeal.Facts] [hPre_half_named : Cert.Pre_half_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def quiescent_ExpertsIdeal_pre_slots_apart [hExpertsIdeal : Cert.ExpertsIdeal.Facts] [hPre_slots_apart : Cert.Pre_slots_apart.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_slots_apart m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnIdeal_pre_slots_apart [hFfnIdeal : Cert.FfnIdeal.Facts] [hPre_slots_apart : Cert.Pre_slots_apart.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_slots_apart m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 1024]⟩ ⟨2, ![2048, 1024]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def preserves_Exchange_ExchangeIdeal : Prop :=
  True

def algebraic_ExchangeIdeal_GatesIdeal_pre_finite_inputs_ExchangeIdeal [hExchangeIdeal : Cert.ExchangeIdeal.Facts] [hGatesIdeal : Cert.GatesIdeal.Facts] [hPre_finite_inputs_ExchangeIdeal : Cert.Pre_finite_inputs_ExchangeIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg)
    (m' : (ℓ : Loc Cert.GatesIdeal.nD Cert.GatesIdeal.τ Cert.GatesIdeal.sig) → Buf (Elt Ideal) ℓ) (g' : Dev Cert.GatesIdeal.nD → PrngReg), Pre_ExchangeIdeal_finite_inputs_ExchangeIdeal m →
    (∀ c : Dev Cert.ExchangeIdeal.nD,
      m ((c.tc : Thread Cert.ExchangeIdeal.nD Cert.ExchangeIdeal.τ).loc Cert.ExchangeIdeal.main_arg0) = Layout.blockN ⟨2, ![1024, 1024]⟩ ⟨2, ![2048, 1024]⟩ (Layout.meshBlock [2, 2] ![[0], []] c) (m' (((0 : Dev Cert.GatesIdeal.nD).tc : Thread Cert.GatesIdeal.nD Cert.GatesIdeal.τ).loc Cert.GatesIdeal.main_arg0))
      ∧ m ((c.tc : Thread Cert.ExchangeIdeal.nD Cert.ExchangeIdeal.τ).loc Cert.ExchangeIdeal.main_arg1) = Layout.blockN ⟨2, ![1024, 8]⟩ ⟨2, ![1024, 16]⟩ (Layout.meshBlock [2, 2] ![[], [0]] c) (m' (((0 : Dev Cert.GatesIdeal.nD).tc : Thread Cert.GatesIdeal.nD Cert.GatesIdeal.τ).loc Cert.GatesIdeal.main_arg1))) →
    ∃ (v0 : Buf (Elt Ideal) (((0 : Dev Cert.GatesIdeal.nD).tc : Thread Cert.GatesIdeal.nD Cert.GatesIdeal.τ).loc Cert.GatesIdeal.main_v0)) (v1 : Buf (Elt Ideal) (((0 : Dev Cert.GatesIdeal.nD).tc : Thread Cert.GatesIdeal.nD Cert.GatesIdeal.τ).loc Cert.GatesIdeal.main_v1)),
      θ_run (Cert.ExchangeIdeal.defs (F := Ideal)) (onTc (τ := Cert.ExchangeIdeal.τ) (Cert.ExchangeIdeal.main (F := Ideal))) ⟨m, fun _ => 0, g⟩ (fun r => ∀ c : Dev Cert.ExchangeIdeal.nD,
          r.2.mem ((c.tc : Thread Cert.ExchangeIdeal.nD Cert.ExchangeIdeal.τ).loc Cert.ExchangeIdeal.main_v1_0) = v0
          ∧ r.2.mem ((c.tc : Thread Cert.ExchangeIdeal.nD Cert.ExchangeIdeal.τ).loc Cert.ExchangeIdeal.main_v1_1) = v1
          ∧ r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
          ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1))
      ∧ θ_run (Cert.GatesIdeal.defs (F := Ideal)) (onTc (τ := Cert.GatesIdeal.τ) (Cert.GatesIdeal.main (F := Ideal))) ⟨m', fun _ => 0, g'⟩ (fun r =>
          r.2.mem (((0 : Dev Cert.GatesIdeal.nD).tc : Thread Cert.GatesIdeal.nD Cert.GatesIdeal.τ).loc Cert.GatesIdeal.main_v0) = v0
          ∧ r.2.mem (((0 : Dev Cert.GatesIdeal.nD).tc : Thread Cert.GatesIdeal.nD Cert.GatesIdeal.τ).loc Cert.GatesIdeal.main_v1) = v1
          ∧ r.2.mem (((0 : Dev Cert.GatesIdeal.nD).tc : Thread Cert.GatesIdeal.nD Cert.GatesIdeal.τ).loc Cert.GatesIdeal.main_arg0) = m' (((0 : Dev Cert.GatesIdeal.nD).tc : Thread Cert.GatesIdeal.nD Cert.GatesIdeal.τ).loc Cert.GatesIdeal.main_arg0)
          ∧ r.2.mem (((0 : Dev Cert.GatesIdeal.nD).tc : Thread Cert.GatesIdeal.nD Cert.GatesIdeal.τ).loc Cert.GatesIdeal.main_arg1) = m' (((0 : Dev Cert.GatesIdeal.nD).tc : Thread Cert.GatesIdeal.nD Cert.GatesIdeal.τ).loc Cert.GatesIdeal.main_arg1))

def preserves_Experts_ExpertsIdeal : Prop :=
  True

def algebraic_ExpertsIdeal_FfnIdeal_pre_slots_apart [hExpertsIdeal : Cert.ExpertsIdeal.Facts] [hFfnIdeal : Cert.FfnIdeal.Facts] [hPre_slots_apart : Cert.Pre_slots_apart.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.FfnIdeal.nD Cert.FfnIdeal.τ Cert.FfnIdeal.sig) → Buf (Elt Ideal) ℓ) (g' : Dev Cert.FfnIdeal.nD → PrngReg), Pre_ExpertsIdeal_slots_apart m →
    (∀ c : Dev Cert.ExpertsIdeal.nD,
      m' ((c.tc : Thread Cert.FfnIdeal.nD Cert.FfnIdeal.τ).loc Cert.FfnIdeal.main_arg0) = m ((c.tc : Thread Cert.ExpertsIdeal.nD Cert.ExpertsIdeal.τ).loc Cert.ExpertsIdeal.main_arg0)
      ∧ m' ((c.tc : Thread Cert.FfnIdeal.nD Cert.FfnIdeal.τ).loc Cert.FfnIdeal.main_arg1) = m ((c.tc : Thread Cert.ExpertsIdeal.nD Cert.ExpertsIdeal.τ).loc Cert.ExpertsIdeal.main_arg1)
      ∧ m' ((c.tc : Thread Cert.FfnIdeal.nD Cert.FfnIdeal.τ).loc Cert.FfnIdeal.main_arg2) = m ((c.tc : Thread Cert.ExpertsIdeal.nD Cert.ExpertsIdeal.τ).loc Cert.ExpertsIdeal.main_arg2)
      ∧ m' ((c.tc : Thread Cert.FfnIdeal.nD Cert.FfnIdeal.τ).loc Cert.FfnIdeal.main_arg3) = m ((c.tc : Thread Cert.ExpertsIdeal.nD Cert.ExpertsIdeal.τ).loc Cert.ExpertsIdeal.main_arg3)
      ∧ m' ((c.tc : Thread Cert.FfnIdeal.nD Cert.FfnIdeal.τ).loc Cert.FfnIdeal.main_arg4) = m ((c.tc : Thread Cert.ExpertsIdeal.nD Cert.ExpertsIdeal.τ).loc Cert.ExpertsIdeal.main_arg4)
      ∧ m' ((c.tc : Thread Cert.FfnIdeal.nD Cert.FfnIdeal.τ).loc Cert.FfnIdeal.main_arg5) = m ((c.tc : Thread Cert.ExpertsIdeal.nD Cert.ExpertsIdeal.τ).loc Cert.ExpertsIdeal.main_arg5)
      ∧ m' ((c.tc : Thread Cert.FfnIdeal.nD Cert.FfnIdeal.τ).loc Cert.FfnIdeal.main_arg6) = m ((c.tc : Thread Cert.ExpertsIdeal.nD Cert.ExpertsIdeal.τ).loc Cert.ExpertsIdeal.main_arg6)
      ∧ m' ((c.tc : Thread Cert.FfnIdeal.nD Cert.FfnIdeal.τ).loc Cert.FfnIdeal.main_arg7) = m ((c.tc : Thread Cert.ExpertsIdeal.nD Cert.ExpertsIdeal.τ).loc Cert.ExpertsIdeal.main_arg7)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ θ_run (Cert.FfnIdeal.defs (F := Ideal)) (onTc (τ := Cert.FfnIdeal.τ) (Cert.FfnIdeal.main (F := Ideal))) ⟨m', fun _ => 0, g'⟩ (fun r => ∀ c : Dev Cert.FfnIdeal.nD,
          r.2.mem ((c.tc : Thread Cert.FfnIdeal.nD Cert.FfnIdeal.τ).loc Cert.FfnIdeal.main_v60) = v0 c
          ∧ r.2.mem ((c.tc : Thread Cert.FfnIdeal.nD Cert.FfnIdeal.τ).loc Cert.FfnIdeal.main_arg0) = m' ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m' ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m' ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m' ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m' ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m' ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m' ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m' ((c.tc : Thread Cert.FfnIdeal.nD Cert.FfnIdeal.τ).loc Cert.FfnIdeal.main_arg7))

def Claim : Prop :=
  ∃ (hKernel : Cert.Kernel.Facts) (hKernelIdeal : Cert.KernelIdeal.Facts) (hReferenceIdeal : Cert.ReferenceIdeal.Facts) (hExchange : Cert.Exchange.Facts) (hExchangeIdeal : Cert.ExchangeIdeal.Facts) (hGatesIdeal : Cert.GatesIdeal.Facts) (hExperts : Cert.Experts.Facts) (hExpertsIdeal : Cert.ExpertsIdeal.Facts) (hFfnIdeal : Cert.FfnIdeal.Facts) (hPre_finite_inputs_ExchangeIdeal : Cert.Pre_finite_inputs_ExchangeIdeal.Facts) (hPre_finite_inputs_GatesIdeal : Cert.Pre_finite_inputs_GatesIdeal.Facts) (hPre_half_named : Cert.Pre_half_named.Facts) (hPre_slots_apart : Cert.Pre_slots_apart.Facts),
    quiescent_Kernel (hKernel := hKernel)
    ∧ quiescent_KernelIdeal (hKernelIdeal := hKernelIdeal)
    ∧ quiescent_ReferenceIdeal (hReferenceIdeal := hReferenceIdeal)
    ∧ quiescent_Exchange (hExchange := hExchange)
    ∧ quiescent_ExchangeIdeal (hExchangeIdeal := hExchangeIdeal)
    ∧ quiescent_ExchangeIdeal_pre_finite_inputs_ExchangeIdeal (hExchangeIdeal := hExchangeIdeal) (hPre_finite_inputs_ExchangeIdeal := hPre_finite_inputs_ExchangeIdeal)
    ∧ quiescent_GatesIdeal (hGatesIdeal := hGatesIdeal)
    ∧ quiescent_GatesIdeal_pre_finite_inputs_GatesIdeal (hGatesIdeal := hGatesIdeal) (hPre_finite_inputs_GatesIdeal := hPre_finite_inputs_GatesIdeal)
    ∧ quiescent_Experts (hExperts := hExperts) (hPre_half_named := hPre_half_named)
    ∧ quiescent_ExpertsIdeal (hExpertsIdeal := hExpertsIdeal) (hPre_half_named := hPre_half_named)
    ∧ quiescent_ExpertsIdeal_pre_slots_apart (hExpertsIdeal := hExpertsIdeal) (hPre_slots_apart := hPre_slots_apart)
    ∧ quiescent_FfnIdeal (hFfnIdeal := hFfnIdeal)
    ∧ quiescent_FfnIdeal_pre_slots_apart (hFfnIdeal := hFfnIdeal) (hPre_slots_apart := hPre_slots_apart)
    ∧ preserves_Kernel_KernelIdeal
    ∧ algebraic_KernelIdeal_ReferenceIdeal (hKernelIdeal := hKernelIdeal) (hReferenceIdeal := hReferenceIdeal)
    ∧ preserves_Exchange_ExchangeIdeal
    ∧ algebraic_ExchangeIdeal_GatesIdeal_pre_finite_inputs_ExchangeIdeal (hExchangeIdeal := hExchangeIdeal) (hGatesIdeal := hGatesIdeal) (hPre_finite_inputs_ExchangeIdeal := hPre_finite_inputs_ExchangeIdeal)
    ∧ preserves_Experts_ExpertsIdeal
    ∧ algebraic_ExpertsIdeal_FfnIdeal_pre_slots_apart (hExpertsIdeal := hExpertsIdeal) (hFfnIdeal := hFfnIdeal) (hPre_slots_apart := hPre_slots_apart)
-- ==== Pre_finite_inputs_ExchangeIdeal.lean ====
abbrev S1024x1024 : Shape := ⟨2, ![1024, 1024]⟩
abbrev S1024x8 : Shape := ⟨2, ![1024, 8]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S1024x1024 .f32) (main_arg1 : FVec F S1024x8 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Pre_finite_inputs_GatesIdeal.lean ====
abbrev S2048x1024 : Shape := ⟨2, ![2048, 1024]⟩
abbrev S1024x16 : Shape := ⟨2, ![1024, 16]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x16 : S_.BroadcastsInDim S1024x16 (![] : Fin 0 → Fin S1024x16.rank)
  reducesTo_S1024x16_S_d0_1 : S1024x16.ReducesTo [0, 1] S_

variable [Facts]

def fn {F : FTy → Type} [FloatOps F] (main_arg0 : FVec F S2048x1024 .f32) (main_arg1 : FVec F S1024x16 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x16 .f32 := Host.absf main_arg1
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  main_v8
-- ==== Pre_half_named.lean ====
abbrev S1 : Shape := ⟨1, ![1]⟩
abbrev S2048x1024 : Shape := ⟨2, ![2048, 1024]⟩
abbrev S2048 : Shape := ⟨1, ![2048]⟩
abbrev S8x1024x4096 : Shape := ⟨3, ![8, 1024, 4096]⟩
abbrev S8x4096x1024 : Shape := ⟨3, ![8, 4096, 1024]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : IVec S1 32) (main_arg1 : FVec F S2048x1024 .bf16) (main_arg2 : IVec S2048 32) (main_arg3 : IVec S2048 32) (main_arg4 : FVec F S2048 .f32) (main_arg5 : FVec F S2048 .f32) (main_arg6 : FVec F S8x1024x4096 .f32) (main_arg7 : FVec F S8x4096x1024 .f32) : IVec S_ 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 2#32
  let main_v2 : IVec S1 32 := broadcastInDim S1 ![] bcast_S_S1 main_c_0
  let main_v3 : IVec S1 1 := cmpi .slt main_arg0 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  main_v5
-- ==== Pre_slots_apart.lean ====
abbrev S1 : Shape := ⟨1, ![1]⟩
abbrev S2048x1024 : Shape := ⟨2, ![2048, 1024]⟩
abbrev S2048 : Shape := ⟨1, ![2048]⟩
abbrev S8x1024x4096 : Shape := ⟨3, ![8, 1024, 4096]⟩
abbrev S8x4096x1024 : Shape := ⟨3, ![8, 4096, 1024]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩

class Facts : Prop where
  concatenates_S2048_S2048_S4096_d0 : Shape.Concatenates [S2048, S2048] S4096 0
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096 : S_.BroadcastsInDim S4096 (![] : Fin 0 → Fin S4096.rank)
  bcast_S_S1 : S_.BroadcastsInDim S1 (![] : Fin 0 → Fin S1.rank)
  reducesTo_S1_S_d0 : S1.ReducesTo [0] S_
  h_S_ : 0 < S_.numel
  reducesTo_S4096x4096_S_d0_1 : S4096x4096.ReducesTo [0, 1] S_

variable [Facts]

def fn_part1 {F : FTy → Type} [FloatOps F] (main_arg0 : IVec S1 32) (main_v12 : IVec S4096x4096 1) (main_v17 : IVec S4096 1) (main_v19 : IVec S1 1) (main_c_2 : IVec S_ 32) : IVec S_ 1 :=
  let main_v20 : IVec S1 32 := broadcastInDim S1 ![] bcast_S_S1 main_c_2
  let main_v21 : IVec S1 1 := cmpi .slt main_arg0 main_v20
  let main_v22 : IVec S1 1 := andi main_v19 main_v21
  let main_c_3 : IVec S_ 1 := constantI S_ 1 1#1
  let main_v23 : IVec S_ 1 := (fun x v => Host.reduce IntOp.andi x v reducesTo_S1_S_d0 h_S_) main_v22 main_c_3
  let main_v24 : IVec S4096x1 1 := broadcastInDim S4096x1 ![0] bcast_S4096_S4096x1_0 main_v17
  let main_v25 : IVec S4096x1 1 := noti main_v24
  let main_v26 : IVec S4096x4096 1 := broadcastInDim S4096x4096 ![0, 1] bcast_S4096x1_S4096x4096_0_1 main_v25
  let main_v27 : IVec S4096x4096 1 := ori main_v12 main_v26
  let main_c_4 : IVec S_ 1 := constantI S_ 1 1#1
  let main_v28 : IVec S_ 1 := (fun x v => Host.reduce IntOp.andi x v reducesTo_S4096x4096_S_d0_1 h_S_) main_v27 main_c_4
  let main_v29 : IVec S_ 1 := andi main_v23 main_v28
  main_v29

def fn {F : FTy → Type} [FloatOps F] (main_arg0 : IVec S1 32) (main_arg1 : FVec F S2048x1024 .bf16) (main_arg2 : IVec S2048 32) (main_arg3 : IVec S2048 32) (main_arg4 : FVec F S2048 .f32) (main_arg5 : FVec F S2048 .f32) (main_arg6 : FVec F S8x1024x4096 .f32) (main_arg7 : FVec F S8x4096x1024 .f32) : IVec S_ 1 :=
  let main_v0 : IVec S4096 32 := (fun a b => concatenate S4096 0 [⟨S2048, a⟩, ⟨S2048, b⟩] concatenates_S2048_S2048_S4096_d0) main_arg2 main_arg3
  let main_v1 : IVec S4096 32 := iotaInDim S4096 32 0
  let main_v2 : IVec S4096x1 32 := broadcastInDim S4096x1 ![0] bcast_S4096_S4096x1_0 main_v0
  let main_v3 : IVec S1x4096 32 := broadcastInDim S1x4096 ![1] bcast_S4096_S1x4096_1 main_v0
  let main_v4 : IVec S4096x4096 32 := broadcastInDim S4096x4096 ![0, 1] bcast_S4096x1_S4096x4096_0_1 main_v2
  let main_v5 : IVec S4096x4096 32 := broadcastInDim S4096x4096 ![0, 1] bcast_S1x4096_S4096x4096_0_1 main_v3
  let main_v6 : IVec S4096x4096 1 := cmpi .ne main_v4 main_v5
  let main_v7 : IVec S4096x1 32 := broadcastInDim S4096x1 ![0] bcast_S4096_S4096x1_0 main_v1
  let main_v8 : IVec S1x4096 32 := broadcastInDim S1x4096 ![1] bcast_S4096_S1x4096_1 main_v1
  let main_v9 : IVec S4096x4096 32 := broadcastInDim S4096x4096 ![0, 1] bcast_S4096x1_S4096x4096_0_1 main_v7
  let main_v10 : IVec S4096x4096 32 := broadcastInDim S4096x4096 ![0, 1] bcast_S1x4096_S4096x4096_0_1 main_v8
  let main_v11 : IVec S4096x4096 1 := cmpi .eq main_v9 main_v10
  let main_v12 : IVec S4096x4096 1 := ori main_v6 main_v11
  let main_c : IVec S_ 32 := constantI S_ 32 0#32
  let main_v13 : IVec S4096 32 := broadcastInDim S4096 ![] bcast_S_S4096 main_c
  let main_v14 : IVec S4096 1 := cmpi .sge main_v0 main_v13
  let main_c_0 : IVec S_ 32 := constantI S_ 32 2560#32
  let main_v15 : IVec S4096 32 := broadcastInDim S4096 ![] bcast_S_S4096 main_c_0
  let main_v16 : IVec S4096 1 := cmpi .slt main_v0 main_v15
  let main_v17 : IVec S4096 1 := andi main_v14 main_v16
  let main_c_1 : IVec S_ 32 := constantI S_ 32 0#32
  let main_v18 : IVec S1 32 := broadcastInDim S1 ![] bcast_S_S1 main_c_1
  let main_v19 : IVec S1 1 := cmpi .sge main_arg0 main_v18
  let main_c_2 : IVec S_ 32 := constantI S_ 32 2#32
  fn_part1 (F := F) main_arg0 main_v12 main_v17 main_v19 main_c_2
-- ==== Kernel.lean ====
abbrev S2048x1024 : Shape := ⟨2, ![2048, 1024]⟩
abbrev S1024x1024 : Shape := ⟨2, ![1024, 1024]⟩
abbrev S8x128x1024 : Shape := ⟨3, ![8, 128, 1024]⟩
abbrev S8 : Shape := ⟨1, ![8]⟩
abbrev S_ : Shape := ⟨0, ![]⟩
abbrev S1 : Shape := ⟨1, ![1]⟩
abbrev S1x128x1024 : Shape := ⟨3, ![1, 128, 1024]⟩
abbrev S128x1024 : Shape := ⟨2, ![128, 1024]⟩

abbrev nBuf : Space → Nat
  | .hbm => 2
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .local _ .vmem, ⟨0, _⟩ => ⟨S2048x1024, .bf16⟩
  | .local _ .vmem, ⟨1, _⟩ => ⟨S1024x1024, .f32⟩
  | .local _ .vmem, ⟨2, _⟩ => ⟨S8x128x1024, .bf16⟩
  | .local _ .vmem, ⟨3, _⟩ => ⟨S8x128x1024, .bf16⟩
  | .local _ .vmem, ⟨4, _⟩ => ⟨S8x128x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(2, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier2 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) (c0_i32_13 : BitVec 32) : Fin 2 → Nat :=
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v17 : BitVec 32 := Scalar.subi c1_i32_12 v2
  let c1024_i32 : BitVec 32 := 1024#32
  let v18 : BitVec 32 := Scalar.muli v17 c1024_i32
  let v19 : BitVec 32 := Scalar.addi v18 c0_i32_13
  let c0_i32_22 : BitVec 32 := 0#32
  ![v19.toNat, 0]
def k0_dev3 (d0 : Dev nD) : Nat :=
  let c0_i32_18 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_17 : BitVec 32 := 2#32
  let v20 : BitVec 32 := Scalar.muli v6 c2_i32_17
  let v21 : BitVec 32 := Scalar.addi c0_i32_18 v20
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_19 : BitVec 32 := 1#32
  let v22 : BitVec 32 := Scalar.muli v5 c1_i32_19
  let v23 : BitVec 32 := Scalar.addi v21 v22
  v23.toNat
def k0_dev4 (d0 : Dev nD) : Nat :=
  let c0_i32_28 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_27 : BitVec 32 := 2#32
  let v33 : BitVec 32 := Scalar.muli v6 c2_i32_27
  let v34 : BitVec 32 := Scalar.addi c0_i32_28 v33
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_29 : BitVec 32 := 1#32
  let v35 : BitVec 32 := Scalar.muli v5 c1_i32_29
  let v36 : BitVec 32 := Scalar.addi v34 v35
  v36.toNat
def k0_dev5 (d0 : Dev nD) : Nat :=
  let c0_i32_38 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_37 : BitVec 32 := 2#32
  let v46 : BitVec 32 := Scalar.muli v6 c2_i32_37
  let v47 : BitVec 32 := Scalar.addi c0_i32_38 v46
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_39 : BitVec 32 := 1#32
  let v48 : BitVec 32 := Scalar.muli v5 c1_i32_39
  let v49 : BitVec 32 := Scalar.addi v47 v48
  v49.toNat
def k0_dev6 (d0 : Dev nD) : Nat :=
  let c0_i32_47 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_46 : BitVec 32 := 2#32
  let v59 : BitVec 32 := Scalar.muli v6 c2_i32_46
  let v60 : BitVec 32 := Scalar.addi c0_i32_47 v59
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_48 : BitVec 32 := 1#32
  let v61 : BitVec 32 := Scalar.muli v5 c1_i32_48
  let v62 : BitVec 32 := Scalar.addi v60 v61
  v62.toNat
def k0_dev7 (d0 : Dev nD) : Nat :=
  let c0_i32_56 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_55 : BitVec 32 := 2#32
  let v72 : BitVec 32 := Scalar.muli v6 c2_i32_55
  let v73 : BitVec 32 := Scalar.addi c0_i32_56 v72
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_57 : BitVec 32 := 1#32
  let v74 : BitVec 32 := Scalar.muli v5 c1_i32_57
  let v75 : BitVec 32 := Scalar.addi v73 v74
  v75.toNat
def k0_dev8 (d0 : Dev nD) : Nat :=
  let c0_i32_65 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_64 : BitVec 32 := 2#32
  let v85 : BitVec 32 := Scalar.muli v6 c2_i32_64
  let v86 : BitVec 32 := Scalar.addi c0_i32_65 v85
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_66 : BitVec 32 := 1#32
  let v87 : BitVec 32 := Scalar.muli v5 c1_i32_66
  let v88 : BitVec 32 := Scalar.addi v86 v87
  v88.toNat
def k0_dev9 (d0 : Dev nD) : Nat :=
  let c0_i32_74 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_73 : BitVec 32 := 2#32
  let v98 : BitVec 32 := Scalar.muli v6 c2_i32_73
  let v99 : BitVec 32 := Scalar.addi c0_i32_74 v98
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_75 : BitVec 32 := 1#32
  let v100 : BitVec 32 := Scalar.muli v5 c1_i32_75
  let v101 : BitVec 32 := Scalar.addi v99 v100
  v101.toNat
def k0_dev10 (d0 : Dev nD) : Nat :=
  let c0_i32_83 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_82 : BitVec 32 := 2#32
  let v111 : BitVec 32 := Scalar.muli v6 c2_i32_82
  let v112 : BitVec 32 := Scalar.addi c0_i32_83 v111
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_84 : BitVec 32 := 1#32
  let v113 : BitVec 32 := Scalar.muli v5 c1_i32_84
  let v114 : BitVec 32 := Scalar.addi v112 v113
  v114.toNat
def k0_off2 (d0 : Dev nD) (c0_i32_98 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_97 : BitVec 32 := 1024#32
  let v131 : BitVec 32 := Scalar.muli v2 c1024_i32_97
  let v132 : BitVec 32 := Scalar.addi v131 c0_i32_98
  let v133 : Index := Scalar.indexCast v132
  let c0 : Index := 0#32
  ![v133.toNat, 0]
def k0_dev11 (d0 : Dev nD) : Nat :=
  let c0_i32_110 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_109 : BitVec 32 := 2#32
  let v145 : BitVec 32 := Scalar.muli v2 c2_i32_109
  let v146 : BitVec 32 := Scalar.addi c0_i32_110 v145
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_111 : BitVec 32 := 1#32
  let v147 : BitVec 32 := Scalar.muli v7 c1_i32_111
  let v148 : BitVec 32 := Scalar.addi v146 v147
  v148.toNat
def k0_dev12 (d0 : Dev nD) : Nat :=
  let c0_i32_138 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_137 : BitVec 32 := 2#32
  let v180 : BitVec 32 := Scalar.muli v2 c2_i32_137
  let v181 : BitVec 32 := Scalar.addi c0_i32_138 v180
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_139 : BitVec 32 := 1#32
  let v182 : BitVec 32 := Scalar.muli v7 c1_i32_139
  let v183 : BitVec 32 := Scalar.addi v181 v182
  v183.toNat
def k0_dev13 (d0 : Dev nD) : Nat :=
  let c0_i32_166 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_165 : BitVec 32 := 2#32
  let v215 : BitVec 32 := Scalar.muli v2 c2_i32_165
  let v216 : BitVec 32 := Scalar.addi c0_i32_166 v215
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_167 : BitVec 32 := 1#32
  let v217 : BitVec 32 := Scalar.muli v7 c1_i32_167
  let v218 : BitVec 32 := Scalar.addi v216 v217
  v218.toNat
def k0_dev14 (d0 : Dev nD) : Nat :=
  let c0_i32_194 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_193 : BitVec 32 := 2#32
  let v250 : BitVec 32 := Scalar.muli v2 c2_i32_193
  let v251 : BitVec 32 := Scalar.addi c0_i32_194 v250
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_195 : BitVec 32 := 1#32
  let v252 : BitVec 32 := Scalar.muli v7 c1_i32_195
  let v253 : BitVec 32 := Scalar.addi v251 v252
  v253.toNat
def k0_dev15 (d0 : Dev nD) : Nat :=
  let c0_i32_222 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_221 : BitVec 32 := 2#32
  let v285 : BitVec 32 := Scalar.muli v2 c2_i32_221
  let v286 : BitVec 32 := Scalar.addi c0_i32_222 v285
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_223 : BitVec 32 := 1#32
  let v287 : BitVec 32 := Scalar.muli v7 c1_i32_223
  let v288 : BitVec 32 := Scalar.addi v286 v287
  v288.toNat
def k0_dev16 (d0 : Dev nD) : Nat :=
  let c0_i32_250 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_249 : BitVec 32 := 2#32
  let v320 : BitVec 32 := Scalar.muli v2 c2_i32_249
  let v321 : BitVec 32 := Scalar.addi c0_i32_250 v320
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_251 : BitVec 32 := 1#32
  let v322 : BitVec 32 := Scalar.muli v7 c1_i32_251
  let v323 : BitVec 32 := Scalar.addi v321 v322
  v323.toNat
def k0_dev17 (d0 : Dev nD) : Nat :=
  let c0_i32_278 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_277 : BitVec 32 := 2#32
  let v355 : BitVec 32 := Scalar.muli v2 c2_i32_277
  let v356 : BitVec 32 := Scalar.addi c0_i32_278 v355
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_279 : BitVec 32 := 1#32
  let v357 : BitVec 32 := Scalar.muli v7 c1_i32_279
  let v358 : BitVec 32 := Scalar.addi v356 v357
  v358.toNat
def k0_dev18 (d0 : Dev nD) : Nat :=
  let c0_i32_306 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_305 : BitVec 32 := 2#32
  let v390 : BitVec 32 := Scalar.muli v2 c2_i32_305
  let v391 : BitVec 32 := Scalar.addi c0_i32_306 v390
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_307 : BitVec 32 := 1#32
  let v392 : BitVec 32 := Scalar.muli v7 c1_i32_307
  let v393 : BitVec 32 := Scalar.addi v391 v392
  v393.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x2048 : Shape := ⟨2, ![4096, 2048]⟩
abbrev S2x2048x2x1024 : Shape := ⟨4, ![2, 2048, 2, 1024]⟩
abbrev S_ : Shape := ⟨0, ![]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2x2048x2x1024, .f32⟩
  | .hbm, ⟨3, _⟩ => ⟨S_, .f32⟩
  | .hbm, ⟨4, _⟩ => ⟨S2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Exchange.lean ====
abbrev S1024x1024 : Shape := ⟨2, ![1024, 1024]⟩
abbrev S1024x8 : Shape := ⟨2, ![1024, 8]⟩
abbrev S2048x1024 : Shape := ⟨2, ![2048, 1024]⟩
abbrev S2048x16 : Shape := ⟨2, ![2048, 16]⟩
abbrev S1024x16 : Shape := ⟨2, ![1024, 16]⟩
abbrev S6 : Shape := ⟨1, ![6]⟩
abbrev S_ : Shape := ⟨0, ![]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S1024x1024, .f32⟩
  | .hbm, ⟨1, _⟩ => ⟨S1024x8, .f32⟩
  | .hbm, ⟨2, _⟩ => ⟨S2048x1024, .bf16⟩
  | .hbm, ⟨3, _⟩ => ⟨S2048x16, .f32⟩
  | .local _ .vmem, ⟨0, _⟩ => ⟨S1024x1024, .f32⟩
  | .local _ .vmem, ⟨1, _⟩ => ⟨S1024x8, .f32⟩
  | .local _ .vmem, ⟨2, _⟩ => ⟨S2048x1024, .bf16⟩
  | .local _ .vmem, ⟨3, _⟩ => ⟨S2048x16, .f32⟩
  | .local _ .vmem, ⟨4, _⟩ => ⟨S1024x1024, .bf16⟩
  | .local _ .vmem, ⟨5, _⟩ => ⟨S1024x8, .f32⟩
  | .local _ .vmem, ⟨6, _⟩ => ⟨S1024x16, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_off1 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v18 : BitVec 32 := Scalar.muli v2 c1024_i32
  let c0_i32_15 : BitVec 32 := 0#32
  ![v18.toNat, 0]
def k0_dev2 (d0 : Dev nD) : Nat :=
  let c0_i32_13 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_12 : BitVec 32 := 2#32
  let v19 : BitVec 32 := Scalar.muli v6 c2_i32_12
  let v20 : BitVec 32 := Scalar.addi c0_i32_13 v19
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_14 : BitVec 32 := 1#32
  let v21 : BitVec 32 := Scalar.muli v5 c1_i32_14
  let v22 : BitVec 32 := Scalar.addi v20 v21
  v22.toNat
def k0_dev3 (d0 : Dev nD) : Nat :=
  let c0_i32_18 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_17 : BitVec 32 := 2#32
  let v28 : BitVec 32 := Scalar.muli v6 c2_i32_17
  let v29 : BitVec 32 := Scalar.addi c0_i32_18 v28
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_19 : BitVec 32 := 1#32
  let v30 : BitVec 32 := Scalar.muli v5 c1_i32_19
  let v31 : BitVec 32 := Scalar.addi v29 v30
  v31.toNat
def k0_off2 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_22 : BitVec 32 := 1024#32
  let v37 : BitVec 32 := Scalar.muli v2 c1024_i32_22
  let v38 : Index := Scalar.indexCast v37
  let c0_23 : Index := 0#32
  ![v38.toNat, 0]
def k0_off3 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_48 : BitVec 32 := 1024#32
  let v77 : BitVec 32 := Scalar.muli v2 c1024_i32_48
  let c0_i32_52 : BitVec 32 := 0#32
  ![v77.toNat, 0]
def k0_dev4 (d0 : Dev nD) : Nat :=
  let c0_i32_50 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_49 : BitVec 32 := 2#32
  let v78 : BitVec 32 := Scalar.muli v6 c2_i32_49
  let v79 : BitVec 32 := Scalar.addi c0_i32_50 v78
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_51 : BitVec 32 := 1#32
  let v80 : BitVec 32 := Scalar.muli v5 c1_i32_51
  let v81 : BitVec 32 := Scalar.addi v79 v80
  v81.toNat
def k0_off4 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_55 : BitVec 32 := 1024#32
  let v88 : BitVec 32 := Scalar.muli v2 c1024_i32_55
  let v89 : Index := Scalar.indexCast v88
  let c0_56 : Index := 0#32
  ![v89.toNat, 0]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== GatesIdeal.lean ====
abbrev S2048x1024 : Shape := ⟨2, ![2048, 1024]⟩
abbrev S1024x16 : Shape := ⟨2, ![1024, 16]⟩
abbrev S2048x16 : Shape := ⟨2, ![2048, 16]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x16, .f32⟩
  | .hbm, ⟨2, _⟩ => ⟨S2048x1024, .bf16⟩
  | .hbm, ⟨3, _⟩ => ⟨S2048x16, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Experts.lean ====
abbrev S1 : Shape := ⟨1, ![1]⟩
abbrev S2048x1024 : Shape := ⟨2, ![2048, 1024]⟩
abbrev S2048 : Shape := ⟨1, ![2048]⟩
abbrev S8x1024x4096 : Shape := ⟨3, ![8, 1024, 4096]⟩
abbrev S8x4096x1024 : Shape := ⟨3, ![8, 4096, 1024]⟩
abbrev S1x1024x2048 : Shape := ⟨3, ![1, 1024, 2048]⟩
abbrev S1x2048x1024 : Shape := ⟨3, ![1, 2048, 1024]⟩
abbrev S320x1024 : Shape := ⟨2, ![320, 1024]⟩
abbrev S2048x320 : Shape := ⟨2, ![2048, 320]⟩
abbrev S320x2048 : Shape := ⟨2, ![320, 2048]⟩
abbrev S1x2048 : Shape := ⟨2, ![1, 2048]⟩
abbrev S2048x1 : Shape := ⟨2, ![2048, 1]⟩
abbrev S1024x2048 : Shape := ⟨2, ![1024, 2048]⟩

abbrev nBuf : Space → Nat
  | .hbm => 8
  | .vmem => 14
  | .smem => 1
  | _ => 0

abbrev bufTy : (tb : Table) → Fin (tcTables nBuf tb) → BufTy
  | .hbm, ⟨0, _⟩ => ⟨S2048x1024, .bf16⟩
  | .hbm, ⟨1, _⟩ => ⟨S2048, .i32⟩
  | .hbm, ⟨2, _⟩ => ⟨S2048, .i32⟩
  | .hbm, ⟨3, _⟩ => ⟨S2048, .f32⟩
  | .hbm, ⟨4, _⟩ => ⟨S2048, .f32⟩
  | .hbm, ⟨5, _⟩ => ⟨S8x1024x4096, .f32⟩
  | .hbm, ⟨6, _⟩ => ⟨S8x4096x1024, .f32⟩
  | .hbm, ⟨7, _⟩ => ⟨S2048x1024, .bf16⟩
  | .local _ .vmem, ⟨0, _⟩ => ⟨S2048, .i32⟩
  | .local _ .vmem, ⟨1, _⟩ => ⟨S2048, .i32⟩
  | .local _ .vmem, ⟨2, _⟩ => ⟨S2048, .f32⟩
  | .local _ .vmem, ⟨3, _⟩ => ⟨S2048, .f32⟩
  | .local _ .vmem, ⟨4, _⟩ => ⟨S2048x1024, .bf16⟩
  | .local _ .vmem, ⟨5, _⟩ => ⟨S1x1024x2048, .f32⟩
  | .local _ .vmem, ⟨6, _⟩ => ⟨S1x1024x2048, .f32⟩
  | .local _ .vmem, ⟨7, _⟩ => ⟨S1x2048x1024, .f32⟩
  | .local _ .vmem, ⟨8, _⟩ => ⟨S1x2048x1024, .f32⟩
  | .local _ .vmem, ⟨9, _⟩ => ⟨S2048x1024, .bf16⟩
  | .local _ .vmem, ⟨10, _⟩ => ⟨S320x1024, .bf16⟩
  | .local _ .vmem, ⟨11, _⟩ => ⟨S2048x320, .bf16⟩
  | .local _ .vmem, ⟨12, _⟩ => ⟨S320x1024, .f32⟩
  | .local _ .vmem, ⟨13, _⟩ => ⟨S2048x1024, .f32⟩
  | .local _ .smem, ⟨0, _⟩ => ⟨S1, .i32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9

abbrev nD : Nat := 1
abbrev τ : Topo := Topo.v7x

variable {F : FTy → Type} [FloatOps F]

abbrev grid0 : Pipeline.Grid := ⟨2, ![8, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond6 (i : grid0.Coords) : BitVec 1 :=
  let arg0 : BitVec 32 := BitVec.ofNat 32 (i 0).val
  let c7_i32 : BitVec 32 := 7#32
  let v29 : BitVec 1 := Scalar.cmpi .eq arg0 c7_i32
  let arg1 : BitVec 32 := BitVec.ofNat 32 (i 1).val
  let c0_i32_19 : BitVec 32 := 0#32
  let v30 : BitVec 1 := Scalar.cmpi .eq arg1 c0_i32_19
  let v31 : BitVec 1 := Scalar.andi v29 v30
  let v32 : BitVec 32 := Scalar.extui v31
  let c0_i32_20 : BitVec 32 := 0#32
  let v33 : BitVec 1 := Scalar.cmpi .ne v32 c0_i32_20
  v33

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.addi v0 arg1
  let c0_i32 : BitVec 32 := 0#32
  let c0_i32_0 : BitVec 32 := 0#32
  ![arg0.toNat, c0_i32.toNat, v1.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.addi v0 arg1
  let c0_i32 : BitVec 32 := 0#32
  let c0_i32_0 : BitVec 32 := 0#32
  ![arg0.toNat, v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== FfnIdeal.lean ====
abbrev S1 : Shape := ⟨1, ![1]⟩
abbrev S2048x1024 : Shape := ⟨2, ![2048, 1024]⟩
abbrev S2048 : Shape := ⟨1, ![2048]⟩
abbrev S8x1024x4096 : Shape := ⟨3, ![8, 1024, 4096]⟩
abbrev S8x4096x1024 : Shape := ⟨3, ![8, 4096, 1024]⟩
abbrev S_ : Shape := ⟨0, ![]⟩
abbrev S8x1024x2048 : Shape := ⟨3, ![8, 1024, 2048]⟩
abbrev S8x2048x1024 : Shape := ⟨3, ![8, 2048, 1024]⟩
abbrev S2048x8x2048 : Shape := ⟨3, ![2048, 8, 2048]⟩
abbrev S8 : Shape := ⟨1, ![8]⟩
abbrev S8x1 : Shape := ⟨2, ![8, 1]⟩
abbrev S1x2048 : Shape := ⟨2, ![1, 2048]⟩
abbrev S8x2048 : Shape := ⟨2, ![8, 2048]⟩
abbrev S8x2048x1 : Shape := ⟨3, ![8, 2048, 1]⟩

abbrev nBuf : Space → Nat
  | .hbm => 89
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x1024, .bf16⟩
  | .hbm, ⟨2, _⟩ => ⟨S2048, .i32⟩
  | .hbm, ⟨3, _⟩ => ⟨S2048, .i32⟩
  | .hbm, ⟨4, _⟩ => ⟨S2048, .f32⟩
  | .hbm, ⟨5, _⟩ => ⟨S2048, .f32⟩
  | .hbm, ⟨6, _⟩ => ⟨S8x1024x4096, .f32⟩
  | .hbm, ⟨7, _⟩ => ⟨S8x4096x1024, .f32⟩
  | .hbm, ⟨8, _⟩ => ⟨S2048x1024, .f32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S8x1024x2048, .f32⟩
  | .hbm, ⟨13, _⟩ => ⟨S8x1024x2048, .f32⟩
  | .hbm, ⟨14, _⟩ => ⟨S8x1024x2048, .f32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S2048x8x2048, .f32⟩
  | .hbm, ⟨22, _⟩ => ⟨S_, .f32⟩
  | .hbm, ⟨23, _⟩ => ⟨S2048x8x2048, .f32⟩
  | .hbm, ⟨24, _⟩ => ⟨S2048x8x2048, .f32⟩
  | .hbm, ⟨25, _⟩ => ⟨S8x2048x1024, .f32⟩
  | .hbm, ⟨26, _⟩ => ⟨S8, .i32⟩
  | .hbm, ⟨27, _⟩ => ⟨S8x1, .i32⟩
  | .hbm, ⟨28, _⟩ => ⟨S_, .f32⟩
  | .hbm, ⟨29, _⟩ => ⟨S2048x1024, .f32⟩
  | .hbm, ⟨30, _⟩ => ⟨S_, .i32⟩
  | .hbm, ⟨31, _⟩ => ⟨S8x1, .i32⟩
  | .hbm, ⟨32, _⟩ => ⟨S8x1, .i32⟩
  | .hbm, ⟨33, _⟩ => ⟨S1x2048, .i32⟩
  | .hbm, ⟨34, _⟩ => ⟨S8x2048, .i32⟩
  | .hbm, ⟨35, _⟩ => ⟨S8x2048, .i32⟩
  | .hbm, ⟨36, _⟩ => ⟨S8x2048, .i1⟩
  | .hbm, ⟨37, _⟩ => ⟨S_, .i32⟩
  | .hbm, ⟨38, _⟩ => ⟨S8x1, .i32⟩
  | .hbm, ⟨39, _⟩ => ⟨S8x1, .i32⟩
  | .hbm, ⟨40, _⟩ => ⟨S_, .i32⟩
  | .hbm, ⟨41, _⟩ => ⟨S8x1, .i32⟩
  | .hbm, ⟨42, _⟩ => ⟨S8x1, .i32⟩
  | .hbm, ⟨43, _⟩ => ⟨S1x2048, .i32⟩
  | .hbm, ⟨44, _⟩ => ⟨S8x2048, .i32⟩
  | .hbm, ⟨45, _⟩ => ⟨S8x2048, .i32⟩
  | .hbm, ⟨46, _⟩ => ⟨S8x2048, .i1⟩
  | .hbm, ⟨47, _⟩ => ⟨S8x2048, .i1⟩
  | .hbm, ⟨48, _⟩ => ⟨S_, .f32⟩
  | .hbm, ⟨49, _⟩ => ⟨S_, .f32⟩
  | .hbm, ⟨50, _⟩ => ⟨S8x2048, .f32⟩
  | .hbm, ⟨51, _⟩ => ⟨S8x2048, .f32⟩
  | .hbm, ⟨52, _⟩ => ⟨S8x2048, .f32⟩
  | .hbm, ⟨53, _⟩ => ⟨S8x2048x1, .f32⟩
  | .hbm, ⟨54, _⟩ => ⟨S8x2048x1024, .f32⟩
  | .hbm, ⟨55, _⟩ => ⟨S8x2048x1024, .f32⟩
  | .hbm, ⟨56, _⟩ => ⟨S_, .f32⟩
  | .hbm, ⟨57, _⟩ => ⟨S2048x1024, .f32⟩
  | .hbm, ⟨58, _⟩ => ⟨S2048x1024, .f32⟩
  | .hbm, ⟨59, _⟩ => ⟨S_, .i32⟩
  | .hbm, ⟨60, _⟩ => ⟨S8x1, .i32⟩
  | .hbm, ⟨61, _⟩ => ⟨S8x1, .i32⟩
  | .hbm, ⟨62, _⟩ => ⟨S1x2048, .i32⟩
  | .hbm, ⟨63, _⟩ => ⟨S8x2048, .i32⟩
  | .hbm, ⟨64, _⟩ => ⟨S8x2048, .i32⟩
  | .hbm, ⟨65, _⟩ => ⟨S8x2048, .i1⟩
  | .hbm, ⟨66, _⟩ => ⟨S_, .i32⟩
  | .hbm, ⟨67, _⟩ => ⟨S8x1, .i32⟩
  | .hbm, ⟨68, _⟩ => ⟨S8x1, .i32⟩
  | .hbm, ⟨69, _⟩ => ⟨S_, .i32⟩
  | .hbm, ⟨70, _⟩ => ⟨S8x1, .i32⟩
  | .hbm, ⟨71, _⟩ => ⟨S8x1, .i32⟩
  | .hbm, ⟨72, _⟩ => ⟨S1x2048, .i32⟩
  | .hbm, ⟨73, _⟩ => ⟨S8x2048, .i32⟩
  | .hbm, ⟨74, _⟩ => ⟨S8x2048, .i32⟩
  | .hbm, ⟨75, _⟩ => ⟨S8x2048, .i1⟩
  | .hbm, ⟨76, _⟩ => ⟨S8x2048, .i1⟩
  | .hbm, ⟨77, _⟩ => ⟨S_, .f32⟩
  | .hbm, ⟨78, _⟩ => ⟨S_, .f32⟩
  | .hbm, ⟨79, _⟩ => ⟨S8x2048, .f32⟩
  | .hbm, ⟨80, _⟩ => ⟨S8x2048, .f32⟩
  | .hbm, ⟨81, _⟩ => ⟨S8x2048, .f32⟩
  | .hbm, ⟨82, _⟩ => ⟨S8x2048x1, .f32⟩
  | .hbm, ⟨83, _⟩ => ⟨S8x2048x1024, .f32⟩
  | .hbm, ⟨84, _⟩ => ⟨S8x2048x1024, .f32⟩
  | .hbm, ⟨85, _⟩ => ⟨S_, .f32⟩
  | .hbm, ⟨86, _⟩ => ⟨S2048x1024, .f32⟩
  | .hbm, ⟨87, _⟩ => ⟨S2048x1024, .f32⟩
  | .hbm, ⟨88, _⟩ => ⟨S2048x1024, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩

abbrev nD : Nat := 1
abbrev τ : Topo := Topo.v7x

variable {F : FTy → Type} [FloatOps F]
-- ==== Proof.Reduce.Prog.lean ====
/-
The body of the reduction, written as four loops over the eight chunks.

The printed body is one straight line in parts.  Here it is stated once per kind of step, at a chunk
`k : Fin 8`, and the two are equal by unfolding.
-/
module

public import proofs.«01_k».proof.Proof.Gen.KernelIdeal.Skeleton

@[expose] public section

set_option maxRecDepth 16384

noncomputable section

namespace Cert.ReduceProof

open Cert.KernelIdeal Cert.KernelIdeal.Gen
open Idealize.ShloMosaic Idealize.ShloMosaic.TcCoe
open Idealize.SL.Sem

variable {F : FTy → Type} [FloatOps F]

/-! ## The buffers and their pieces -/

/-- The staged partial sums, the staged result, and the three eight-slot scratch buffers. -/
abbrev pM : Memref sig .tc .vmem S2048x1024 .bf16 := Memref.whole cc0_stg0_0
abbrev oM : Memref sig .tc .vmem S1024x1024 .f32 := Memref.whole cc0_stg1_0
abbrev rM : Memref sig .tc .vmem S8x128x1024 .bf16 := Memref.whole cc0_scratch0
abbrev uM : Memref sig .tc .vmem S8x128x1024 .bf16 := Memref.whole cc0_scratch1
abbrev vM : Memref sig .tc .vmem S8x128x1024 .bf16 := Memref.whole cc0_scratch2

theorem slot_inb : ∀ (k : Fin 8) (a), (![k.val, 0, 0] : Fin 3 → Nat) a + S1x128x1024.size a ≤ S8x128x1024.size a := by decide +kernel
/-- Slot `k` of an eight-slot buffer, as a rectangle. -/
abbrev slotR (k : Fin 8) : Rect S8x128x1024 := Rect.unit (s := S8x128x1024) ![k.val, 0, 0] S1x128x1024.size (slot_inb k)
theorem slot_words : ∀ k : Fin 8, (slotR k).WholeWords (EltTy.packing .bf16) := by decide +kernel
theorem slot_packed : ∀ k : Fin 8, (slotR k).PackedRows (EltTy.packing .bf16) := by decide +kernel

theorem out_inb : ∀ (k : Fin 8) (a), (![128 * k.val, 0] : Fin 2 → Nat) a + S128x1024.size a ≤ S1024x1024.size a := by decide +kernel
/-- The 128 rows of the result that chunk `k` fills. -/
abbrev outR (k : Fin 8) : Rect S1024x1024 := Rect.unit (s := S1024x1024) ![128 * k.val, 0] S128x1024.size (out_inb k)

/-- The 128 rows of the partial sums that go to the neighbour along x, and the 128 rows kept. -/
abbrev sendR (d : Dev nD) (k : Fin 8) : Rect S2048x1024 :=
  Rect.unit (s := S2048x1024) (k0_off1 d (BitVec.ofNat 32 (128 * k.val))) S128x1024.size (k0_off1_inb d k)
abbrev keepR (d : Dev nD) (k : Fin 8) : Rect S2048x1024 :=
  Rect.unit (s := S2048x1024) (k0_off2 d (BitVec.ofNat 32 (128 * k.val))) S128x1024.size (k0_off2_inb d k)

/-- Slot `k` as the transfers name it: the leading axis of size one dropped. -/
abbrev slotOf (b : Memref sig .tc .vmem S8x128x1024 .bf16) (k : Fin 8) : Memref sig .tc .vmem S128x1024 .bf16 :=
  (b.slice (slotR k) (fun _ => rfl)).squeeze S128x1024 squeezes_S1x128x1024_S128x1024
abbrev sendOf (d : Dev nD) (k : Fin 8) : Memref sig .tc .vmem S128x1024 .bf16 := pM.slice (sendR d k) (fun _ => rfl)

theorem sem_inb : ∀ (k : Fin 8) (a), (![k.val] : Fin 1 → Nat) a + S1.size a ≤ S8.size a := by decide +kernel
/-- Entry `k` of a semaphore array. -/
abbrev semOf (b : DmaSems sig S8) (k : Fin 8) : DmaSem sig :=
  ((b.slice (Rect.unit (s := S8) ![k.val] S1.size (sem_inb k))).squeeze S_ squeezes_S1_S_).sem

/-! ## The steps -/

abbrev P (α : Type) : Type 1 := Prog (TpuEff nD τ sig (Elt F) Λ₀ .tc) α

/-- Both neighbours are told that the device is in the region, and the device waits for both of them. -/
def meet (d : Dev nD) : P (F := F) PUnit := do
  semSignalWord (⟨k0_dev1 d, k0_dev1_lt d⟩ : Dev nD) (SemArray.scalar (sig.barrier 2 rfl) : Sems sig S_).sem 1#32
  semSignalWord (⟨k0_dev2 d, k0_dev2_lt d⟩ : Dev nD) (SemArray.scalar (sig.barrier 2 rfl) : Sems sig S_).sem 1#32
  semWaitWord (SemArray.scalar (sig.barrier 2 rfl) : Sems sig S_).sem 2#32

/-- Chunk `k` of the rows that belong to the other row of the mesh starts on its way along x. -/
def sendX (d : Dev nD) (k : Fin 8) : P (F := F) PUnit :=
  Prog.lift (.enqueueDma (sendOf d k) (.remote (Dev.tc (⟨k0_dev3 d, k0_dev3_lt d⟩ : Dev nD)) (slotOf rM k) (.dma (semOf cc0_scratch3 k)))
    (.dma (semOf cc0_scratch4 k)) ((Memref.isWhole_whole _).wordExact_slice rfl _ (k0_off1_wordsbf16 d k))
    (((Memref.isWhole_whole _).wordExact_slice rfl _ (slot_words k)).reshape _ _) ⟨⟨rfl, Or.inl rfl⟩, trivial⟩)

/-- The wait for chunk `k` from the neighbour along x. -/
def recvX (d : Dev nD) (k : Fin 8) : P (F := F) PUnit :=
  Prog.lift (.waitDma2 (semOf cc0_scratch4 k) (sendOf d k) (slotOf rM k) ((Memref.isWhole_whole _).wordExact_slice rfl _ (k0_off1_wordsbf16 d k))
    (((Memref.isWhole_whole _).wordExact_slice rfl _ (slot_words k)).reshape _ _))

/-- The sum of the kept rows and the arrived rows, stored into the second scratch buffer. -/
def addX (d : Dev nD) (k : Fin 8) : P (F := F) PUnit := do
  let a : Vec F S128x1024 .bf16 ← Prog.lift (.load pM (keepR d k).toLoadRect (View.loadsAt_vmem h_S128x1024))
  let b : Vec F S1x128x1024 .bf16 ← Prog.lift (.load rM (slotR k).toLoadRect (View.loadsAt_vmem h_S1x128x1024))
  let _ : Vec F S1x128x1024 .bf16 ← Prog.lift (.load uM (slotR k).toLoadRect (View.loadsAt_vmem h_S1x128x1024))
  Prog.lift (.store uM (slotR k) (k0_pay1 a b) Finset.univ
    (View.stores_vmem h_S1x128x1024 ((Memref.isWhole_whole _).storeExact_slice rfl _ (slot_packed k)) (fun _ => rfl)) (.inl rfl))

/-- That sum starts on its way along y. -/
def sendY (d : Dev nD) (k : Fin 8) : P (F := F) PUnit :=
  Prog.lift (.enqueueDma (slotOf uM k) (.remote (Dev.tc (⟨k0_dev11 d, k0_dev11_lt d⟩ : Dev nD)) (slotOf vM k) (.dma (semOf cc0_scratch5 k)))
    (.dma (semOf cc0_scratch6 k)) (((Memref.isWhole_whole _).wordExact_slice rfl _ (slot_words k)).reshape _ _)
    (((Memref.isWhole_whole _).wordExact_slice rfl _ (slot_words k)).reshape _ _) ⟨⟨rfl, Or.inl rfl⟩, trivial⟩)

/-- The wait for chunk `k` from the neighbour along y. -/
def recvY (k : Fin 8) : P (F := F) PUnit :=
  Prog.lift (.waitDma2 (semOf cc0_scratch6 k) (slotOf uM k) (slotOf vM k) (((Memref.isWhole_whole _).wordExact_slice rfl _ (slot_words k)).reshape _ _)
    (((Memref.isWhole_whole _).wordExact_slice rfl _ (slot_words k)).reshape _ _))

/-- The sum of the two halves along y, stored into the result. -/
def addY (k : Fin 8) : P (F := F) PUnit := do
  let a : Vec F S1x128x1024 .bf16 ← Prog.lift (.load uM (slotR k).toLoadRect (View.loadsAt_vmem h_S1x128x1024))
  let b : Vec F S1x128x1024 .bf16 ← Prog.lift (.load vM (slotR k).toLoadRect (View.loadsAt_vmem h_S1x128x1024))
  let _ : Vec F S128x1024 .f32 ← Prog.lift (.load oM (outR k).toLoadRect (View.loadsAt_vmem h_S128x1024))
  Prog.lift (.store oM (outR k) (k0_pay12 a b) Finset.univ (View.stores_vmem_bits_univ h_S128x1024 rfl) (.inl rfl))

/-- The two waits for a chunk's own sends. -/
def sentX (d : Dev nD) (k : Fin 8) : P (F := F) PUnit :=
  Prog.lift (.waitDma2 (semOf cc0_scratch3 k) (slotOf rM k) (sendOf d k) (((Memref.isWhole_whole _).wordExact_slice rfl _ (slot_words k)).reshape _ _)
    ((Memref.isWhole_whole _).wordExact_slice rfl _ (k0_off1_wordsbf16 d k)))
def sentY (k : Fin 8) : P (F := F) PUnit :=
  Prog.lift (.waitDma2 (semOf cc0_scratch5 k) (slotOf vM k) (slotOf uM k) (((Memref.isWhole_whole _).wordExact_slice rfl _ (slot_words k)).reshape _ _)
    (((Memref.isWhole_whole _).wordExact_slice rfl _ (slot_words k)).reshape _ _))

/-- A step taken at each chunk of a list, in order. -/
def each (l : List (Fin 8)) (p : Fin 8 → P (F := F) PUnit) : P (F := F) PUnit :=
  match l with
  | [] => pure ⟨⟩
  | k :: l => p k >>= fun _ => each l p

abbrev chunks : List (Fin 8) := [0, 1, 2, 3, 4, 5, 6, 7]

/-- The whole body. -/
def prog : P (F := F) PUnit := do
  let d : Dev nD ← Prog.lift .deviceId
  meet d
  each chunks (sendX d)
  each chunks (fun k => do recvX d k; addX d k; sendY d k)
  each chunks (fun k => do recvY k; addY k)
  each chunks (sentX d)
  each chunks sentY

set_option maxHeartbeats 4000000 in
/-- The printed body is this one. -/
theorem body_eq :
    cc0_body (F := F) (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6
    = prog (F := F) := by
  rw [cc0_body_eq_skeleton]
  rfl

end Cert.ReduceProof

end
-- ==== Proof.Reduce.Common.lean ====
/-
The protocol of the reduction: who talks to whom, what every buffer holds when it is handed over, and the
schedule of the semaphore cells.

A device has one barrier cell and, for each of the eight chunks, a send and a receive cell along x and a send
and a receive cell along y.  Every cell has one round.
-/
module

public import proofs.«01_k».proof.Proof.Reduce.Prog
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.ReduceProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The mesh -/

set_option backward.proofsInPublic true in
/-- The neighbour along x, and the neighbour along y. -/
def xn (c : Dev nD) : Dev nD := ⟨(c.val + 2) % 4, Nat.mod_lt _ (by decide)⟩
set_option backward.proofsInPublic true in
def yn (c : Dev nD) : Dev nD := ⟨2 * (c.val / 2) + (c.val + 1) % 2, by have := c.isLt; show _ < 4; have : c.val < 4 := c.isLt; omega⟩

theorem xn_xn (c : Dev nD) : xn (xn c) = c := by revert c; decide
theorem yn_yn (c : Dev nD) : yn (yn c) = c := by revert c; decide
theorem xn_iff {a b : Dev nD} : a = xn b ↔ b = xn a := ⟨fun h => by rw [h, xn_xn], fun h => by rw [h, xn_xn]⟩
theorem yn_iff {a b : Dev nD} : a = yn b ↔ b = yn a := ⟨fun h => by rw [h, yn_yn], fun h => by rw [h, yn_yn]⟩
theorem dev1_eq (c : Dev nD) : (⟨k0_dev1 c, k0_dev1_lt c⟩ : Dev nD) = xn c :=
  Fin.ext ((k0_dev1_eq c).trans (by revert c; decide))
theorem dev2_eq (c : Dev nD) : (⟨k0_dev2 c, k0_dev2_lt c⟩ : Dev nD) = yn c :=
  Fin.ext ((k0_dev2_eq c).trans (by revert c; decide))
theorem dev3_eq (c : Dev nD) : (⟨k0_dev3 c, k0_dev3_lt c⟩ : Dev nD) = xn c :=
  Fin.ext ((k0_dev3_eq c).trans (by revert c; decide))
theorem dev11_eq (c : Dev nD) : (⟨k0_dev11 c, k0_dev11_lt c⟩ : Dev nD) = yn c :=
  Fin.ext ((k0_dev11_eq c).trans (by revert c; decide))

def xEquiv : Dev nD ≃ Dev nD := ⟨xn, xn, xn_xn, xn_xn⟩
def yEquiv : Dev nD ≃ Dev nD := ⟨yn, yn, yn_yn, yn_yn⟩

/-! ## The cells -/

/-- The kinds of transfer cell: sends along x, arrivals along x, sends along y, arrivals along y. -/
abbrev sX : Fin 4 := 0
abbrev rX : Fin 4 := 1
abbrev sY : Fin 4 := 2
abbrev rY : Fin 4 := 3

/-- A device's cells: the barrier (`none`), and the transfer cells by kind and chunk. -/
abbrev Cell : Type := Option (Fin 4 × Fin 8)

abbrev barS : Sem sig := (SemArray.scalar (sig.barrier 2 rfl) : Sems sig S_).sem

theorem dsem_lt (a : Fin 4) (k : Fin 8) : 2 + 8 * a.val + k.val < sig.nDmaSem := by
  show _ < 34; have := a.isLt; have := k.isLt; omega
def dsem (a : Fin 4) (k : Fin 8) : DmaSem sig := ⟨2 + 8 * a.val + k.val, dsem_lt a k⟩

theorem sem_sX : ∀ k, semOf cc0_scratch3 k = dsem sX k := by decide +kernel
theorem sem_rX : ∀ k, semOf cc0_scratch4 k = dsem rX k := by decide +kernel
theorem sem_sY : ∀ k, semOf cc0_scratch5 k = dsem sY k := by decide +kernel
theorem sem_rY : ∀ k, semOf cc0_scratch6 k = dsem rY k := by decide +kernel

def csem (x : Cell) : SemLoc sig := match x with
  | none => .reg barS
  | some (a, k) => .dma (dsem a k)

/-- Which of the protocol's cells a semaphore is. -/
def dec (s : SemLoc sig) : Option Cell := match s with
  | .reg b => if b = barS then some none else none
  | .dma q => if h : 2 ≤ q.val ∧ q.val < 34 then
      some (some (⟨(q.val - 2) / 8, by omega⟩, ⟨(q.val - 2) % 8, by omega⟩)) else none

theorem dec_csem (x : Cell) : dec (csem x) = some x := by
  rcases x with _ | ⟨a, k⟩
  · rfl
  · have ha := a.isLt; have hk := k.isLt
    unfold csem dec dsem
    dsimp only
    rw [dif_pos ⟨by omega, by omega⟩]
    refine congrArg some (congrArg some (Prod.ext (Fin.ext ?_) (Fin.ext ?_)))
    · show (2 + 8 * a.val + k.val - 2) / 8 = a.val; omega
    · show (2 + 8 * a.val + k.val - 2) % 8 = k.val; omega

theorem csem_injective : Function.Injective csem := fun x y h => by
  have := congrArg dec h; rw [dec_csem, dec_csem] at this; exact Option.some.inj this

def kcell (p : Dev nD × Cell) : GSem nD τ sig := ((p.1 : Thread nD τ), csem p.2)

theorem kcell_injective : Function.Injective kcell := by
  rintro ⟨c, x⟩ ⟨c', x'⟩ h
  have h1 : c = c' := congrArg (fun g : GSem nD τ sig => g.1.1) h
  have h2 : csem x = csem x' := congrArg Prod.snd h
  rw [h1, csem_injective h2]

theorem dec_kcell (p : Dev nD × Cell) : dec (kcell p).2 = some p.2 := dec_csem p.2

/-- The credit of one chunk's transfer. -/
def N : ℕ := (slotOf rM 0).view.dmaCredit
theorem N_pos : 0 < N := View.dmaCredit_pos _ (by decide)
theorem credit_r (k : Fin 8) : (slotOf rM k).view.dmaCredit = N := rfl
theorem credit_u (k : Fin 8) : (slotOf uM k).view.dmaCredit = N := by revert k; decide +kernel
theorem credit_v (k : Fin 8) : (slotOf vM k).view.dmaCredit = N := by revert k; decide +kernel
theorem credit_p (d : Dev nD) (k : Fin 8) : (sendOf d k).view.dmaCredit = N := by revert d k; decide +kernel

/-! ## Contents -/

/-- The partial sums as staged on device `c`. -/
def pC (c : Dev nD) : (cc0_stg0_0 : Ref sig .tc).ty.Contents (Elt F) :=
  (win0_0.blk (0 : Fin 1)).view.read (Elt F) ((s₀ m ρ).mem ((c : Thread nD τ).loc main_arg0))

/-- Some contents of an eight-slot buffer and of the result, for the elements that are overwritten anyway. -/
def some8 : S8x128x1024.Idx → Elt F .bf16 := fun _ => (Elt.inhabited F .bf16).default
def someO : S1024x1024.Idx → Elt F .f32 := fun _ => (Elt.inhabited F .f32).default

/-- The chunk an element of an eight-slot buffer belongs to, and of the result. -/
def slotNo (i : S8x128x1024.Idx) : Fin 8 := i 0
def outNo (i : S1024x1024.Idx) : Fin 8 := ⟨(i 0).val / 128, by have : (i 0).val < 1024 := (i 0).isLt; omega⟩

/-- What arrives along x on device `c`: the neighbour's rows. -/
def rC (c : Dev nD) : S8x128x1024.Idx → Elt F .bf16 := fun i =>
  (slotOf rM (slotNo i)).view.write (Elt F) (some8 (F := F)) ((sendOf (xn c) (slotNo i)).view.read (Elt F) (pC m ρ (xn c))) Finset.univ i

/-- The chunk's sum along x on device `c`. -/
def uPay (c : Dev nD) (k : Fin 8) : FVec F S1x128x1024 .bf16 :=
  k0_pay1 (pM.view.readAt (Elt F) (keepR c k).toLoadRect (pC m ρ c)) (rM.view.readAt (Elt F) (slotR k).toLoadRect (rC m ρ c))
/-- The sums along x on device `c`. -/
def uC (c : Dev nD) : S8x128x1024.Idx → Elt F .bf16 := fun i =>
  (uM.access (slotR (slotNo i))).write (Elt F) (some8 (F := F)) (uPay m ρ c (slotNo i)) Finset.univ i

/-- The chunk's result on device `c`. -/
def oPay (c : Dev nD) (k : Fin 8) : FVec F S128x1024 .f32 :=
  k0_pay12 (uM.view.readAt (Elt F) (slotR k).toLoadRect (uC m ρ c)) (vM.view.readAt (Elt F) (slotR k).toLoadRect (uC m ρ (yn c)))
/-- The result on device `c`. -/
def oC (c : Dev nD) : S1024x1024.Idx → Elt F .f32 := fun i =>
  (oM.access (outR (outNo i))).write (Elt F) (someO (F := F)) (oPay m ρ c (outNo i)) Finset.univ i

/-! ## Pieces of buffers -/

/-- Slot `k` of an eight-slot buffer on device `c`. -/
def slotP (b : Memref sig .tc .vmem S8x128x1024 .bf16) (q : PosShare TreeShare) (c : Dev nD) (k : Fin 8) (f : Buf (Elt F) (b.view.loc (c : Thread nD τ))) : sProp 𝕄 :=
  (slotOf b k).view.loc (c : Thread nD τ) ↦[(slotOf b k).view.set]{q} f
/-- The rows of the partial sums that chunk `k` sends. -/
def sendP (q : PosShare TreeShare) (c : Dev nD) (k : Fin 8) (f : Buf (Elt F) (pM.view.loc (c : Thread nD τ))) : sProp 𝕄 :=
  (sendOf c k).view.loc (c : Thread nD τ) ↦[(sendOf c k).view.set]{q} f
/-- The rows of the result that chunk `k` fills. -/
def outP (c : Dev nD) (k : Fin 8) (f : Buf (Elt F) (oM.view.loc (c : Thread nD τ))) : sProp 𝕄 :=
  oM.view.loc (c : Thread nD τ) ↦[(oM.access (outR k)).set]{fullShare} f
/-- A whole buffer. -/
def wholeP (b : Ref sig .tc) (c : Dev nD) (f : Buf (Elt F) ((c : Thread nD τ).loc b)) : sProp 𝕄 :=
  ((c : Thread nD τ).loc b) ↦{fullShare} f

instance slotP_storable (b q c k f) : BI.Storable (upEmb : UEmb _ 𝕄) (slotP (F := F) b q c k f) := by unfold slotP; infer_instance
instance sendP_storable (q c k f) : BI.Storable (upEmb : UEmb _ 𝕄) (sendP (F := F) q c k f) := by unfold sendP; infer_instance
instance wholeP_storable (b c f) : BI.Storable (upEmb : UEmb _ 𝕄) (wholeP (F := F) b c f) := by unfold wholeP; infer_instance

/-! ## The schedule -/

/-- What the two neighbours hand over at the barrier of device `c`: their landing buffers, along x (`true`) and along y. -/
def barPay (d : Bool) (c : Dev nD) : sProp 𝕄 :=
  if d then iprop(∃ f, wholeP (F := F) cc0_scratch0 (xn c) f) else iprop(∃ f, wholeP (F := F) cc0_scratch2 (yn c) f)

/-- What the transfer cells hand over: a send gives its source back, an arrival the slot it filled. -/
def dmaPay (a : Fin 4) (k : Fin 8) (c : Dev nD) : sProp 𝕄 :=
  if a = sX then sendP fullShare.left c k (pC m ρ c)
  else if a = rX then slotP rM fullShare c k (rC m ρ c)
  else if a = sY then slotP uM fullShare.left c k (uC m ρ c)
  else slotP vM fullShare c k (uC m ρ (yn c))

def cellPay (x : Option Cell) (d : Bool) (c : Dev nD) : sProp 𝕄 := match x with
  | none => iprop(emp)
  | some none => barPay d c
  | some (some (a, k)) => dmaPay m ρ a k c
def cellAmt (x : Option Cell) : ℕ := match x with
  | some none => 1
  | _ => N
def cellDuties (x : Option Cell) : Finset Bool := match x with
  | none => ∅
  | some none => Finset.univ
  | some (some _) => {false}

instance cellPay_storable (x d c) : BI.Storable (upEmb : UEmb _ 𝕄) (cellPay m ρ x d c) := by
  unfold cellPay
  split
  · infer_instance
  · unfold barPay; split <;> infer_instance
  · unfold dmaPay; (repeat' split) <;> infer_instance

/-- One round: the barrier cell has the duty `true` of the neighbour along x and `false` of the neighbour along y, one unit
    each; a transfer cell the duty `false` of one chunk's credit. -/
def sched : Rounds.Schedule (GSem nD τ sig) Bool 𝕄 where
  duties g r := if r = 0 ∧ g.1.2 = .tc then cellDuties (dec g.2) else ∅
  unitless _ := False
  amount g _ _ := cellAmt (dec g.2)
  payload g _ d := cellPay m ρ (dec g.2) d g.1.1
  amount_pos g _ _ _ := by
    unfold cellAmt
    split
    · exact Nat.one_pos
    · exact N_pos

instance sched_payload_storable (g : GSem nD τ sig) (r : ℕ) (d : Bool) :
    BI.Storable (upEmb : UEmb _ 𝕄) ((sched (F := F) m ρ).payload g r d) := cellPay_storable m ρ (dec g.2) d g.1.1

section Sched
variable (c : Dev nD) (x : Cell)

theorem duties_eq : (sched (F := F) m ρ).duties (kcell (c, x)) 0 = cellDuties (some x) := by
  show (if 0 = 0 ∧ (kcell (c, x)).1.2 = .tc then cellDuties (dec (kcell (c, x)).2) else ∅) = _
  rw [if_pos ⟨rfl, rfl⟩, dec_kcell]
theorem duties_later (g : GSem nD τ sig) : ∀ r, 1 ≤ r → (sched (F := F) m ρ).duties g r = ∅ :=
  fun r hr => if_neg fun h => by omega
theorem amount_eq (d : Bool) : (sched (F := F) m ρ).amount (kcell (c, x)) 0 d = cellAmt (some x) := by
  show cellAmt (dec (kcell (c, x)).2) = _; rw [dec_kcell]
theorem payload_eq (d : Bool) : (sched (F := F) m ρ).payload (kcell (c, x)) 0 d = cellPay m ρ (some x) d c := by
  show cellPay m ρ (dec (kcell (c, x)).2) d (kcell (c, x)).1.1 = _; rw [dec_kcell]; rfl

theorem expect_bar : (sched (F := F) m ρ).expect (kcell (c, none)) 0 = 2 := by
  unfold Schedule.expect Schedule.amountOf
  rw [duties_eq, Finset.sum_congr rfl fun d _ => amount_eq m ρ c none d]; rfl
theorem expect_dma (a : Fin 4) (k : Fin 8) : (sched (F := F) m ρ).expect (kcell (c, some (a, k))) 0 = N := by
  unfold Schedule.expect Schedule.amountOf
  rw [duties_eq, Finset.sum_congr rfl fun d _ => amount_eq m ρ c (some (a, k)) d]; rfl

theorem rest_bar : bigSep ((sched (F := F) m ρ).duties (kcell (c, none)) 0 \ ∅) (fun d => (sched (F := F) m ρ).payload (kcell (c, none)) 0 d)
    = iprop(barPay true c ∗ barPay (F := F) false c) := by
  rw [Finset.sdiff_empty, duties_eq]
  show bigSep Finset.univ _ = _
  rw [bigSep_univ_eq_bigSepL [true, false] (by decide) (by decide), bigSepL_cons_cons, bigSepL_singleton, payload_eq, payload_eq]; rfl
theorem rest_dma (a : Fin 4) (k : Fin 8) :
    bigSep ((sched (F := F) m ρ).duties (kcell (c, some (a, k))) 0 \ ∅) (fun d => (sched (F := F) m ρ).payload (kcell (c, some (a, k))) 0 d)
    = dmaPay m ρ a k c := by
  rw [Finset.sdiff_empty, duties_eq]
  show bigSep {false} _ = _
  rw [bigSep_singleton, payload_eq]; rfl

end Sched

/-! ## What each core owes at launch; the levels -/

/-- A tally on one cell. -/
abbrev T (p : Dev nD × Cell) (n : ℕ) : CellTallies nD τ sig Unit := tallyAt (kcell p) () n

theorem T_apply (p q : Dev nD × Cell) (n : ℕ) (u : Unit) : T p n (kcell q) u = if q = p then n else 0 := by
  rw [tallyAt_apply]
  by_cases h : q = p
  · rw [if_pos h, if_pos ⟨by rw [h], rfl⟩]
  · rw [if_neg h, if_neg fun h' => h (kcell_injective h'.1)]

/-- The credit of the chunks in `l`, owed to the cells of kind `a` of device `c`. -/
def owedTo (a : Fin 4) (c : Dev nD) (l : List (Fin 8)) : CellTallies nD τ sig Unit := match l with
  | [] => 0
  | k :: l => owedTo a c l + T (c, some (a, k)) N

def O₀ (c : Dev nD) : CellTallies nD τ sig Unit :=
  owedTo rY (yn c) chunks + owedTo rX (xn c) chunks + T (yn c, none) 1 + T (xn c, none) 1

def L (g : GSem nD τ sig) : Finset Unit := if g.1.2 = .tc then {()} else ∅
/-- Barrier cells at 1, arrivals along x at 2, along y at 3, everything else at 0. -/
def cellLv (x : Option Cell) : ℕ := match x with
  | none => 0
  | some none => 1
  | some (some (a, _)) => if a = rX then 2 else if a = rY then 3 else 0
def lv (g : GSem nD τ sig) (_ : Unit) : ℕ := cellLv (dec g.2)

theorem lv_kcell (p : Dev nD × Cell) (u : Unit) : lv (kcell p) u = cellLv (some p.2) := by unfold lv; rw [dec_kcell]
theorem L_of_ne (g : GSem nD τ sig) (h : g.1.2 ≠ .tc) : L g = ∅ := if_neg h
theorem L_tc (c : Dev nD) (sm : SemLoc sig) : L ((c : Thread nD τ), sm) = {()} := if_pos rfl

/-- The cells a tally is on are all at a level above `b`. -/
def Above (b : ℕ) (O : CellTallies nD τ sig Unit) : Prop := ∀ (g : GSem nD τ sig) (u : Unit), 0 < O g u → ∃ p, g = kcell p ∧ b < cellLv (some p.2)

theorem above_zero (b : ℕ) : Above b 0 := fun g u h => absurd h (Nat.lt_irrefl 0)
theorem above_add {b : ℕ} {O O' : CellTallies nD τ sig Unit} (h : Above b O) (h' : Above b O') : Above b (O + O') := fun g u hg => by
  rw [Pi.add_apply, Finsupp.add_apply] at hg
  by_cases h0 : 0 < O g u
  · exact h g u h0
  · exact h' g u (by omega)
theorem above_T {b : ℕ} {p : Dev nD × Cell} {n : ℕ} (h : b < cellLv (some p.2)) : Above b (T p n) := fun g u hg => by
  rw [tallyAt_apply] at hg
  by_cases hh : g = kcell p ∧ u = ()
  · exact ⟨p, hh.1, h⟩
  · rw [if_neg hh] at hg; exact absurd hg (Nat.lt_irrefl 0)
theorem above_owedTo {b : ℕ} {a : Fin 4} {c : Dev nD} (h : b < cellLv (some (some (a, 0)))) (l : List (Fin 8)) : Above b (owedTo a c l) := by
  induction l with
  | nil => exact above_zero b
  | cons k l ih => exact above_add ih (above_T h)

theorem mayWait (c : Dev nD) (sm : SemLoc sig) (O : CellTallies nD τ sig Unit) (hO : Above (cellLv (dec sm)) O) :
    (levAts L lv : sProp 𝕄) ⊢ MayWait (c : Thread nD τ) sm () O :=
  MayOwe.of_cut (L := L) (lev := lv) (cellLv (dec sm)) (fun p hp => by rw [Finset.mem_singleton.mp hp, L_tc]; exact Finset.mem_singleton_self _)
    (fun g u hg => by obtain ⟨p, rfl, -⟩ := hO g u hg; exact Finset.mem_singleton_self _)
    (fun p hp => by rw [Finset.mem_singleton.mp hp]; exact le_rfl)
    (fun g u hg => by obtain ⟨p, rfl, h⟩ := hO g u hg; rw [lv_kcell]; exact h)

theorem above_O₀ (c : Dev nD) : Above 0 (O₀ c) :=
  above_add (above_add (above_add (above_owedTo (by decide) _) (above_owedTo (by decide) _)) (above_T Nat.one_pos)) (above_T Nat.one_pos)

end Cert.ReduceProof

end
-- ==== Proof.Reduce.Steps.lean ====
/-
The rules for one step of the reduction at a chunk `k`, and the rule for a step taken at each chunk.
-/
module

public import proofs.«01_k».proof.Proof.Reduce.Common
public import Idealize.ShloMosaic.Lib.Pipeline.BigSepL

@[expose] public section

set_option maxRecDepth 16384

noncomputable section

namespace Cert.ReduceProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- A program on device `c` establishes `Q`. -/
abbrev run {α : Type} (c : Dev nD) (p : P (F := F) α) (Q : α → sProp 𝕄) : sProp 𝕄 :=
  wp frame (wpE (defs₀ (F := F)) 𝒱₀ (c : Thread nD τ) none) Set.univ p Q

/-! ## The shared records -/

/-- Every cell's invariant, under the names `K`, and that every cell has reached its round. -/
def records (K : Dev nD × Cell → ℕ) : sProp 𝕄 :=
  iprop((bigSep Finset.univ fun p : Dev nD × Cell => cellInv ER (sched m ρ) (K p) (kcell p))
    ∗ bigSep Finset.univ fun p : Dev nD × Cell => reached ER (kcell p) 0)

instance records_persistent (K : Dev nD × Cell → ℕ) : BI.Persistent (records (F := F) m ρ K) := by unfold records; infer_instance

theorem inv_at (K : Dev nD × Cell → ℕ) (p : Dev nD × Cell) : records (F := F) m ρ K ⊢ cellInv ER (sched m ρ) (K p) (kcell p) := by
  unfold records; exact sep_elim_left.trans (bigSep_elim (Finset.mem_univ p))
theorem reached_at (K : Dev nD × Cell → ℕ) (p : Dev nD × Cell) : records (F := F) m ρ K ⊢ reached ER (kcell p) 0 := by
  unfold records; exact sep_elim_right.trans (bigSep_elim (Finset.mem_univ p))

/-- The debt `O`, whatever waits have been made. -/
def owesE (c : Dev nD) (O : CellTallies nD τ sig Unit) : sProp 𝕄 := iprop(∃ W, owes (c : Thread nD τ) O W)

/-! ## A step at each chunk -/

theorem run_each (c : Dev nD) (p : Fin 8 → P (F := F) PUnit) (A B : Fin 8 → sProp 𝕄) (J : List (Fin 8) → sProp 𝕄)
    (h : ∀ k l, iprop(A k ∗ J (k :: l)) ⊢ run c (p k) fun _ => iprop(B k ∗ J l)) (l : List (Fin 8)) :
    iprop(bigSepL l A ∗ J l) ⊢ run c (each l p) fun _ => iprop(bigSepL l B ∗ J []) := by
  induction l with
  | nil =>
    rw [bigSepL_nil, bigSepL_nil]
    show _ ⊢ wp frame _ _ (.ret _) _
    rw [wp_ret]; iintro ⟨H, HJ⟩; imodintro
    isplitl [H] <;> iassumption
  | cons k l ih =>
    rw [bigSepL_cons', bigSepL_cons']
    show _ ⊢ wp frame _ _ (p k >>= fun _ => each l p) _
    rw [wp_bind]
    iintro ⟨⟨HA, HAs⟩, HJ⟩
    ihave H := (h k l) $$ [HA HJ]
    · isplitl [HA] <;> iassumption
    iapply (wp_wand frame (wpE (defs₀ (F := F)) 𝒱₀ (c : Thread nD τ) none) Set.univ) $$ H
    iintro %_ ⟨HB, HJ⟩
    ihave H := ih $$ [HAs HJ]
    · isplitl [HAs] <;> iassumption
    iapply (wp_wand frame (wpE (defs₀ (F := F)) 𝒱₀ (c : Thread nD τ) none) Set.univ) $$ H
    iintro %_ ⟨HBs, HJ⟩
    isplitl [HB HBs]
    · isplitl [HB] <;> iassumption
    iexact HJ

/-! ## Sends and waits -/

theorem mem_duties (c : Dev nD) (a : Fin 4) (k : Fin 8) : false ∈ (sched (F := F) m ρ).duties (kcell (c, some (a, k))) 0 := by
  rw [duties_eq]; exact Finset.mem_singleton_self _

/-- A send of one chunk: the source goes to the send cell's round, the slot filled to the arrival cell's. -/
theorem run_send (K : Dev nD × Cell → ℕ) (c n n' : Dev nD) (hn : n' = n) (k : Fin 8) (a b : Fin 4) (s₁ s₂ : DmaSem sig) (h₁ : s₁ = dsem a k) (h₂ : s₂ = dsem b k)
    (src dst : Memref sig .tc .vmem S128x1024 .bf16) (hN : dst.view.dmaCredit = N)
    {hsc : (dst : Memref sig (Dev.tc n' : Thread nD τ).2.kind .vmem S128x1024 .bf16).view.ref.isScScratch = false} {hsrc : src.view.WordExact} {hdst : dst.view.WordExact}
    {hsem : DmaTarget.Typed .vmem (.dma s₂) (.remote (Dev.tc n' : Thread nD τ) dst (.dma s₁) hsc)}
    {q : PosShare TreeShare} (fs : Buf (Elt F) (src.view.loc (c : Thread nD τ))) (fd : Buf (Elt F) (dst.view.loc (n : Thread nD τ)))
    (hpay₁ : (src.view.loc (c : Thread nD τ) ↦[src.view.set]{q} fs) ⊢ dmaPay m ρ a k c)
    (hpay₂ : (dst.view.loc (n : Thread nD τ) ↦[dst.view.set]{fullShare} (dst.view.write (Elt F) fd (src.view.read (Elt F) fs) Finset.univ)) ⊢ dmaPay m ρ b k n)
    (O : CellTallies nD τ sig Unit) :
    iprop(records m ρ K ∗ (src.view.loc (c : Thread nD τ) ↦[src.view.set]{q} fs) ∗ (dst.view.loc (n : Thread nD τ) ↦[dst.view.set]{fullShare} fd)
        ∗ owesE c (O + T (n, some (b, k)) N) ∗ dutyTok ER (kcell (c, some (a, k))) 0 false ∗ dutyTok ER (kcell (n, some (b, k))) 0 false)
      ⊢ run c (Prog.lift (.enqueueDma src (.remote (Dev.tc n' : Thread nD τ) dst (.dma s₁) hsc) (.dma s₂) hsrc hdst hsem))
          fun _ => iprop(cred (T (c, some (a, k)) N) ∗ owesE c O) := by
  subst hn h₁ h₂
  unfold owesE
  iintro ⟨#HR, Hs, Hd, ⟨%W, HO⟩, Ht₁, Ht₂⟩
  iapply (Rounds.wp_send_pointsTo 𝒱₀ ER (sched m ρ) (c : Thread nD τ) none (κ₁ := K (c, some (a, k))) (κ₂ := K (n', some (b, k)))
    (r₁ := 0) (r₂ := 0) (d₁ := false) (d₂ := false) (fd := fd)
    (sS := .dma (dsem a k)) (sem := .dma (dsem b k)) (mem_duties m ρ c a k) (mem_duties m ρ n' b k)
    () () N hN (amount_eq m ρ c (some (a, k)) false) (amount_eq m ρ n' (some (b, k)) false) O rfl (W := W)
    (hpay₁.trans (Entails.of_eq (payload_eq m ρ c (some (a, k)) false).symm)) (hpay₂.trans (Entails.of_eq (payload_eq m ρ n' (some (b, k)) false).symm)))
    $$ [Hs Hd HO Ht₁ Ht₂]
  · isplitr; · iapply (inv_at m ρ K (c, some (a, k))); iexact HR
    isplitr; · iapply (inv_at m ρ K (n', some (b, k))); iexact HR
    isplitl [Hs]; · iexact Hs
    isplitl [Hd]; · iexact Hd
    isplitl [HO]; · iexact HO
    isplitl [Ht₁]; · iexact Ht₁
    isplitr; · iapply (reached_at m ρ K (c, some (a, k))); iexact HR
    isplitl [Ht₂]; · iexact Ht₂
    iapply (reached_at m ρ K (n', some (b, k))); iexact HR
  iintro ⟨Hc, HO⟩
  rw [wp_ret]; imodintro
  isplitl [Hc]; · iexact Hc
  iexists W; iexact HO

/-- A wait for one chunk's cell: what the cell's round holds, and the cell closed at zero. -/
theorem run_wait (K : Dev nD × Cell → ℕ) (c : Dev nD) (k : Fin 8) (a : Fin 4) (s : DmaSem sig) (hs : s = dsem a k)
    {s' : Shape} {src : Memref sig .tc .vmem s' .bf16} {dst : Memref sig .tc .vmem S128x1024 .bf16} (hN : dst.view.dmaCredit = N)
    {hsrc : src.view.WordExact} {hdst : dst.view.WordExact} (O : CellTallies nD τ sig Unit) :
    iprop(records m ρ K ∗ cred (T (c, some (a, k)) N) ∗ owesE c O ∗ MayWait (c : Thread nD τ) (.dma (dsem a k)) () O ∗ atPos ER (kcell (c, some (a, k))) 0 ∅ 0)
      ⊢ run (F := F) c (Prog.lift (.waitDma2 s src dst hsrc hdst))
          fun _ => iprop(owesE c O ∗ semVal (kcell (c, some (a, k))) 0 ∗ dmaPay m ρ a k c) := by
  subst hs
  unfold owesE
  iintro ⟨#HR, Hc, ⟨%W, HO⟩, Hw, Hat⟩
  iapply (Rounds.wp_wait_rest_token 𝒱₀ ER (sched m ρ) (c : Thread nD τ) none (κ := K (c, some (a, k)))
      (wpE_waitDma2_eq 𝒱₀ (c : Thread nD τ) none Set.univ) (Set.mem_univ _) () (O := O) (W := W) (R := 0) (m := 0) (T := ∅)
      (by rw [Nat.zero_add, hN]; exact (expect_dma m ρ c a k).symm)) $$ [Hc HO Hw Hat]
  · isplitr; · iapply (inv_at m ρ K (c, some (a, k))); iexact HR
    isplitl [Hc]; · rw [hN]; iexact Hc
    isplitl [HO]; · iexact HO
    isplitl [Hw]; · iexact Hw
    iexact Hat
  iintro ⟨HO, Hat, -, Hpay⟩
  ihave Hp := (show bigSep ((sched (F := F) m ρ).duties ((c : Thread nD τ), SemLoc.dma (dsem a k)) 0 \ ∅)
    (fun d => (sched (F := F) m ρ).payload ((c : Thread nD τ), SemLoc.dma (dsem a k)) 0 d) ⊢ dmaPay m ρ a k c from
      Entails.of_eq (rest_dma m ρ c a k)) $$ Hpay
  imod (Rounds.cell_close ER (sched m ρ) (Set.mem_univ (K (c, some (a, k)))) (fun h => h) (R := 0 + 1) (duties_later m ρ (kcell (c, some (a, k))))) $$ [Hat] with Hz
  · isplitr; · iapply (inv_at m ρ K (c, some (a, k))); iexact HR
    iexact Hat
  rw [wp_ret]; imodintro
  isplitl [HO]; · iexists _; iexact HO
  isplitl [Hz] <;> iassumption

/-! ## Elements of the pieces -/

/-- A write through a view agrees, on the view's elements, with the write of the same value over any other contents. -/
theorem write_base {κ : Kind} {sp : Space} {s : Shape} {e : EltTy} (v : View sig κ sp s e) (f f' : v.ty.Contents (Elt F)) (w : s.Idx → Elt F e) :
    ∀ i ∈ v.set, v.write (Elt F) f w Finset.univ i = v.write (Elt F) f' w Finset.univ i := by
  intro i hi
  obtain ⟨x, -, rfl⟩ := Finset.mem_map.mp hi
  rw [View.write_emb_of_mem _ _ (Finset.mem_univ x), View.write_emb_of_mem _ _ (Finset.mem_univ x)]

theorem slot_mem {k : Fin 8} {i : S8x128x1024.Idx} (h : i ∈ (slotR k).set) : slotNo i = k := by
  have h0 := (Rect.mem_set_unit.mp h) 0
  refine Fin.ext ?_
  have : k.val ≤ (i 0).val ∧ (i 0).val < k.val + 1 := h0
  show (i 0).val = k.val
  omega
theorem out_mem {k : Fin 8} {i : S1024x1024.Idx} (h : i ∈ (outR k).set) : outNo i = k := by
  have h0 := (Rect.mem_set_unit.mp h) 0
  refine Fin.ext ?_
  have : 128 * k.val ≤ (i 0).val ∧ (i 0).val < 128 * k.val + 128 := h0
  show (i 0).val / 128 = k.val
  omega

/-- The elements of a slot as the transfers name it are those of its rectangle. -/
theorem slotOf_set (b : Memref sig .tc .vmem S8x128x1024 .bf16) (k : Fin 8) : (slotOf b k).view.set = (b.view.slice (slotR k)).set :=
  View.set_reshape _ _
theorem slot_set_r (k : Fin 8) : (slotOf rM k).view.set = (slotR k).set := (slotOf_set rM k).trans (View.set_slice_whole _ _)
theorem slot_set_u (k : Fin 8) : (slotOf uM k).view.set = (slotR k).set := (slotOf_set uM k).trans (View.set_slice_whole _ _)
theorem slot_set_v (k : Fin 8) : (slotOf vM k).view.set = (slotR k).set := (slotOf_set vM k).trans (View.set_slice_whole _ _)
theorem out_set (k : Fin 8) : (oM.access (outR k)).set = (outR k).set := View.set_slice_whole _ _
theorem send_set (c : Dev nD) (k : Fin 8) : (sendOf c k).view.set = (sendR c k).set := View.set_slice_whole _ _

/-- What a send along x leaves in its slot is what the receiver is to hold there. -/
theorem rC_at (c : Dev nD) (k : Fin 8) (f : (cc0_scratch0 : Ref sig .tc).ty.Contents (Elt F)) :
    ∀ i ∈ (slotOf rM k).view.set, (slotOf rM k).view.write (Elt F) f ((sendOf (xn c) k).view.read (Elt F) (pC m ρ (xn c))) Finset.univ i = rC m ρ c i := by
  intro i hi
  have hk : slotNo i = k := slot_mem (by rw [← slot_set_r]; exact hi)
  rw [write_base (slotOf rM k).view f (some8 (F := F)) _ i hi]
  unfold rC; rw [hk]
theorem uC_at (c : Dev nD) (k : Fin 8) (f : (cc0_scratch1 : Ref sig .tc).ty.Contents (Elt F)) :
    ∀ i ∈ (slotOf uM k).view.set, (uM.access (slotR k)).write (Elt F) f (uPay m ρ c k) Finset.univ i = uC m ρ c i := by
  intro i hi
  have hk : slotNo i = k := slot_mem (by rw [← slot_set_u]; exact hi)
  rw [write_base (uM.access (slotR k)) f (some8 (F := F)) _ i (by rw [slotOf_set] at hi; exact hi)]
  unfold uC; rw [hk]
theorem copy_uv (k : Fin 8) (f : (cc0_scratch2 : Ref sig .tc).ty.Contents (Elt F)) (g : S8x128x1024.Idx → Elt F .bf16) :
    ∀ i ∈ (slotOf vM k).view.set, (slotOf vM k).view.write (Elt F) f ((slotOf uM k).view.read (Elt F) g) Finset.univ i = g i := by
  intro i hi
  obtain ⟨x, -, rfl⟩ := Finset.mem_map.mp hi
  exact (View.write_emb_of_mem _ _ (Finset.mem_univ x)).trans rfl
theorem oC_at (c : Dev nD) (k : Fin 8) (f : (cc0_stg1_0 : Ref sig .tc).ty.Contents (Elt F)) :
    ∀ i ∈ (oM.access (outR k)).set, (oM.access (outR k)).write (Elt F) f (oPay m ρ c k) Finset.univ i = oC m ρ c i := by
  intro i hi
  have hk : outNo i = k := out_mem (by rw [← out_set]; exact hi)
  rw [write_base (oM.access (outR k)) f (someO (F := F)) _ i hi]
  unfold oC; rw [hk]

/-! ## The five loops' steps -/

section Loops
variable (K : Dev nD × Cell → ℕ) (c : Dev nD)

/-- The duty tokens device `c` spends on chunk `k`'s send along x, and along y. -/
def tokX (k : Fin 8) : sProp 𝕄 := iprop(dutyTok ER (kcell (c, some (sX, k))) 0 false ∗ dutyTok ER (kcell (xn c, some (rX, k))) 0 false)
def tokY (k : Fin 8) : sProp 𝕄 := iprop(dutyTok ER (kcell (c, some (sY, k))) 0 false ∗ dutyTok ER (kcell (yn c, some (rY, k))) 0 false)
/-- The right to wait for a cell of device `c`. -/
def turn (a : Fin 4) (k : Fin 8) : sProp 𝕄 := atPos ER (kcell (c, some (a, k))) 0 ∅ 0
def due (a : Fin 4) (k : Fin 8) : sProp 𝕄 := cred (T (c, some (a, k)) N)
def zero (a : Fin 4) (k : Fin 8) : sProp 𝕄 := semVal (kcell (c, some (a, k))) 0

theorem step_sendX (fr : Buf (Elt F) (rM.view.loc (xn c : Thread nD τ))) (O : CellTallies nD τ sig Unit) (k : Fin 8) (l : List (Fin 8)) :
    iprop((tokX c k ∗ sendP fullShare.left c k (pC m ρ c) ∗ slotP rM fullShare (xn c) k fr)
        ∗ records m ρ K ∗ owesE c (O + owedTo rX (xn c) (k :: l)))
      ⊢ run c (sendX c k) fun _ => iprop(due c sX k ∗ records m ρ K ∗ owesE c (O + owedTo rX (xn c) l)) := by
  unfold tokX sendP slotP due
  iintro ⟨⟨⟨Ht₁, Ht₂⟩, Hs, Hd⟩, #HR, HO⟩
  ihave H := (run_send m ρ K c (xn c) _ (dev3_eq c) k sX rX _ _ (sem_sX k) (sem_rX k) (sendOf c k) (slotOf rM k) (credit_r k) (pC m ρ c) fr
    (by unfold dmaPay sendP; rw [if_pos rfl])
    (by
      unfold dmaPay slotP
      rw [if_neg (by decide), if_pos rfl]
      refine Entails.of_eq (pointsTo_congr fun i hi => ?_)
      have := rC_at m ρ (xn c) k fr i hi
      rwa [xn_xn] at this)
    (O + owedTo rX (xn c) l)) $$ [Hs Hd HO Ht₁ Ht₂]
  · isplitr; · iexact HR
    isplitl [Hs]; · iexact Hs
    isplitl [Hd]; · iexact Hd
    isplitl [HO]
    · iapply (Entails.of_eq (by rw [show owedTo rX (xn c) (k :: l) = owedTo rX (xn c) l + T (xn c, some (rX, k)) N from rfl, add_assoc])) $$ HO
    isplitl [Ht₁] <;> iassumption
  iapply (wp_wand frame (wpE (defs₀ (F := F)) 𝒱₀ (c : Thread nD τ) none) Set.univ) $$ H
  iintro %_ ⟨Hc, HO⟩
  isplitl [Hc]; · iexact Hc
  isplitr; · iexact HR
  iexact HO

end Loops

end Cert.ReduceProof

end
-- ==== Proof.Reduce.Loops.lean ====
/-
The steps of the four later loops: an arrival along x with the sum it feeds, an arrival along y with the result
it completes, and the waits for a device's own sends.
-/
module

public import proofs.«01_k».proof.Proof.Reduce.Steps

@[expose] public section

set_option maxRecDepth 16384

noncomputable section

namespace Cert.ReduceProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Loops
variable (K : Dev nD × Cell → ℕ) (c : Dev nD)

theorem run_bind {α β : Type} (p : P (F := F) α) (k : α → P (F := F) β) (Q : β → sProp 𝕄) :
    run c (p >>= k) Q = run c p fun a => run c (k a) Q := wp_bind frame _ _ p k Q
theorem run_wand {α : Type} {p : P (F := F) α} {Q Q' : α → sProp 𝕄} : run c p Q ⊢ iprop((∀ a, Q a -∗ Q' a) -∗ run c p Q') :=
  wp_wand frame (wpE (defs₀ (F := F)) 𝒱₀ (c : Thread nD τ) none) Set.univ

/-- The share of the partial sums that stays for the loads. -/
def keptP : sProp 𝕄 := pM.view.loc (c : Thread nD τ) ↦[pM.view.set]{fullShare.right} pC m ρ c

theorem load_slot (b : Memref sig .tc .vmem S8x128x1024 .bf16) (k : Fin 8) : b.view.setOn (slotR k).toLoadRect.set ⊆ (slotOf b k).view.set := by
  rw [slotOf_set, View.set_slice]; exact subset_rfl

theorem run_addX (k : Fin 8) (fu : Buf (Elt F) (uM.view.loc (c : Thread nD τ))) :
    iprop(keptP m ρ c ∗ slotP rM fullShare c k (rC m ρ c) ∗ slotP uM fullShare c k fu)
      ⊢ run c (addX c k) fun _ => iprop(keptP m ρ c ∗ slotP rM fullShare c k (rC m ρ c) ∗ slotP uM fullShare c k (uC m ρ c)) := by
  unfold keptP slotP addX
  iintro ⟨Hp, Hr, Hu⟩
  simp only [Prog.lift, Prog.bind_op, Prog.bind_ret]
  iapply (wp_load 𝒱₀ (c : Thread nD τ) none Set.univ (m := pM) (View.setOn_subset_set _ _)) $$ Hp; iintro Hp
  iapply (wp_load 𝒱₀ (c : Thread nD τ) none Set.univ (m := rM) (load_slot rM k)) $$ Hr; iintro Hr
  iapply (wp_load 𝒱₀ (c : Thread nD τ) none Set.univ (m := uM) (load_slot uM k)) $$ Hu; iintro Hu
  iapply (wp_store 𝒱₀ (c : Thread nD τ) none Set.univ (m := uM) (r := slotR k) (Mk := Finset.univ) (by rw [slotOf_set]; exact subset_rfl)) $$ Hu; iintro Hu
  rw [wp_ret]; imodintro
  isplitl [Hp]; · iexact Hp
  isplitl [Hr]; · iexact Hr
  iapply (Entails.of_eq (pointsTo_congr (uC_at m ρ c k fu))) $$ Hu

theorem run_addY (k : Fin 8) (fo : Buf (Elt F) (oM.view.loc (c : Thread nD τ))) :
    iprop(slotP uM fullShare.right c k (uC m ρ c) ∗ slotP vM fullShare c k (uC m ρ (yn c)) ∗ outP c k fo)
      ⊢ run c (addY k) fun _ => iprop(slotP uM fullShare.right c k (uC m ρ c) ∗ slotP vM fullShare c k (uC m ρ (yn c)) ∗ outP c k (oC m ρ c)) := by
  unfold slotP outP addY
  iintro ⟨Hu, Hv, Ho⟩
  simp only [Prog.lift, Prog.bind_op, Prog.bind_ret]
  iapply (wp_load 𝒱₀ (c : Thread nD τ) none Set.univ (m := uM) (load_slot uM k)) $$ Hu; iintro Hu
  iapply (wp_load 𝒱₀ (c : Thread nD τ) none Set.univ (m := vM) (load_slot vM k)) $$ Hv; iintro Hv
  iapply (wp_load 𝒱₀ (c : Thread nD τ) none Set.univ (m := oM) (by rw [View.set_slice]; exact subset_rfl)) $$ Ho; iintro Ho
  iapply (wp_store 𝒱₀ (c : Thread nD τ) none Set.univ (m := oM) (r := outR k) (Mk := Finset.univ) (S := (oM.access (outR k)).set) subset_rfl) $$ Ho; iintro Ho
  rw [wp_ret]; imodintro
  isplitl [Hu]; · iexact Hu
  isplitl [Hv]; · iexact Hv
  iapply (Entails.of_eq (pointsTo_congr (oC_at m ρ c k fo))) $$ Ho

/-- The wait for chunk `k` from the neighbour along x, the sum, and its send along y. -/
theorem step_midX (fu : Buf (Elt F) (uM.view.loc (c : Thread nD τ))) (fv : Buf (Elt F) (vM.view.loc (yn c : Thread nD τ))) (k : Fin 8) (l : List (Fin 8)) :
    iprop((due c rX k ∗ turn c rX k ∗ tokY c k ∗ slotP uM fullShare c k fu ∗ slotP vM fullShare (yn c) k fv)
        ∗ records m ρ K ∗ levAts L lv ∗ keptP m ρ c ∗ owesE c (owedTo rY (yn c) (k :: l)))
      ⊢ run c (do recvX c k; addX c k; sendY c k) fun _ =>
        iprop((zero c rX k ∗ slotP rM fullShare c k (rC m ρ c) ∗ slotP uM fullShare.right c k (uC m ρ c) ∗ due c sY k)
          ∗ records m ρ K ∗ levAts L lv ∗ keptP m ρ c ∗ owesE c (owedTo rY (yn c) l)) := by
  rw [run_bind]
  unfold due turn zero tokY
  iintro ⟨⟨Hc, Hat, ⟨Ht₁, Ht₂⟩, Hu, Hv⟩, #HR, #Hl, Hp, HO⟩
  ihave H := (run_wait m ρ K c k rX _ (sem_rX k) (src := sendOf c k) (dst := slotOf rM k) (credit_r k) (owedTo rY (yn c) (k :: l))) $$ [Hc HO Hat]
  · isplitr; · iexact HR
    isplitl [Hc]; · iexact Hc
    isplitl [HO]; · iexact HO
    isplitr; · iapply (mayWait c (csem (some (rX, k))) _ (by rw [dec_csem]; exact above_owedTo (show 2 < 3 by decide) _)); iexact Hl
    iexact Hat
  iapply (run_wand c) $$ H
  iintro %_ ⟨HO, Hz, Hr⟩
  ihave Hr := (Entails.of_eq (show dmaPay m ρ rX k c = slotP rM fullShare c k (rC m ρ c) by unfold dmaPay; rw [if_neg (by decide), if_pos rfl])) $$ Hr
  rw [run_bind]
  ihave H := (run_addX m ρ c k fu) $$ [Hp Hr Hu]
  · isplitl [Hp]; · iexact Hp
    isplitl [Hr] <;> iassumption
  iapply (run_wand c) $$ H
  iintro %_ ⟨Hp, Hr, Hu⟩
  unfold slotP
  ihave Hu := (pointsTo_share (PosShare.mem_left_op_right fullShare)).1 $$ Hu
  icases Hu with ⟨Hul, Hur⟩
  ihave H := (run_send m ρ K c (yn c) _ (dev11_eq c) k sY rY _ _ (sem_sY k) (sem_rY k) (slotOf uM k) (slotOf vM k) (credit_v k) (uC m ρ c) fv
    (by unfold dmaPay slotP; rw [if_neg (by decide), if_neg (by decide), if_pos rfl])
    (by
      unfold dmaPay slotP
      rw [if_neg (by decide), if_neg (by decide), if_neg (by decide), yn_yn]
      exact Entails.of_eq (pointsTo_congr fun i hi => copy_uv k fv (uC m ρ c) i hi))
    (owedTo rY (yn c) l)) $$ [Hul Hv HO Ht₁ Ht₂]
  · isplitr; · iexact HR
    isplitl [Hul]; · iexact Hul
    isplitl [Hv]; · iexact Hv
    isplitl [HO]; · iexact HO
    isplitl [Ht₁] <;> iassumption
  iapply (run_wand c) $$ H
  iintro %_ ⟨Hc, HO⟩
  isplitr [Hp HO]
  · isplitl [Hz]; · iexact Hz
    isplitl [Hr]; · iexact Hr
    isplitl [Hur]; · iexact Hur
    iexact Hc
  isplitr; · iexact HR
  isplitr; · iexact Hl
  isplitl [Hp]; · iexact Hp
  iexact HO

/-- The wait for chunk `k` from the neighbour along y, and the result's rows. -/
theorem step_midY (fo : Buf (Elt F) (oM.view.loc (c : Thread nD τ))) (k : Fin 8) :
    iprop((due c rY k ∗ turn c rY k ∗ slotP uM fullShare.right c k (uC m ρ c) ∗ outP c k fo) ∗ records m ρ K ∗ owesE c 0)
      ⊢ run c (do recvY k; addY k) fun _ =>
        iprop((zero c rY k ∗ slotP uM fullShare.right c k (uC m ρ c) ∗ slotP vM fullShare c k (uC m ρ (yn c)) ∗ outP c k (oC m ρ c))
          ∗ records m ρ K ∗ owesE c 0) := by
  rw [run_bind]
  unfold due turn zero
  iintro ⟨⟨Hc, Hat, Hu, Ho⟩, #HR, HO⟩
  ihave H := (run_wait m ρ K c k rY _ (sem_rY k) (src := slotOf uM k) (dst := slotOf vM k) (credit_v k) 0) $$ [Hc HO Hat]
  · isplitr; · iexact HR
    isplitl [Hc]; · iexact Hc
    isplitl [HO]; · iexact HO
    isplitr; · rw [MayWait_zero]; iempintro
    iexact Hat
  iapply (run_wand c) $$ H
  iintro %_ ⟨HO, Hz, Hv⟩
  ihave Hv := (Entails.of_eq (show dmaPay m ρ rY k c = slotP vM fullShare c k (uC m ρ (yn c)) by
    unfold dmaPay; rw [if_neg (by decide), if_neg (by decide), if_neg (by decide)])) $$ Hv
  ihave H := (run_addY m ρ c k fo) $$ [Hu Hv Ho]
  · isplitl [Hu]; · iexact Hu
    isplitl [Hv] <;> iassumption
  iapply (run_wand c) $$ H
  iintro %_ ⟨Hu, Hv, Ho⟩
  isplitr [HO]
  · isplitl [Hz]; · iexact Hz
    isplitl [Hu]; · iexact Hu
    isplitl [Hv] <;> iassumption
  isplitr; · iexact HR
  iexact HO

/-- The wait for a device's own send of chunk `k`: the source comes back. -/
theorem step_sentX (k : Fin 8) :
    iprop((due c sX k ∗ turn c sX k) ∗ records m ρ K ∗ owesE c 0)
      ⊢ run c (sentX c k) fun _ => iprop((zero c sX k ∗ sendP fullShare.left c k (pC m ρ c)) ∗ records m ρ K ∗ owesE c 0) := by
  unfold due turn zero
  iintro ⟨⟨Hc, Hat⟩, #HR, HO⟩
  ihave H := (run_wait m ρ K c k sX _ (sem_sX k) (src := slotOf rM k) (dst := sendOf c k) (credit_p c k) 0) $$ [Hc HO Hat]
  · isplitr; · iexact HR
    isplitl [Hc]; · iexact Hc
    isplitl [HO]; · iexact HO
    isplitr; · rw [MayWait_zero]; iempintro
    iexact Hat
  iapply (run_wand c) $$ H
  iintro %_ ⟨HO, Hz, Hs⟩
  ihave Hs := (Entails.of_eq (show dmaPay m ρ sX k c = sendP fullShare.left c k (pC m ρ c) by unfold dmaPay; rw [if_pos rfl])) $$ Hs
  isplitr [HO]
  · isplitl [Hz] <;> iassumption
  isplitr; · iexact HR
  iexact HO
theorem step_sentY (k : Fin 8) :
    iprop((due c sY k ∗ turn c sY k) ∗ records m ρ K ∗ owesE c 0)
      ⊢ run c (sentY k) fun _ => iprop((zero c sY k ∗ slotP uM fullShare.left c k (uC m ρ c)) ∗ records m ρ K ∗ owesE c 0) := by
  unfold due turn zero
  iintro ⟨⟨Hc, Hat⟩, #HR, HO⟩
  ihave H := (run_wait m ρ K c k sY _ (sem_sY k) (src := slotOf vM k) (dst := slotOf uM k) (credit_u k) 0) $$ [Hc HO Hat]
  · isplitr; · iexact HR
    isplitl [Hc]; · iexact Hc
    isplitl [HO]; · iexact HO
    isplitr; · rw [MayWait_zero]; iempintro
    iexact Hat
  iapply (run_wand c) $$ H
  iintro %_ ⟨HO, Hz, Hs⟩
  ihave Hs := (Entails.of_eq (show dmaPay m ρ sY k c = slotP uM fullShare.left c k (uC m ρ c) by
    unfold dmaPay; rw [if_neg (by decide), if_neg (by decide), if_pos rfl])) $$ Hs
  isplitr [HO]
  · isplitl [Hz] <;> iassumption
  isplitr; · iexact HR
  iexact HO

end Loops

end Cert.ReduceProof

end
-- ==== Proof.Reduce.Pieces.lean ====
/-
The whole body of the reduction on one device: the buffers cut into their pieces, the barrier, the five loops,
and the pieces put together again.
-/
module

public import proofs.«01_k».proof.Proof.Reduce.Loops
public import Idealize.ShloMosaic.Lib.Ring

@[expose] public section

set_option maxRecDepth 16384

noncomputable section

namespace Cert.ReduceProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Buffers as pieces -/

theorem mem_slot_iff (k : Fin 8) (i : S8x128x1024.Idx) : i ∈ (slotR k).set ↔ slotNo i = k := by
  refine ⟨slot_mem, fun h => Rect.mem_set_unit.mpr fun a => ?_⟩
  have h0 : (i 0).val = k.val := congrArg Fin.val h
  match a with
  | ⟨0, _⟩ => exact ⟨h0.ge, by show (i 0).val < k.val + 1; omega⟩
  | ⟨1, _⟩ => exact ⟨Nat.zero_le _, by show (i 1).val < 0 + 128; have : (i 1).val < 128 := (i 1).isLt; omega⟩
  | ⟨2, _⟩ => exact ⟨Nat.zero_le _, by show (i 2).val < 0 + 1024; have : (i 2).val < 1024 := (i 2).isLt; omega⟩
theorem mem_out_iff (k : Fin 8) (i : S1024x1024.Idx) : i ∈ (outR k).set ↔ outNo i = k := by
  refine ⟨out_mem, fun h => Rect.mem_set_unit.mpr fun a => ?_⟩
  have h0 : (i 0).val / 128 = k.val := congrArg Fin.val h
  match a with
  | ⟨0, _⟩ => exact ⟨by show 128 * k.val ≤ (i 0).val; omega, by show (i 0).val < 128 * k.val + 128; omega⟩
  | ⟨1, _⟩ => exact ⟨Nat.zero_le _, by show (i 1).val < 0 + 1024; have : (i 1).val < 1024 := (i 1).isLt; omega⟩

/-- Slot `k` and result rows `k` as sets of their buffers' elements. -/
def slotSet (b : Memref sig .tc .vmem S8x128x1024 .bf16) (c : Dev nD) (k : Fin 8) : Finset (Idx (b.view.loc (c : Thread nD τ))) := (slotOf b k).view.set
def outSet (c : Dev nD) (k : Fin 8) : Finset (Idx (oM.view.loc (c : Thread nD τ))) := (oM.access (outR k)).set

/-- A buffer cut by labels is held piece by piece. -/
theorem cut_of_label {ℓ : Loc nD τ sig} (I : Fin 8 → Finset (Idx ℓ)) (no : Idx ℓ → Fin 8) (h : ∀ k i, i ∈ I k ↔ no i = k) (f : Buf (Elt F) ℓ) :
    (ℓ ↦{fullShare} f : sProp 𝕄) = bigSep Finset.univ fun k => ℓ ↦[I k]{fullShare} f :=
  Ring.pointsTo_blocks I (fun k k' hk => Finset.disjoint_left.mpr fun i hi hi' => hk (((h k i).mp hi).symm.trans ((h k' i).mp hi')))
    (Finset.eq_univ_iff_forall.mpr fun i => Finset.mem_biUnion.mpr ⟨no i, Finset.mem_univ _, (h _ i).mpr rfl⟩) f

theorem mem_slot_r (c : Dev nD) (k : Fin 8) (i : S8x128x1024.Idx) : i ∈ slotSet rM c k ↔ slotNo i = k := by
  unfold slotSet; rw [slot_set_r]; exact mem_slot_iff k i
theorem whole_r (c : Dev nD) (f : Buf (Elt F) ((c : Thread nD τ).loc cc0_scratch0)) :
    wholeP cc0_scratch0 c f = bigSep Finset.univ fun k => slotP (F := F) rM fullShare c k f :=
  cut_of_label (ℓ := (c : Thread nD τ).loc cc0_scratch0) (slotSet rM c) slotNo (mem_slot_r c) f
theorem mem_slot_u (c : Dev nD) (k : Fin 8) (i : S8x128x1024.Idx) : i ∈ slotSet uM c k ↔ slotNo i = k := by
  unfold slotSet; rw [slot_set_u]; exact mem_slot_iff k i
theorem whole_u (c : Dev nD) (f : Buf (Elt F) ((c : Thread nD τ).loc cc0_scratch1)) :
    wholeP cc0_scratch1 c f = bigSep Finset.univ fun k => slotP (F := F) uM fullShare c k f :=
  cut_of_label (ℓ := (c : Thread nD τ).loc cc0_scratch1) (slotSet uM c) slotNo (mem_slot_u c) f
theorem mem_slot_v (c : Dev nD) (k : Fin 8) (i : S8x128x1024.Idx) : i ∈ slotSet vM c k ↔ slotNo i = k := by
  unfold slotSet; rw [slot_set_v]; exact mem_slot_iff k i
theorem whole_v (c : Dev nD) (f : Buf (Elt F) ((c : Thread nD τ).loc cc0_scratch2)) :
    wholeP cc0_scratch2 c f = bigSep Finset.univ fun k => slotP (F := F) vM fullShare c k f :=
  cut_of_label (ℓ := (c : Thread nD τ).loc cc0_scratch2) (slotSet vM c) slotNo (mem_slot_v c) f
theorem mem_out (c : Dev nD) (k : Fin 8) (i : S1024x1024.Idx) : i ∈ outSet c k ↔ outNo i = k := by
  unfold outSet; rw [out_set]; exact mem_out_iff k i
theorem whole_o (c : Dev nD) (f : Buf (Elt F) ((c : Thread nD τ).loc cc0_stg1_0)) :
    wholeP cc0_stg1_0 c f = bigSep Finset.univ fun k => outP (F := F) c k f :=
  cut_of_label (ℓ := (c : Thread nD τ).loc cc0_stg1_0) (outSet c) outNo (mem_out c) f

theorem send_disjoint (c : Dev nD) (k k' : Fin 8) (h : k ≠ k') : Disjoint (sendOf c k).view.set (sendOf c k').view.set := by
  rw [send_set, send_set]
  refine Finset.disjoint_left.mpr fun i hi hi' => h (Fin.ext ?_)
  have h1 := (Rect.mem_set_unit.mp hi) 0
  have h2 := (Rect.mem_set_unit.mp hi') 0
  rw [k0_off1_eq] at h1 h2
  have h1' : 128 * k.val + 1024 - 1024 * (c.val / 2) ≤ (i 0).val ∧ (i 0).val < 128 * k.val + 1024 - 1024 * (c.val / 2) + 128 := h1
  have h2' : 128 * k'.val + 1024 - 1024 * (c.val / 2) ≤ (i 0).val ∧ (i 0).val < 128 * k'.val + 1024 - 1024 * (c.val / 2) + 128 := h2
  have : c.val < 4 := c.isLt
  omega

/-- The rows chunk `k` sends, as elements of the staged partial sums. -/
def sendSet (c : Dev nD) (k : Fin 8) : Finset (Idx (pM.view.loc (c : Thread nD τ))) := (sendOf c k).view.set

/-- The rows of the partial sums that no chunk sends. -/
def unsentP (c : Dev nD) : sProp 𝕄 :=
  pM.view.loc (c : Thread nD τ) ↦[Finset.univ \ Finset.univ.biUnion (sendSet c)]{fullShare.left} pC m ρ c

/-- The partial sums: a share that stays, and another cut into the rows each chunk sends and the rest. -/
theorem whole_p (c : Dev nD) : wholeP cc0_stg0_0 c (pC m ρ c)
    ⊣⊢ iprop((bigSep Finset.univ fun k => sendP fullShare.left c k (pC m ρ c)) ∗ unsentP m ρ c ∗ keptP m ρ c) := by
  have hB : (bigSep Finset.univ fun k => sendP (F := F) fullShare.left c k (pC m ρ c))
      = (pM.view.loc (c : Thread nD τ) ↦[Finset.univ.biUnion (sendSet c)]{fullShare.left} pC m ρ c) :=
    (pointsTo_biUnion (ℓ := pM.view.loc (c : Thread nD τ)) (f := pC m ρ c) Finset.univ (sendSet c) fun k _ k' _ h => send_disjoint c k k' h).symm
  rw [hB]
  unfold wholeP unsentP keptP
  rw [show (pM.view.set : Finset _) = Finset.univ from View.set_whole _]
  constructor
  · iintro H
    ihave H := (pointsTo_share (PosShare.mem_left_op_right fullShare)).1 $$ H
    icases H with ⟨Hl, Hr⟩
    ihave Hl := (pointsTo_split_subset (Finset.subset_univ (Finset.univ.biUnion (sendSet c)))).1 $$ Hl
    icases Hl with ⟨H1, H2⟩
    isplitl [H1]; · iexact H1
    isplitl [H2] <;> iassumption
  · iintro ⟨H1, H2, Hr⟩
    iapply (pointsTo_share (PosShare.mem_left_op_right fullShare)).2
    isplitr [Hr]
    · iapply (pointsTo_split_subset (Finset.subset_univ (Finset.univ.biUnion (sendSet c)))).2
      isplitl [H1] <;> iassumption
    · iexact Hr

end Cert.ReduceProof

end
-- ==== Proof.Reduce.Body.lean ====
/-
The whole body of the reduction on one device: the barrier, the five loops, and the library's body obligation.
-/
module

public import proofs.«01_k».proof.Proof.Reduce.Pieces

@[expose] public section

set_option maxRecDepth 16384

noncomputable section

namespace Cert.ReduceProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The loops over the eight chunks -/

theorem run_chunks (c : Dev nD) (p : Fin 8 → P (F := F) PUnit) (A B : Fin 8 → sProp 𝕄) (J : List (Fin 8) → sProp 𝕄)
    (h : ∀ k l, iprop(A k ∗ J (k :: l)) ⊢ run c (p k) fun _ => iprop(B k ∗ J l)) :
    iprop(bigSep Finset.univ A ∗ J chunks) ⊢ run c (each chunks p) fun _ => iprop(bigSep Finset.univ B ∗ J []) := by
  rw [bigSep_univ_eq_bigSepL chunks (by decide) (by decide), bigSep_univ_eq_bigSepL chunks (by decide) (by decide)]
  exact run_each c p A B J h chunks

/-! ## The barrier -/

section Meet
variable (K : Dev nD × Cell → ℕ) (c : Dev nD)

theorem mem_bar (d : Bool) : d ∈ (sched (F := F) m ρ).duties (kcell (c, none)) 0 := by rw [duties_eq]; exact Finset.mem_univ _

theorem payload_bar_x : (sched (F := F) m ρ).payload ((xn c : Thread nD τ), SemLoc.reg barS) 0 true = iprop(∃ f, wholeP (F := F) cc0_scratch0 c f) :=
  (payload_eq m ρ (xn c) none true).trans (by show barPay true (xn c) = _; unfold barPay; rw [if_pos rfl, xn_xn])
theorem payload_bar_y : (sched (F := F) m ρ).payload ((yn c : Thread nD τ), SemLoc.reg barS) 0 false = iprop(∃ f, wholeP (F := F) cc0_scratch2 c f) :=
  (payload_eq m ρ (yn c) none false).trans (by show barPay false (yn c) = _; unfold barPay; rw [if_neg Bool.false_ne_true, yn_yn])

theorem run_meet :
    iprop(records m ρ K ∗ levAts L lv ∗ owesE c (O₀ c) ∗ cred (T (c, none) 2) ∗ atPos ER (kcell (c, none)) 0 ∅ 0
        ∗ dutyTok ER (kcell (xn c, none)) 0 true ∗ dutyTok ER (kcell (yn c, none)) 0 false
        ∗ (∃ f, wholeP cc0_scratch0 c f) ∗ (∃ f, wholeP cc0_scratch2 c f))
      ⊢ run (F := F) c (meet c) fun _ => iprop(owesE c (owedTo rY (yn c) chunks + owedTo rX (xn c) chunks) ∗ semVal (kcell (c, none)) 0
        ∗ (∃ f, wholeP cc0_scratch0 (xn c) f) ∗ (∃ f, wholeP cc0_scratch2 (yn c) f)) := by
  unfold owesE meet
  iintro ⟨#HR, #Hl, ⟨%W, HO⟩, Hc, Hat, Htx, Hty, Hr, Hv⟩
  simp only [semSignalWord, semWaitWord, Prog.lift, Prog.bind_op, Prog.bind_ret, dev1_eq c, dev2_eq c]
  iapply (Rounds.wp_signal 𝒱₀ ER (sched m ρ) (c : Thread nD τ) none (dst := (xn c : Thread nD τ)) (sem := barS) (κ := K (xn c, none))
      (d := true) (mem_bar m ρ (xn c) true) ((amount_eq m ρ (xn c) none true).trans (by decide)) ()
      (owedTo rY (yn c) chunks + owedTo rX (xn c) chunks + T (yn c, none) 1) rfl) $$ [HO Htx Hr]
  · isplitr; · iapply (inv_at m ρ K (xn c, none)); iexact HR
    isplitl [HO]; · iexact HO
    isplitl [Htx]; · iexact Htx
    isplitl [Hr]
    · rw [payload_bar_x]; iexact Hr
    iapply (reached_at m ρ K (xn c, none)); iexact HR
  iintro HO
  iapply (Rounds.wp_signal 𝒱₀ ER (sched m ρ) (c : Thread nD τ) none (dst := (yn c : Thread nD τ)) (sem := barS) (κ := K (yn c, none))
      (d := false) (mem_bar m ρ (yn c) false) ((amount_eq m ρ (yn c) none false).trans (by decide)) ()
      (owedTo rY (yn c) chunks + owedTo rX (xn c) chunks) rfl) $$ [HO Hty Hv]
  · isplitr; · iapply (inv_at m ρ K (yn c, none)); iexact HR
    isplitl [HO]; · iexact HO
    isplitl [Hty]; · iexact Hty
    isplitl [Hv]
    · rw [payload_bar_y]; iexact Hv
    iapply (reached_at m ρ K (yn c, none)); iexact HR
  iintro HO
  iapply (Rounds.wp_wait_rest_token 𝒱₀ ER (sched m ρ) (c : Thread nD τ) none (sm := .reg barS) (κ := K (c, none))
      (wpE_semWait_eq 𝒱₀ (c : Thread nD τ) none Set.univ) (Set.mem_univ _) () (O := owedTo rY (yn c) chunks + owedTo rX (xn c) chunks) (W := W)
      (R := 0) (m := 0) (T := ∅) ((show 0 + _ = 2 by decide).trans (expect_bar m ρ c).symm)) $$ [Hc HO Hat]
  · isplitr; · iapply (inv_at m ρ K (c, none)); iexact HR
    isplitl [Hc]; · iexact Hc
    isplitl [HO]; · iexact HO
    isplitr
    · iapply (mayWait c (csem none) _ (by rw [dec_csem]; exact above_add (above_owedTo (show 1 < 3 by decide) _) (above_owedTo (show 1 < 2 by decide) _)))
      iexact Hl
    iexact Hat
  iintro ⟨HO, Hat, -, Hpay⟩
  ihave Hp := (show bigSep ((sched (F := F) m ρ).duties ((c : Thread nD τ), SemLoc.reg barS) 0 \ ∅)
    (fun d => (sched (F := F) m ρ).payload ((c : Thread nD τ), SemLoc.reg barS) 0 d) ⊢ iprop(barPay true c ∗ barPay (F := F) false c) from
      Entails.of_eq (rest_bar m ρ c)) $$ Hpay
  icases Hp with ⟨Hr, Hv⟩
  imod (Rounds.cell_close ER (sched m ρ) (Set.mem_univ (K (c, none))) (fun h => h) (R := 0 + 1) (duties_later m ρ (kcell (c, none)))) $$ [Hat] with Hz
  · isplitr; · iapply (inv_at m ρ K (c, none)); iexact HR
    iexact Hat
  rw [wp_ret]; imodintro
  isplitl [HO]; · iexists _; iexact HO
  isplitl [Hz]; · iexact Hz
  isplitl [Hr]
  · iapply (Entails.of_eq (show barPay (F := F) true c = _ by unfold barPay; rw [if_pos rfl])) $$ Hr
  · iapply (Entails.of_eq (show barPay (F := F) false c = _ by unfold barPay; rw [if_neg Bool.false_ne_true])) $$ Hv

end Meet

/-! ## The body -/

section Body
variable (K : Dev nD × Cell → ℕ) (c : Dev nD)

/-- What stays with device `c` of the protocol's ghost state: its turns, and the tokens of the duties it pays. -/
def linear : sProp 𝕄 :=
  iprop(atPos ER (kcell (c, none)) 0 ∅ 0
    ∗ ((bigSep Finset.univ (turn (F := F) c sX)) ∗ (bigSep Finset.univ (turn (F := F) c rX)) ∗ (bigSep Finset.univ (turn (F := F) c sY)) ∗ bigSep Finset.univ (turn (F := F) c rY))
    ∗ (dutyTok ER (kcell (xn c, none)) 0 true ∗ dutyTok ER (kcell (yn c, none)) 0 false)
    ∗ (bigSep Finset.univ (tokX (F := F) c)) ∗ bigSep Finset.univ (tokY (F := F) c))
/-- The credit other devices owe it. -/
def credits : sProp 𝕄 :=
  iprop(cred (T (c, none) 2) ∗ (bigSep Finset.univ (due (F := F) c rX)) ∗ bigSep Finset.univ (due (F := F) c rY))
/-- Its cells at zero. -/
def zeros : sProp 𝕄 :=
  iprop(semVal (kcell (c, none)) 0
    ∗ (bigSep Finset.univ (zero (F := F) c sX)) ∗ (bigSep Finset.univ (zero (F := F) c rX)) ∗ (bigSep Finset.univ (zero (F := F) c sY)) ∗ bigSep Finset.univ (zero (F := F) c rY))
/-- The three scratch buffers, at some contents. -/
def scratch : sProp 𝕄 :=
  iprop((∃ f, wholeP (F := F) cc0_scratch0 c f) ∗ (∃ f, wholeP (F := F) cc0_scratch1 c f) ∗ (∃ f, wholeP (F := F) cc0_scratch2 c f))

theorem run_deviceId {α : Type} (k : Dev nD → P (F := F) α) (Q : α → sProp 𝕄) :
    run c (Prog.lift TpuEff.deviceId >>= k) Q = run c (k c) Q := by
  simp only [Prog.lift, Prog.bind_op, Prog.bind_ret, wp_deviceId]

theorem run_prog :
    iprop(records m ρ K ∗ linear c ∗ credits c ∗ levAts L lv ∗ scratch c ∗ owesE c (O₀ c)
        ∗ wholeP cc0_stg0_0 c (pC m ρ c) ∗ (∃ f, wholeP cc0_stg1_0 c f))
      ⊢ run (F := F) c prog fun _ => iprop(scratch c ∗ zeros c ∗ owesE c 0
        ∗ wholeP cc0_stg0_0 c (pC m ρ c) ∗ wholeP cc0_stg1_0 c (oC m ρ c)) := by
  unfold linear credits scratch zeros prog
  iintro ⟨#HR, ⟨HatB, ⟨HsX, HrX, HsY, HrY⟩, ⟨HtB, HtB'⟩, HtX, HtY⟩, ⟨HcB, HcX, HcY⟩, #Hl, ⟨Hr, ⟨%fu, Hu⟩, Hv⟩, HO, Hp, ⟨%fo, Ho⟩⟩
  rw [run_deviceId, run_bind]
  ihave H := (run_meet m ρ K c) $$ [HO HcB HatB HtB HtB' Hr Hv]
  · isplitr; · iexact HR
    isplitr; · iexact Hl
    isplitl [HO]; · iexact HO
    isplitl [HcB]; · iexact HcB
    isplitl [HatB]; · iexact HatB
    isplitl [HtB]; · iexact HtB
    isplitl [HtB']; · iexact HtB'
    isplitl [Hr]; · iexact Hr
    iexact Hv
  iapply (run_wand c) $$ H
  iintro %_ ⟨HO, HzB, ⟨%fr, Hr⟩, ⟨%fv, Hv⟩⟩
  ihave Hr := (Entails.of_eq (whole_r (xn c) fr)) $$ Hr
  ihave Hv := (Entails.of_eq (whole_v (yn c) fv)) $$ Hv
  ihave Hu := (Entails.of_eq (whole_u c fu)) $$ Hu
  ihave Ho := (Entails.of_eq (whole_o c fo)) $$ Ho
  ihave Hp := (whole_p m ρ c).1 $$ Hp
  icases Hp with ⟨Hs, Hn, Hp⟩
  -- the sends along x
  rw [run_bind]
  ihave H := (run_chunks c (sendX c) _ _ (fun l => iprop(records m ρ K ∗ owesE c (owedTo rY (yn c) chunks + owedTo rX (xn c) l)))
    (fun k l => step_sendX m ρ K c fr (owedTo rY (yn c) chunks) k l)) $$ [HtX Hs Hr HO]
  · isplitr [HO]
    · rw [bigSep_sep', bigSep_sep']
      isplitl [HtX]; · iexact HtX
      isplitl [Hs] <;> iassumption
    · isplitr; · iexact HR
      iexact HO
  iapply (run_wand c) $$ H
  iintro %_ ⟨HdX, -, HO⟩
  ihave HO := (Entails.of_eq (show owesE (F := F) c (owedTo rY (yn c) chunks + owedTo rX (xn c) []) = owesE c (owedTo rY (yn c) chunks) by
    rw [show owedTo rX (xn c) [] = 0 from rfl, add_zero])) $$ HO
  -- the arrivals along x
  rw [run_bind]
  ihave H := (run_chunks c (fun k => do recvX c k; addX c k; sendY c k) _ _
    (fun l => iprop(records m ρ K ∗ levAts L lv ∗ keptP m ρ c ∗ owesE c (owedTo rY (yn c) l)))
    (fun k l => step_midX m ρ K c fu fv k l)) $$ [HcX HrX HtY Hu Hv Hp HO]
  · isplitr [Hp HO]
    · rw [bigSep_sep', bigSep_sep', bigSep_sep', bigSep_sep']
      isplitl [HcX]; · iexact HcX
      isplitl [HrX]; · iexact HrX
      isplitl [HtY]; · iexact HtY
      isplitl [Hu] <;> iassumption
    · isplitr; · iexact HR
      isplitr; · iexact Hl
      isplitl [Hp] <;> iassumption
  iapply (run_wand c) $$ H
  rw [bigSep_sep', bigSep_sep', bigSep_sep']
  iintro %_ ⟨⟨HzrX, Hr, Hur, HdY⟩, -, -, Hp, HO⟩
  -- the arrivals along y
  rw [run_bind]
  ihave H := (run_chunks c (fun k => do recvY k; addY k) _ _ (fun l => iprop(records m ρ K ∗ owesE c 0))
    (fun k l => step_midY m ρ K c fo k)) $$ [HcY HrY Hur Ho HO]
  · isplitr [HO]
    · rw [bigSep_sep', bigSep_sep', bigSep_sep']
      isplitl [HcY]; · iexact HcY
      isplitl [HrY]; · iexact HrY
      isplitl [Hur] <;> iassumption
    · isplitr; · iexact HR
      iexact HO
  iapply (run_wand c) $$ H
  rw [bigSep_sep', bigSep_sep', bigSep_sep']
  iintro %_ ⟨⟨HzrY, Hur, Hv, Ho⟩, -, HO⟩
  -- the waits for its own sends
  rw [run_bind]
  ihave H := (run_chunks c (sentX c) _ _ (fun l => iprop(records m ρ K ∗ owesE c 0)) (fun k l => step_sentX m ρ K c k)) $$ [HdX HsX HO]
  · isplitr [HO]
    · rw [bigSep_sep']
      isplitl [HdX] <;> iassumption
    · isplitr; · iexact HR
      iexact HO
  iapply (run_wand c) $$ H
  rw [bigSep_sep']
  iintro %_ ⟨⟨HzsX, Hs⟩, -, HO⟩
  ihave H := (run_chunks c sentY _ _ (fun l => iprop(records m ρ K ∗ owesE c 0)) (fun k l => step_sentY m ρ K c k)) $$ [HdY HsY HO]
  · isplitr [HO]
    · rw [bigSep_sep']
      isplitl [HdY] <;> iassumption
    · isplitr; · iexact HR
      iexact HO
  iapply (run_wand c) $$ H
  rw [bigSep_sep']
  iintro %_ ⟨⟨HzsY, Hul⟩, -, HO⟩
  -- the pieces together
  ihave Hu := (show iprop((bigSep Finset.univ fun k => slotP uM fullShare.left c k (uC m ρ c)) ∗ bigSep Finset.univ fun k => slotP uM fullShare.right c k (uC m ρ c))
      ⊢ (bigSep Finset.univ fun k => slotP uM fullShare c k (uC m ρ c) : sProp 𝕄) from by
        rw [← bigSep_sep']
        exact bigSep_mono fun k _ => (pointsTo_share (PosShare.mem_left_op_right fullShare)).2) $$ [Hul Hur]
  · isplitl [Hul] <;> iassumption
  isplitl [Hr Hu Hv]
  · isplitl [Hr]; · iexists (rC m ρ c); iapply (Entails.of_eq (whole_r c (rC m ρ c)).symm) $$ Hr
    isplitl [Hu]; · iexists (uC m ρ c); iapply (Entails.of_eq (whole_u c (uC m ρ c)).symm) $$ Hu
    iexists (uC m ρ (yn c)); iapply (Entails.of_eq (whole_v c (uC m ρ (yn c))).symm) $$ Hv
  isplitl [HzB HzsX HzrX HzsY HzrY]
  · isplitl [HzB]; · iexact HzB
    isplitl [HzsX]; · iexact HzsX
    isplitl [HzrX]; · iexact HzrX
    isplitl [HzsY] <;> iassumption
  isplitl [HO]; · iexact HO
  isplitl [Hs Hn Hp]
  · iapply (whole_p m ρ c).2
    isplitl [Hs]; · iexact Hs
    isplitl [Hn] <;> iassumption
  iapply (Entails.of_eq (whole_o c (oC m ρ c)).symm) $$ Ho

end Body

end Cert.ReduceProof

end
-- ==== Proof.Reduce.Launch.lean ====
/-
The launch of the reduction: what every device starts from, the ghost state dealt out, and the run of the
program.
-/
module

public import proofs.«01_k».proof.Proof.Reduce.Body
public import Idealize.ShloMosaic.Lib.Pipeline.CollectiveSegs

@[expose] public section

set_option maxRecDepth 16384

noncomputable section

namespace Cert.ReduceProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

/-- What the device's body starts from, but for its scratch buffers: the protocol's ghost state and credit. -/
def start (c : Dev nD) : sProp 𝕄 := iprop((∃ K, records m ρ K ∗ linear c) ∗ credits c ∗ levAts L lv)
def Φ₀ (c : Dev nD) : sProp 𝕄 := iprop(start m ρ c ∗ scratch c)
/-- After the body: the scratch buffers and every cell of the device at zero. -/
def Φ₁ (c : Dev nD) : sProp 𝕄 := iprop(scratch (F := F) c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => pC m ρ c
    | ⟨1, _⟩ => oC m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem fetched (t : Fin cfg0.N) : (cfg0.win (0 : Fin 2)).fetch t = true := by rw [fin_N0 t]; rfl

/-- A staging buffer owned whole, at the contents `X`. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_held (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns; simp only [Memref.view_whole, View.read_whole, View.set_whole]

def bodyPre (c : Dev nD) : sProp 𝕄 :=
  iprop(Φ₀ m ρ c ∗ (dats m ρ 0 c).owesAt () t0_0.castSucc
    ∗ (∃ d, held c cc0_stg0_0 ((dats m ρ 0 c).before (0 : Fin 2) t0_0 d))
    ∗ (∃ d, held c cc0_stg1_0 ((dats m ρ 0 c).before (1 : Fin 2) t0_0 d)))
def bodyPost (c : Dev nD) : sProp 𝕄 :=
  iprop(Φ₁ c ∗ (dats m ρ 0 c).owesAt () t0_0.succ ∗ held c cc0_stg0_0 (pC m ρ c) ∗ held c cc0_stg1_0 (oC m ρ c))

theorem run_body (c : Dev nD) : bodyPre m ρ c ⊢ run (F := F) c prog fun _ => bodyPost m ρ c := by
  unfold bodyPre bodyPost Φ₀ Φ₁ start Dat.owesAt Pipeline.owesWithin
  iintro ⟨⟨⟨⟨%K, #HR, Hlin⟩, Hcr, #Hl⟩, Hscr⟩, ⟨%W, -, HO⟩, ⟨%d0, %g0, %hg0, Hp⟩, ⟨%d1, %g1, -, Ho⟩⟩
  have hp : g0 = pC m ρ c := by rw [hg0]; unfold Dat.before; rw [if_pos (fetched t0_0)]; rfl
  subst hp
  have h := run_prog m ρ K c
  unfold owesE wholeP at h
  ihave H := h $$ [Hlin Hcr Hscr HO Hp Ho]
  · isplitr; · iexact HR
    isplitl [Hlin]; · iexact Hlin
    isplitl [Hcr]; · iexact Hcr
    isplitr; · iexact Hl
    isplitl [Hscr]; · iexact Hscr
    isplitl [HO]; · iexists W; iexact HO
    isplitl [Hp]; · iexact Hp
    iexists g1; iexact Ho
  iapply (run_wand c) $$ H
  iintro %_ ⟨Hscr, Hz, ⟨%W', HO⟩, Hp, Ho⟩
  isplitl [Hscr Hz]
  · isplitl [Hscr] <;> iassumption
  isplitl [HO]
  · iexists W'
    isplitr; · ipureintro; exact fun _ _ => Or.inl trivial
    iexact HO
  isplitl [Hp]
  · iexists _; isplitr; · (ipureintro; rfl)
    iexact Hp
  iexists _; isplitr; · (ipureintro; rfl)
  iexact Ho

theorem after_p (c : Dev nD) (t : Fin cfg0.N) : (dats m ρ 0 c).after (0 : Fin 2) t = pC m ρ c := rfl
theorem after_o (c : Dev nD) (t : Fin cfg0.N) : (dats m ρ 0 c).after (1 : Fin 2) t = oC m ρ c := by unfold dats; dsimp only
theorem phi_in (c : Dev nD) : (dats m ρ 0 c).Φ t0_0.castSucc = Φ₀ m ρ c := rfl
theorem phi_out (c : Dev nD) : (dats m ρ 0 c).Φ t0_0.succ = Φ₁ c := rfl

theorem body_obligation (c : Dev nD) : BodyObligation (dats (F := F) m ρ 0 c) (defs₀ (F := F)) 𝒱₀ () Set.univ := fun t => by
  rw [fin_N0 t]
  rw [bigSep_W, bigSep_W]
  simp only [owns_held]
  rw [show (defs₀ (F := F)) .tc cfg0.body (cfg0.bodyArgs t0_0 (cfg0.slots t0_0)) = prog from body_eq]
  rw [after_p, after_o, phi_in, phi_out]
  exact run_body m ρ c

/-! ## The ghost state dealt out -/

def osem (x : Fin 4 × Fin 8) : SemLoc sig := csem (some x)

theorem ownSemFacts : Pipeline.OwnSemFacts cfg0.spec osem where
  isScoped := by decide +kernel
  inj := fun x y h => Option.some.inj (csem_injective h)
  disj := by decide +kernel

theorem share_eq (c : Dev nD) (w : Fin cfg0.W) : (dats m ρ 0 c).share w = fullShare := by unfold Dat.share; split <;> rfl

/-- Every cell of every device, and two duty tokens of each. -/
def allCells : Finset (GSem nD τ sig) := Finset.univ.map ⟨kcell, kcell_injective⟩
def tokOf (p : (Dev nD × Cell) × Bool) : GSem nD τ sig × ℕ × Bool := (kcell p.1, 0, p.2)
theorem tokOf_injective : Function.Injective tokOf := fun p q h =>
  Prod.ext (kcell_injective (congrArg (fun x : GSem nD τ sig × ℕ × Bool => x.1) h)) (congrArg (fun x : GSem nD τ sig × ℕ × Bool => x.2.2) h)
def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

theorem bigSep_bool (Φ : Bool → sProp 𝕄) : bigSep Finset.univ Φ = iprop(Φ true ∗ Φ false) := bigSep_univ_eq_bigSepL [true, false] (by decide) (by decide) Φ

/-- The cells of a device: the barrier, and the four kinds of transfer cell. -/
theorem bigSep_cell (Φ : Cell → sProp 𝕄) : bigSep Finset.univ Φ = iprop(Φ none
    ∗ (bigSep Finset.univ fun k => Φ (some (sX, k))) ∗ (bigSep Finset.univ fun k => Φ (some (rX, k)))
    ∗ (bigSep Finset.univ fun k => Φ (some (sY, k))) ∗ bigSep Finset.univ fun k => Φ (some (rY, k))) := by
  have h : Finset.univ.erase (none : Cell) = Finset.univ.map Function.Embedding.some := by
    ext x; cases x <;> simp
  rw [bigSep_univ_at Φ none, h, bigSep_map, bigSep_univ_prod, bigSep_univ_eq_bigSepL [0, 1, 2, 3] (by decide) (by decide)]
  rfl

/-- A duty token of a cell. -/
abbrev tok (x : Cell) (b : Bool) (c : Dev nD) : sProp 𝕄 := dutyTok ER (kcell (c, x)) 0 b

/-- What the launch deals a device: its cells' rounds, its turns, and its cells' tokens. -/
def G (c : Dev nD) : sProp 𝕄 :=
  iprop((bigSep Finset.univ fun x : Cell => roundState ER (sched m ρ) (kcell (c, x)) 0)
    ∗ (bigSep Finset.univ fun x : Cell => iprop(atPos ER (kcell (c, x)) 0 ∅ 0 ∗ reached ER (kcell (c, x)) 0))
    ∗ bigSep Finset.univ fun x : Cell => iprop(tok x true c ∗ tok (F := F) x false c))

def G' (c : Dev nD) : sProp 𝕄 := iprop(∃ K, records m ρ K ∗ linear c)

theorem fund : BI.own (ER (initOf allCells allToks)) ⊢ (|==> bigSep Finset.univ (G (F := F) m ρ) : sProp 𝕄) := by
  have hX (Φ : GSem nD τ sig → sProp 𝕄) : bigSep allCells Φ = bigSep Finset.univ fun c : Dev nD => bigSep Finset.univ fun x : Cell => Φ (kcell (c, x)) := by
    unfold allCells; rw [bigSep_map, bigSep_univ_prod]; rfl
  have hT : bigSep allToks (fun x => (dutyTok ER x.1 x.2.1 x.2.2 : sProp 𝕄))
      = bigSep Finset.univ fun c : Dev nD => bigSep Finset.univ fun x : Cell => iprop(tok x true c ∗ tok (F := F) x false c) := by
    unfold allToks; rw [bigSep_map, bigSep_univ_prod, bigSep_univ_prod]
    exact bigSep_congr fun c _ => bigSep_congr fun x _ => bigSep_bool _
  iintro HX
  imod (Rounds.fund ER (sched m ρ) allCells allToks) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem unscoped_eq (c : Dev nD) : (unscopedSems0 c : sProp 𝕄) = semVal (kcell (c, none)) 0 := by
  unfold unscopedSems0; rw [bigSep_eq_bigSepL_of_eq [SemLoc.reg barS] (by decide) (by decide)]; rfl

theorem own_eq (c : Dev nD) : (Pipeline.ownSems0 (Ix := Unit) (Name := ℕ) (U := UU) (Lvl := ℕ) (Val := Elt F) (τ := τ) osem c : sProp 𝕄)
    = iprop((bigSep Finset.univ (zero (F := F) c sX)) ∗ (bigSep Finset.univ (zero (F := F) c rX)) ∗ (bigSep Finset.univ (zero (F := F) c sY)) ∗ bigSep Finset.univ (zero (F := F) c rY)) := by
  unfold Pipeline.ownSems0
  rw [bigSep_univ_prod, bigSep_univ_eq_bigSepL [0, 1, 2, 3] (by decide) (by decide)]
  rfl

theorem zeros_eq (c : Dev nD) : (zeros c : sProp 𝕄) = bigSep Finset.univ fun x : Cell => semVal (kcell (c, x)) 0 := by
  rw [bigSep_cell]; rfl
theorem zeros_split (c : Dev nD) :
    (zeros c : sProp 𝕄) = iprop(unscopedSems0 c ∗ Pipeline.ownSems0 (Ix := Unit) (Name := ℕ) (U := UU) (Lvl := ℕ) (Val := Elt F) (τ := τ) osem c) := by
  rw [own_eq, unscoped_eq]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x => iprop(∃ κ : ℕ, cellInv ER (sched m ρ) κ (kcell (c, x))))
          ∗ (bigSep Finset.univ fun x : Cell => iprop(atPos ER (kcell (c, x)) 0 ∅ 0 ∗ reached ER (kcell (c, x)) 0))
          ∗ bigSep Finset.univ fun x : Cell => iprop(tok x true c ∗ tok (F := F) x false c)) := by
  unfold G
  iintro ⟨Hos, Hus, Hst, Hat, Htok⟩
  ihave Hv := (Entails.of_eq ((zeros_split (F := F) c).symm.trans (zeros_eq c))) $$ [Hos Hus]
  · isplitl [Hus] <;> iassumption
  imod (show iprop((bigSep Finset.univ fun x : Cell => semVal (kcell (c, x)) 0) ∗ bigSep Finset.univ fun x : Cell => roundState ER (sched m ρ) (kcell (c, x)) 0)
      ⊢ (|={Set.univ}=> bigSep Finset.univ fun x => iprop(∃ κ : ℕ, cellInv ER (sched m ρ) κ (kcell (c, x))) : sProp 𝕄) from by
        rw [← bigSep_sep']
        exact (bigSep_mono fun x _ => (Rounds.body_intro ER (sched m ρ) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

/-- The tokens a device spends. -/
def spent (c : Dev nD) : sProp 𝕄 :=
  iprop((tok none true (xn c) ∗ tok none false (yn c)) ∗ (bigSep Finset.univ (tokX (F := F) c)) ∗ bigSep Finset.univ (tokY (F := F) c))

/-- They are dealt out of those of all devices' cells. -/
theorem toks_around :
    (bigSep Finset.univ fun c : Dev nD => bigSep Finset.univ fun x : Cell => iprop(tok x true c ∗ tok (F := F) x false c))
      ⊢ bigSep Finset.univ fun c => spent (F := F) c := by
  have hx (Φ : Dev nD → sProp 𝕄) : bigSep Finset.univ Φ = bigSep Finset.univ fun c => Φ (xn c) := bigSep_univ_equiv xEquiv Φ
  have hy (Φ : Dev nD → sProp 𝕄) : bigSep Finset.univ Φ = bigSep Finset.univ fun c => Φ (yn c) := bigSep_univ_equiv yEquiv Φ
  have ex (c : Dev nD) : bigSep Finset.univ (tokX (F := F) c)
      = bigSep Finset.univ fun k => iprop(tok (some (sX, k)) false c ∗ tok (some (rX, k)) false (xn c)) := rfl
  have ey (c : Dev nD) : bigSep Finset.univ (tokY (F := F) c)
      = bigSep Finset.univ fun k => iprop(tok (some (sY, k)) false c ∗ tok (some (rY, k)) false (yn c)) := rfl
  unfold spent
  simp only [bigSep_cell, ex, ey, bigSep_sep']
  rw [hx (tok none true), hy (tok none false), hx fun c => bigSep Finset.univ fun k => tok (some (rX, k)) false c,
    hy fun c => bigSep Finset.univ fun k => tok (some (rY, k)) false c]
  iintro ⟨⟨H1, -⟩, H2, H3, H4, H5, H6⟩
  isplitl [H1 H2]
  · isplitl [H1] <;> iassumption
  isplitl [H3 H4]
  · isplitl [H3] <;> iassumption
  isplitl [H5] <;> iassumption

theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem turns_eq (c : Dev nD) : (bigSep Finset.univ fun x : Cell => (atPos ER (kcell (c, x)) 0 ∅ 0 : sProp 𝕄))
    = iprop(atPos ER (kcell (c, none)) 0 ∅ 0
      ∗ ((bigSep Finset.univ (turn (F := F) c sX)) ∗ (bigSep Finset.univ (turn (F := F) c rX)) ∗ (bigSep Finset.univ (turn (F := F) c sY)) ∗ bigSep Finset.univ (turn (F := F) c rY))) := by
  rw [bigSep_cell]; rfl

theorem regroup :
    (bigSep Finset.univ fun c : Dev nD => iprop((bigSep Finset.univ fun x => iprop(∃ κ : ℕ, cellInv ER (sched m ρ) κ (kcell (c, x))))
          ∗ (bigSep Finset.univ fun x : Cell => iprop(atPos ER (kcell (c, x)) 0 ∅ 0 ∗ reached ER (kcell (c, x)) 0))
          ∗ bigSep Finset.univ fun x : Cell => iprop(tok x true c ∗ tok (F := F) x false c)) : sProp 𝕄)
      ⊢ bigSep Finset.univ (G' m ρ) := by
  rw [bigSep_sep', bigSep_sep', ← bigSep_univ_prod (fun p : Dev nD × Cell => iprop(∃ κ : ℕ, cellInv ER (sched m ρ) κ (kcell p))),
    bigSep_congr (s := Finset.univ) (fun (c : Dev nD) _ => bigSep_sep' Finset.univ (fun x : Cell => (atPos ER (kcell (c, x)) 0 ∅ 0 : sProp 𝕄)) (fun x => reached ER (kcell (c, x)) 0)),
    bigSep_sep', ← bigSep_univ_prod (fun p : Dev nD × Cell => (reached ER (kcell p) 0 : sProp 𝕄))]
  iintro ⟨HI, ⟨Hat, #HR⟩, Htok⟩
  ihave HK := (BI.bigSep_exists_pi Finset.univ (fun (p : Dev nD × Cell) (κ : ℕ) => (cellInv ER (sched m ρ) κ (kcell p) : sProp 𝕄))) $$ HI
  icases HK with ⟨%K, #HI⟩
  ihave Htk := (toks_around (F := F)) $$ Htok
  iapply (bigSep_beside (R := records m ρ K) (Φ := linear) fun c _ => by
    unfold G'; iintro ⟨#H1, H2⟩; iexists K; isplitr; · iexact H1
    iexact H2)
  isplitr
  · unfold records; isplitl; · iexact HI
    iexact HR
  · iapply ((Entails.of_eq (bigSep_sep' Finset.univ (fun c : Dev nD => bigSep Finset.univ fun x : Cell => (atPos ER (kcell (c, x)) 0 ∅ 0 : sProp 𝕄)) spent).symm).trans
      (bigSep_mono fun c _ => show _ ⊢ linear c from by
        rw [turns_eq]; unfold linear spent
        iintro ⟨⟨H1, H2⟩, H3, H4⟩
        isplitl [H1]; · iexact H1
        isplitl [H2]; · iexact H2
        isplitl [H3]; · iexact H3
        iexact H4))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem owedTo_other {a : Fin 4} {d : Dev nD} (q : Dev nD × Cell) (l : List (Fin 8)) (h : ∀ k, q.2 ≠ some (a, k)) :
    owedTo a d l (kcell q) () = 0 := by
  induction l with
  | nil => rfl
  | cons k l ih =>
    show (owedTo a d l + T (d, some (a, k)) N) (kcell q) () = 0
    rw [Pi.add_apply, Finsupp.add_apply, ih, T_apply, if_neg fun h' => h k (congrArg Prod.snd h')]
theorem owedTo_apply (a : Fin 4) (d c : Dev nD) (k : Fin 8) : owedTo a d chunks (kcell (c, some (a, k))) () = if c = d then N else 0 := by
  by_cases h : c = d
  · subst h
    have (l : List (Fin 8)) (hl : l.Nodup) : owedTo a c l (kcell (c, some (a, k))) () = if k ∈ l then N else 0 := by
      induction l with
      | nil => rfl
      | cons j l ih =>
        show (owedTo a c l + T (c, some (a, j)) N) (kcell (c, some (a, k))) () = _
        rw [Pi.add_apply, Finsupp.add_apply, ih (List.nodup_cons.mp hl).2, T_apply]
        by_cases hj : k = j
        · subst hj; rw [if_neg (List.nodup_cons.mp hl).1, if_pos rfl, if_pos (List.mem_cons_self ..), Nat.zero_add]
        · rw [if_neg (fun h' => hj (congrArg Prod.snd (Option.some.inj (congrArg Prod.snd h')))), Nat.add_zero]
          exact if_congr ⟨fun h => List.mem_cons_of_mem _ h, fun h => (List.mem_cons.mp h).resolve_left hj⟩ rfl rfl
    rw [this chunks (by decide), if_pos ((by decide : ∀ k : Fin 8, k ∈ chunks) k), if_pos rfl]
  · have (l : List (Fin 8)) : owedTo a d l (kcell (c, some (a, k))) () = 0 := by
      induction l with
      | nil => rfl
      | cons j l ih =>
        show (owedTo a d l + T (d, some (a, j)) N) (kcell (c, some (a, k))) () = 0
        rw [Pi.add_apply, Finsupp.add_apply, ih, T_apply, if_neg fun h' => h (congrArg Prod.fst h')]
    rw [this, if_neg h]

theorem bar_ne (c : Dev nD) (a : Fin 4) (k : Fin 8) : ((c, none) : Dev nD × Cell).2 ≠ some (a, k) := by simp
theorem ne_bar (c d : Dev nD) (a : Fin 4) (k : Fin 8) : ((c, some (a, k)) : Dev nD × Cell) ≠ (d, none) := by simp

theorem O₀_apply (d : Dev nD) (q : Dev nD × Cell) : O₀ d (kcell q) ()
    = owedTo rY (yn d) chunks (kcell q) () + owedTo rX (xn d) chunks (kcell q) () + (if q = (yn d, none) then 1 else 0) + (if q = (xn d, none) then 1 else 0) := by
  unfold O₀
  rw [Pi.add_apply, Finsupp.add_apply, Pi.add_apply, Finsupp.add_apply, Pi.add_apply, Finsupp.add_apply, T_apply, T_apply]

theorem owed_bar (d c : Dev nD) : O₀ d (kcell (c, none)) () = (if d = yn c then 1 else 0) + (if d = xn c then 1 else 0) := by
  rw [O₀_apply, owedTo_other _ _ (fun k => bar_ne c _ k), owedTo_other _ _ (fun k => bar_ne c _ k), Nat.add_zero, Nat.zero_add]
  exact congrArg₂ _ (if_congr ⟨fun h => yn_iff.mp (congrArg Prod.fst h), fun h => by rw [h, yn_yn]⟩ rfl rfl)
    (if_congr ⟨fun h => xn_iff.mp (congrArg Prod.fst h), fun h => by rw [h, xn_xn]⟩ rfl rfl)
theorem owed_rX (d c : Dev nD) (k : Fin 8) : O₀ d (kcell (c, some (rX, k))) () = if d = xn c then N else 0 := by
  rw [O₀_apply, owedTo_other _ _ (fun j h => absurd (congrArg Prod.fst (Option.some.inj h)) (show ¬ rX = rY by decide)), owedTo_apply,
    if_neg (ne_bar c _ _ k), if_neg (ne_bar c _ _ k), Nat.zero_add, Nat.add_zero]
  exact if_congr xn_iff rfl rfl
theorem owed_rY (d c : Dev nD) (k : Fin 8) : O₀ d (kcell (c, some (rY, k))) () = if d = yn c then N else 0 := by
  rw [O₀_apply, owedTo_apply, owedTo_other _ _ (fun j h => absurd (congrArg Prod.fst (Option.some.inj h)) (show ¬ rY = rX by decide)),
    if_neg (ne_bar c _ _ k), if_neg (ne_bar c _ _ k), Nat.add_zero]
  exact if_congr yn_iff rfl rfl

theorem launch_at (q : Dev nD × Cell) (n : ℕ) (h : ∑ d : Dev nD, O₀ d (kcell q) () = n) :
    tallyOn (kcell q) (launchCredit (Pipeline.owing O₀) 0 (kcell q)) = T q n := by
  unfold T tallyAt; refine congrArg _ (Finsupp.ext fun u => ?_); cases u
  exact (Pipeline.launchCredit_owing O₀ (kcell q) ()).trans (h.trans Finsupp.single_eq_same.symm)

theorem launch_bar (c : Dev nD) : tallyOn (kcell (c, none)) (launchCredit (Pipeline.owing O₀) 0 (kcell (c, none))) = T (c, none) 2 :=
  launch_at _ _ (by
    rw [Finset.sum_congr rfl fun d _ => owed_bar d c, Finset.sum_add_distrib,
      Finset.sum_ite_eq' Finset.univ (yn c) fun _ => 1, Finset.sum_ite_eq' Finset.univ (xn c) fun _ => 1, if_pos (Finset.mem_univ _), if_pos (Finset.mem_univ _)])
theorem launch_rX (c : Dev nD) (k : Fin 8) : tallyOn (kcell (c, some (rX, k))) (launchCredit (Pipeline.owing O₀) 0 (kcell (c, some (rX, k)))) = T (c, some (rX, k)) N :=
  launch_at _ _ (by
    rw [Finset.sum_congr rfl fun d _ => owed_rX d c k, Finset.sum_ite_eq' Finset.univ (xn c) fun _ => N, if_pos (Finset.mem_univ _)])
theorem launch_rY (c : Dev nD) (k : Fin 8) : tallyOn (kcell (c, some (rY, k))) (launchCredit (Pipeline.owing O₀) 0 (kcell (c, some (rY, k)))) = T (c, some (rY, k)) N :=
  launch_at _ _ (by
    rw [Finset.sum_congr rfl fun d _ => owed_rY d c k, Finset.sum_ite_eq' Finset.univ (yn c) fun _ => N, if_pos (Finset.mem_univ _)])

theorem creds (c : Dev nD) : (Pipeline.launchCred O₀ c : sProp 𝕄) ⊢ credits c := by
  have h : (Pipeline.launchCred O₀ c : sProp 𝕄) ⊢ bigSep Finset.univ fun x : Cell => cred (tallyOn (kcell (c, x)) (launchCredit (Pipeline.owing O₀) 0 (kcell (c, x)))) := by
    unfold Pipeline.launchCred
    exact (bigSep_subset (Finset.subset_univ (Finset.univ.map ⟨csem, csem_injective⟩))).trans (Entails.of_eq (bigSep_map _))
  refine h.trans ?_
  rw [bigSep_cell]
  unfold credits
  iintro ⟨H1, -, H2, -, H3⟩
  isplitl [H1]; · iapply (Entails.of_eq (congrArg cred (launch_bar c))) $$ H1
  isplitl [H2]
  · iapply (Entails.of_eq (bigSep_congr (s := Finset.univ) fun k _ => congrArg cred (launch_rX c k))) $$ H2
  · iapply (Entails.of_eq (bigSep_congr (s := Finset.univ) fun k _ => congrArg cred (launch_rY c k))) $$ H3

/-! ## The side conditions of the launch theorem -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem scratch_eq (c : Dev nD) : (scratch c : sProp 𝕄) = Pipeline.scopedRest cfg0.spec c := by
  rw [scopedRest0_eq]; rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, ← scratch_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ← scratch_eq]
  unfold Φ₁
  rw [zeros_split]
  iintro ⟨Hr, Hu, Ho⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    refine mayWait c _ _ ?_
    rw [show dec (SemLoc.dma ((cfgs 0).win w |>.sem s)) = none by fin_cases w <;> fin_cases s <;> decide]
    rcases t with ⟨_ | _, ht⟩
    · exact above_O₀ c
    · exact above_zero 0

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters every execution of the program ends, with every window's array at the computed
    contents and every counter at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_arg (c : Dev nD) : finalA m ρ c (0 : Fin 2) = (s₀ m ρ).mem (win0_0.arr.view.loc (c : Thread nD τ)) :=
  (dats (F := F) m ρ 0 c).arrAt_in (0 : Fin 2) rfl _

end Cert.ReduceProof

end
-- ==== Proof.Reduce.Value.lean ====
/-
The value of the reduction: every device's result rows are the sum of the four partial sums, and the plain
reference's result is the same sum.
-/
module

public import proofs.«01_k».proof.Proof.Reduce.Launch
public import proofs.«01_k».proof.Proof.Gen.ReferenceIdeal.Run
public import proofs.«01_k».proof.Defs
public import proofs.«01_k».proof.Proof.Gen.Kernel
public import Idealize.ShloMosaic.Lib.ValueIdx
public import Idealize.ShloMosaic.Lib.ValueLayout
public import Idealize.ShloMosaic.Lib.IdealHost
public import Idealize.ShloMosaic.Lib.Pointwise.Reduce
public import Idealize.ShloMosaic.Lib.Layout

@[expose] public section

set_option maxRecDepth 16384

noncomputable section

namespace Cert.ReduceProof

open Cert.KernelIdeal Cert.KernelIdeal.Gen
open Idealize.ShloMosaic hiding ix2 ix3 ix4
open Idealize.ShloMosaic.TcCoe
open Idealize.ShloMosaic.ValueIdx
open Idealize.SL.Sem

/-! ## The result buffer after the run -/

section Read
variable {F : FTy → Type} [FloatOps F]
variable (m : (ℓ : Loc nD τ sig) → Buf (Elt F) ℓ) (ρ : Dev nD → PrngReg)

theorem stage_zero : (fun a => (win0_0.index (0 : Fin 1)) a * main_arg0.ty.shape.size a) = fun _ => 0 :=
  funext fun a => by revert a; decide
theorem result_zero : (fun a => (win0_1.index (0 : Fin 1)) a * main_v1.ty.shape.size a) = fun _ => 0 :=
  funext fun a => by revert a; decide

/-- The staged block of the partial sums is the whole array. -/
theorem pC_eq (c : Dev nD) : pC m ρ c = m ((c : Thread nD τ).loc main_arg0) :=
  Memref.read_access_unit_zero (Elt F) main_arg0 stage_zero (fun a => by revert a; decide) _

/-- The result array ends at what the body left in the staged result. -/
theorem finalA_out (c : Dev nD) : finalA m ρ c (1 : Fin 2) = oC m ρ c := by
  have h : (win0_1.blk (0 : Fin 1)).view.read (Elt F) (finalA m ρ c (1 : Fin 2)) = oC m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    refine (View.read_write_univ _ _).trans ?_
    exact after_o m ρ c _
  exact (Memref.read_access_unit_zero (Elt F) main_v1 result_zero (fun a => by revert a; decide) _).symm.trans h

/-! ## Where the pieces lie -/

theorem slot_at (k : Fin 8) (s : Fin 128) (l : Fin 1024) : (slotR k).emb (ix3 (0 : Fin 1) s l) = (ix3 k s l : S8x128x1024.Idx) := by
  funext a; apply Fin.ext
  rw [Rect.emb_apply]
  match a with
  | ⟨0, _⟩ => show k.val + 1 * 0 = k.val; omega
  | ⟨1, _⟩ => show 0 + 1 * s.val = s.val; omega
  | ⟨2, _⟩ => show 0 + 1 * l.val = l.val; omega

theorem out_at (k : Fin 8) (s : Fin 128) (l : Fin 1024) (r : Fin 1024) (hr : r.val = 128 * k.val + s.val) :
    (outR k).emb (ix2 s l) = (ix2 r l : S1024x1024.Idx) := by
  funext a; apply Fin.ext
  rw [Rect.emb_apply]
  match a with
  | ⟨0, _⟩ => show 128 * k.val + 1 * s.val = r.val; omega
  | ⟨1, _⟩ => show 0 + 1 * l.val = l.val; omega

theorem keep_at (c : Dev nD) (k : Fin 8) (s : Fin 128) (l : Fin 1024) (r : Fin 2048) (hr : r.val = 1024 * (c.val / 2) + 128 * k.val + s.val) :
    (keepR c k).emb (ix2 s l) = (ix2 r l : S2048x1024.Idx) := by
  funext a; apply Fin.ext
  rw [Rect.emb_apply]
  have h0 : (keepR c k).off = ![1024 * (c.val / 2) + 128 * k.val, 0] := k0_off2_eq c k
  rw [h0]
  match a with
  | ⟨0, _⟩ => show 1024 * (c.val / 2) + 128 * k.val + 1 * s.val = r.val; omega
  | ⟨1, _⟩ => show 0 + 1 * l.val = l.val; omega

theorem send_at (c : Dev nD) (k : Fin 8) (s : Fin 128) (l : Fin 1024) (r : Fin 2048) (hr : r.val = 128 * k.val + 1024 - 1024 * (c.val / 2) + s.val) :
    (sendR c k).emb (ix2 s l) = (ix2 r l : S2048x1024.Idx) := by
  funext a; apply Fin.ext
  rw [Rect.emb_apply]
  have h0 : (sendR c k).off = ![128 * k.val + 1024 - 1024 * (c.val / 2), 0] := k0_off1_eq c k
  rw [h0]
  match a with
  | ⟨0, _⟩ => show 128 * k.val + 1024 - 1024 * (c.val / 2) + 1 * s.val = r.val; omega
  | ⟨1, _⟩ => show 0 + 1 * l.val = l.val; omega

/-- A load of slot `k`, of contents `g`. -/
theorem load_u (k : Fin 8) (s : Fin 128) (l : Fin 1024) (g : S8x128x1024.Idx → Elt F .bf16) :
    uM.view.readAt (Elt F) (slotR k).toLoadRect g (ix3 (0 : Fin 1) s l) = g (ix3 k s l) := congrArg g (slot_at k s l)
theorem load_v (k : Fin 8) (s : Fin 128) (l : Fin 1024) (g : S8x128x1024.Idx → Elt F .bf16) :
    vM.view.readAt (Elt F) (slotR k).toLoadRect g (ix3 (0 : Fin 1) s l) = g (ix3 k s l) := congrArg g (slot_at k s l)
theorem load_r (k : Fin 8) (s : Fin 128) (l : Fin 1024) (g : S8x128x1024.Idx → Elt F .bf16) :
    rM.view.readAt (Elt F) (slotR k).toLoadRect g (ix3 (0 : Fin 1) s l) = g (ix3 k s l) := congrArg g (slot_at k s l)
theorem load_p (c : Dev nD) (k : Fin 8) (s : Fin 128) (l : Fin 1024) (g : S2048x1024.Idx → Elt F .bf16) :
    pM.view.readAt (Elt F) (keepR c k).toLoadRect g (ix2 s l) = g ((keepR c k).emb (ix2 s l)) := rfl
/-- A store to slot `k`, of the vector `w`. -/
theorem slot_write (k : Fin 8) (s : Fin 128) (l : Fin 1024) (f : S8x128x1024.Idx → Elt F .bf16) (w : S1x128x1024.Idx → Elt F .bf16) :
    (uM.access (slotR k)).write (Elt F) f w Finset.univ (ix3 k s l) = w (ix3 (0 : Fin 1) s l) := by
  have h := View.write_emb_of_mem (v := uM.access (slotR k)) (Val := Elt F) f w (Finset.mem_univ (ix3 (0 : Fin 1) s l))
  rw [show (uM.access (slotR k)).emb (ix3 (0 : Fin 1) s l) = (ix3 k s l : S8x128x1024.Idx) from slot_at k s l] at h
  exact h

/-- Row `r` of the result of device `c`, as a row of the partial sums. -/
def rowOf (c : Dev nD) (r : Fin 1024) : Fin 2048 := ⟨1024 * (c.val / 2) + r.val, by have : c.val < 4 := c.isLt; omega⟩

theorem xn_row (c : Dev nD) : 1024 - 1024 * ((xn c).val / 2) = 1024 * (c.val / 2) := by revert c; decide
theorem yn_row (c : Dev nD) : (yn c).val / 2 = c.val / 2 := by revert c; decide

variable (k : Fin 8) (s : Fin 128) (l : Fin 1024) (r : Fin 1024)

theorem slotOf_at : (slotOf rM k).view.emb (ix2 s l) = (ix3 k s l : S8x128x1024.Idx) := by
  refine Eq.trans ?_ (slot_at k s l)
  show (slotR k).emb (Shape.reshapeEquiv _ (ix2 s l)) = _
  refine congrArg _ (Shape.reshapeEquiv_eq_of_rowMajor _ ?_)
  show (Shape.rowMajor ⟨3, ![1, 128, 1024]⟩ (ix3 (0 : Fin 1) s l)).val = (Shape.rowMajor ⟨2, ![128, 1024]⟩ (ix2 s l)).val
  rw [Shape.rowMajor_val_three, Shape.rowMajor_val_two]
  show (0 * 128 + s.val) * 1024 + l.val = s.val * 1024 + l.val
  omega

theorem rC_of (c : Dev nD) (i : S8x128x1024.Idx) (h : slotNo i = k) : rC m ρ c i
    = (slotOf rM k).view.write (Elt F) (some8 (F := F)) ((sendOf (xn c) k).view.read (Elt F) (pC m ρ (xn c))) Finset.univ i := by
  subst h; rfl
theorem uC_of (c : Dev nD) (i : S8x128x1024.Idx) (h : slotNo i = k) : uC m ρ c i
    = (uM.access (slotR k)).write (Elt F) (some8 (F := F)) (uPay m ρ c k) Finset.univ i := by
  subst h; rfl
theorem oC_of (c : Dev nD) (i : S1024x1024.Idx) (h : outNo i = k) : oC m ρ c i
    = (oM.access (outR k)).write (Elt F) (someO (F := F)) (oPay m ρ c k) Finset.univ i := by
  subst h; rfl

theorem rC_read (hr : r.val = 128 * k.val + s.val) (c : Dev nD) : rC m ρ c (ix3 k s l) = pC m ρ (xn c) (ix2 (rowOf c r) l) := by
  rw [rC_of m ρ k c (ix3 k s l) rfl]
  generalize pC m ρ (xn c) = g
  have h := View.write_emb_of_mem (v := (slotOf rM k).view) (Val := Elt F) (some8 (F := F))
    ((sendOf (xn c) k).view.read (Elt F) g) (Finset.mem_univ (ix2 s l))
  rw [slotOf_at k s l] at h
  refine h.trans ?_
  show g ((sendR (xn c) k).emb (ix2 s l)) = _
  rw [send_at (xn c) k s l (rowOf c r)]
  show 1024 * (c.val / 2) + r.val = _
  rw [← xn_row c]
  have : (xn c).val < 4 := (xn c).isLt
  omega

theorem uC_read (c : Dev nD) : uC m ρ c (ix3 k s l) = uPay m ρ c k (ix3 (0 : Fin 1) s l) := by
  rw [uC_of m ρ k c (ix3 k s l) rfl]
  exact slot_write k s l _ _

theorem oC_read (hr : r.val = 128 * k.val + s.val) (c : Dev nD) : oC m ρ c (ix2 r l) = oPay m ρ c k (ix2 s l) := by
  have h := View.write_emb_of_mem (v := oM.access (outR k)) (Val := Elt F) (someO (F := F)) (oPay m ρ c k)
    (Finset.mem_univ (ix2 s l))
  rw [show (oM.access (outR k)).emb (ix2 s l) = (ix2 r l : S1024x1024.Idx) from out_at k s l r hr] at h
  rw [oC_of m ρ k c (ix2 r l) (Fin.ext (by show r.val / 128 = k.val; omega))]
  exact h

end Read

/-! ## On extended reals -/

section AtIdeal
variable (m : (ℓ : Loc nD τ sig) → Buf (Elt Ideal) ℓ) (ρ : Dev nD → PrngReg)

/-- The staged partial sums of device `c`, as extended reals. -/
def pE (c : Dev nD) : S2048x1024.Idx → EReal := pC m ρ c

theorem pay_x (a : Vec Ideal S128x1024 .bf16) (b : Vec Ideal S1x128x1024 .bf16) (s : Fin 128) (l : Fin 1024) :
    k0_pay1 (F := Ideal) a b (ix3 (0 : Fin 1) s l) = ((a (ix2 s l) : EReal) + (b (ix3 (0 : Fin 1) s l) : EReal)) := by
  unfold k0_pay1
  refine (shapeCast_ab_1ab_apply _ _ (0 : Fin 1) s l).trans ?_
  refine congrArg₂ (fun x y : EReal => x + y) ?_ (shapeCast_1ab_ab_apply b _ s l)
  exact congrFun (shapeCast_self a _) (ix2 s l)

theorem pay_y (a b : Vec Ideal S1x128x1024 .bf16) (s : Fin 128) (l : Fin 1024) :
    k0_pay12 (F := Ideal) a b (ix2 s l) = ((a (ix3 (0 : Fin 1) s l) : EReal) + (b (ix3 (0 : Fin 1) s l) : EReal)) :=
  congrArg₂ (fun x y : EReal => x + y) (shapeCast_1ab_ab_apply a _ s l) (shapeCast_1ab_ab_apply b _ s l)

theorem uC_value (k : Fin 8) (s : Fin 128) (l r : Fin 1024) (hr : r.val = 128 * k.val + s.val) (c : Dev nD) :
    uC m ρ c (ix3 k s l) = (pE m ρ c (ix2 (rowOf c r) l) + pE m ρ (xn c) (ix2 (rowOf c r) l) : EReal) := by
  rw [uC_read m ρ k s l c]
  unfold uPay
  rw [pay_x]
  refine congrArg₂ (fun x y : EReal => x + y) ?_ ?_
  · rw [load_p, keep_at c k s l (rowOf c r)]
    · rfl
    show 1024 * (c.val / 2) + r.val = _
    omega
  · rw [load_r]
    exact rC_read m ρ k s l r hr c

/-- An element of a device's result: the sum of the four devices' partial sums there. -/
theorem oC_value (c : Dev nD) (r l : Fin 1024) :
    oC m ρ c (ix2 r l) = ((pE m ρ c (ix2 (rowOf c r) l) + pE m ρ (xn c) (ix2 (rowOf c r) l))
      + (pE m ρ (yn c) (ix2 (rowOf c r) l) + pE m ρ (xn (yn c)) (ix2 (rowOf c r) l)) : EReal) := by
  have hr : r.val = 128 * (⟨r.val / 128, by omega⟩ : Fin 8).val + (⟨r.val % 128, by omega⟩ : Fin 128).val := by
    show r.val = 128 * (r.val / 128) + r.val % 128; omega
  rw [oC_read m ρ _ _ l r hr c]
  unfold oPay
  rw [pay_y]
  refine congrArg₂ (fun x y : EReal => x + y) ?_ ?_
  · rw [load_u]
    exact uC_value m ρ _ _ l r hr c
  · rw [load_v, uC_value m ρ _ _ l r hr (yn c)]
    rw [show rowOf (yn c) r = rowOf c r from Fin.ext (by show 1024 * ((yn c).val / 2) + _ = 1024 * (c.val / 2) + _; rw [yn_row])]

end AtIdeal

/-! ## The reference's sum -/

section Reference

/-- Row `a`, column `b` of the blocks, at row `i` and column `l` of the block. -/
def cell (a b : Fin 2) (i : Fin 2048) (l : Fin 1024) : (⟨2, ![4096, 2048]⟩ : Shape).Idx :=
  ix2 (⟨2048 * a.val + i.val, by omega⟩ : Fin 4096) (⟨1024 * b.val + l.val, by omega⟩ : Fin 2048)

/-- The reference's result: the sum of the four blocks. -/
def total (P : (⟨2, ![4096, 2048]⟩ : Shape).Idx → EReal) : (⟨2, ![2048, 1024]⟩ : Shape).Idx → EReal := fun j =>
  ∑ a : Fin 2, ∑ b : Fin 2, P (cell a b (j 0) (j 1))

/-- The elements of the four-axis array that are summed into one element of the result. -/
theorem drop_iff (h : (⟨4, ![2, 2048, 2, 1024]⟩ : Shape).ReducesTo [0, 2] (⟨2, ![2048, 1024]⟩ : Shape)) (j : (⟨2, ![2048, 1024]⟩ : Shape).Idx)
    (i : (⟨4, ![2, 2048, 2, 1024]⟩ : Shape).Idx) : h.drop i = j ↔ ∃ k : Fin 2 × Fin 2, ix4 k.1 (j 0) k.2 (j 1) = i := by
  refine ⟨fun e => ⟨(i 0, i 2), ?_⟩, ?_⟩
  · subst e
    funext a
    match a with
    | ⟨0, _⟩ => rfl
    | ⟨1, _⟩ => rfl
    | ⟨2, _⟩ => rfl
    | ⟨3, _⟩ => rfl
  · rintro ⟨k, rfl⟩
    funext b
    match b with
    | ⟨0, _⟩ => rfl
    | ⟨1, _⟩ => rfl

theorem cell_pos (a b : Fin 2) (i : Fin 2048) (l : Fin 1024) : (Shape.rowMajor ⟨2, ![4096, 2048]⟩ (cell a b i l)).val
    = (Shape.rowMajor ⟨4, ![2, 2048, 2, 1024]⟩ (ix4 a i b l)).val := by
  rw [Shape.rowMajor_val_two, Shape.rowMajor_val_four]
  show (2048 * a.val + i.val) * 2048 + (1024 * b.val + l.val) = ((a.val * 2048 + i.val) * 2 + b.val) * 1024 + l.val
  omega

/-- A sum over the elements that drop to `j`, whichever way the elements are told apart. -/
theorem sum_drop (h : (⟨4, ![2, 2048, 2, 1024]⟩ : Shape).ReducesTo [0, 2] (⟨2, ![2048, 1024]⟩ : Shape)) (j : (⟨2, ![2048, 1024]⟩ : Shape).Idx)
    (d : DecidablePred fun i => h.drop i = j) (v : (⟨4, ![2, 2048, 2, 1024]⟩ : Shape).Idx → EReal) :
    ∑ i ∈ Finset.univ.filter (fun i => h.drop i = j), v i = ∑ a : Fin 2, ∑ b : Fin 2, v (ix4 a (j 0) b (j 1)) := by
  classical
  exact (@Finset.sum_filter_eq_sum_of_fiber _ _ EReal _ _ _ _ (fun i => h.drop i = j) d (fun k : Fin 2 × Fin 2 => ix4 k.1 (j 0) k.2 (j 1))
    (fun _ _ e => Prod.ext (congrFun e 0) (congrFun e 2)) (drop_iff h j) v).trans (Fintype.sum_prod_type _)

theorem reference_value (P : FVec Ideal ⟨2, ![4096, 2048]⟩ .bf16) (hx) (hc) (hR) (hu) :
    (Host.reduceAdd (F := Ideal) (s := ⟨4, ![2, 2048, 2, 1024]⟩) (axes := [0, 2]) (t := ⟨2, ![2048, 1024]⟩)
      (shapeCast _ (extf .f32 P hx) hc) (constant ⟨0, ![]⟩ .f32 0x00000000#32) hR hu : _ → EReal) = total P := by
  funext j
  rw [hostReduceAdd_apply]
  unfold Ideal.hostReduceAdd
  rw [sum_drop hR j]
  rw [constant_apply, Ideal.ofBits_zero_f32, zero_add]
  exact Finset.sum_congr rfl fun a _ => Finset.sum_congr rfl fun b _ =>
    (shapeCast_apply _ hc _ (cell a b (j 0) (j 1)) (cell_pos a b (j 0) (j 1))).trans rfl

end Reference

/-! ## The claims -/

/-- The coordinates of a device on the mesh. -/
def rowC (c : Dev nD) : Fin 2 := ⟨c.val / 2, by have : c.val < 4 := c.isLt; omega⟩
def colC (c : Dev nD) : Fin 2 := ⟨c.val % 2, by omega⟩

theorem lin_x : ∀ c : Dev nD, Layout.meshLin [2, 2] c.val [0] = c.val / 2 := by decide
theorem lin_y : ∀ c : Dev nD, Layout.meshLin [2, 2] c.val [1] = c.val % 2 := by decide
theorem lin_none : ∀ c : Dev nD, Layout.meshLin [2, 2] c.val [] = 0 := by decide

/-- A device's block of the whole partial sums. -/
theorem block_in (c : Dev nD) (P : (⟨2, ![4096, 2048]⟩ : Shape).Idx → EReal) (i : Fin 2048) (l : Fin 1024) :
    (Layout.blockN ⟨2, ![2048, 1024]⟩ ⟨2, ![4096, 2048]⟩ (Layout.meshBlock [2, 2] ![[0], [1]] c) P : _ → EReal) (ix2 i l)
      = P (cell (rowC c) (colC c) i l) := by
  refine congrArg P (funext fun a => Fin.ext ?_)
  rw [Layout.TilesN.idx_val]
  match a with
  | ⟨0, _⟩ => show Layout.meshLin [2, 2] c.val [0] * 2048 + i.val = 2048 * (c.val / 2) + i.val; rw [lin_x]; omega
  | ⟨1, _⟩ => show Layout.meshLin [2, 2] c.val [1] * 1024 + l.val = 1024 * (c.val % 2) + l.val; rw [lin_y]; omega

/-- A device's block of the whole result. -/
theorem block_out (c : Dev nD) (v : (⟨2, ![2048, 1024]⟩ : Shape).Idx → EReal) (r l : Fin 1024) :
    (Layout.blockN ⟨2, ![1024, 1024]⟩ ⟨2, ![2048, 1024]⟩ (Layout.meshBlock [2, 2] ![[0], []] c) v : _ → EReal) (ix2 r l)
      = v (ix2 (rowOf c r) l) := by
  refine congrArg v (funext fun a => Fin.ext ?_)
  rw [Layout.TilesN.idx_val]
  match a with
  | ⟨0, _⟩ => show Layout.meshLin [2, 2] c.val [0] * 1024 + r.val = 1024 * (c.val / 2) + r.val; rw [lin_x]; omega
  | ⟨1, _⟩ => show Layout.meshLin [2, 2] c.val [] * 1024 + l.val = l.val; rw [lin_none]; omega

theorem near (c : Dev nD) : rowC (xn c) = 1 - rowC c ∧ colC (xn c) = colC c ∧ rowC (yn c) = rowC c ∧ colC (yn c) = 1 - colC c
    ∧ rowC (xn (yn c)) = 1 - rowC c ∧ colC (xn (yn c)) = 1 - colC c := by revert c; decide

theorem sum_two {M : Type} [AddCommMonoid M] (f : Fin 2 → M) (a : Fin 2) : f a + f (1 - a) = ∑ b : Fin 2, f b := by
  rw [Fin.sum_univ_two]
  match a with
  | ⟨0, _⟩ => rfl
  | ⟨1, _⟩ => exact add_comm _ _

/-- The four devices' shares in the order a device adds them are the sum over the mesh. -/
theorem sum_mesh (f : Fin 2 → Fin 2 → EReal) (c : Dev nD) :
    (f (rowC c) (colC c) + f (rowC (xn c)) (colC (xn c)))
      + (f (rowC (yn c)) (colC (yn c)) + f (rowC (xn (yn c))) (colC (xn (yn c)))) = ∑ a : Fin 2, ∑ b : Fin 2, f a b := by
  obtain ⟨h1, h2, h3, h4, h5, h6⟩ := near c
  rw [h1, h2, h3, h4, h5, h6, add_add_add_comm, sum_two (f (rowC c)), sum_two (f (1 - rowC c)), sum_two (fun a => ∑ b : Fin 2, f a b)]

theorem result_value (m : (ℓ : Loc nD τ sig) → Buf (Elt Ideal) ℓ) (ρ : Dev nD → PrngReg) (P : (⟨2, ![4096, 2048]⟩ : Shape).Idx → EReal)
    (h : ∀ c : Dev nD, m ((c.tc : Thread nD τ).loc main_arg0) = Layout.blockN ⟨2, ![2048, 1024]⟩ ⟨2, ![4096, 2048]⟩ (Layout.meshBlock [2, 2] ![[0], [1]] c) P)
    (c : Dev nD) : oC m ρ c = Layout.blockN ⟨2, ![1024, 1024]⟩ ⟨2, ![2048, 1024]⟩ (Layout.meshBlock [2, 2] ![[0], []] c) (total P) := by
  funext i
  obtain ⟨r, l, rfl⟩ : ∃ (r l : Fin 1024), i = ix2 r l := ⟨i 0, i 1, funext fun a => by match a with | ⟨0, _⟩ => rfl | ⟨1, _⟩ => rfl⟩
  have hp : ∀ d : Dev nD, pE m ρ d (ix2 (rowOf c r) l) = P (cell (rowC d) (colC d) (rowOf c r) l) := fun d =>
    (congrFun ((pC_eq m ρ d).trans (h d)) _).trans (block_in d P (rowOf c r) l)
  refine (oC_value m ρ c r l).trans ?_
  rw [hp, hp, hp, hp]
  refine Eq.trans ?_ (block_out c (total P) r l).symm
  exact sum_mesh (fun a b => P (cell a b (rowOf c r) l)) c

theorem frame_kernelIdeal : Cert.quiescent_KernelIdeal := fun m ρ _ =>
  (θ_run defs _ _).mono (fun _ h => ⟨fun c => (h.1 c (0 : Fin 2)).trans (finalA_arg m ρ c), h.2⟩) (run_main (F := Ideal) m ρ)

/-- The two programs have the same body table. -/
theorem defs_eq : Cert.Kernel.defs (F := Bits) = Cert.KernelIdeal.defs (F := Bits) := by
  have h : Cert.Kernel.defs₀ (F := Bits) = Cert.KernelIdeal.defs₀ (F := Bits) := by
    unfold Cert.Kernel.defs₀ Cert.KernelIdeal.defs₀
    refine congrArg Defs.onTc (funext fun l => funext fun a => ?_)
    match l, a with
    | ⟨0, _⟩, (t, s) => rfl
    | ⟨n + 1, hn⟩, _ => exact absurd hn (Nat.not_lt.2 (Nat.le_add_left _ _))
  exact congrArg (Pipeline.defs (Cert.KernelIdeal.pcfgs (F := Bits))) h

theorem frame_kernel : Cert.quiescent_Kernel := fun m ρ _ => by
  rw [defs_eq]
  exact (θ_run Cert.KernelIdeal.defs _ _).mono (fun _ h => ⟨fun c => (h.1 c (0 : Fin 2)).trans (finalA_arg m ρ c), h.2⟩) (run_main (F := Bits) m ρ)

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem algebraic : Cert.algebraic_KernelIdeal_ReferenceIdeal := by
  intro m ρ m' ρ' _ hagree
  refine ⟨total (m' (((0 : Dev Cert.ReferenceIdeal.nD).tc : Thread Cert.ReferenceIdeal.nD Cert.ReferenceIdeal.τ).loc Cert.ReferenceIdeal.main_arg0)), ?_, ?_⟩
  · exact (θ_run defs _ _).mono (fun _ h c => ⟨((h.1 c (1 : Fin 2)).trans (finalA_out m ρ c)).trans (result_value m ρ _ hagree c),
      (h.1 c (0 : Fin 2)).trans (finalA_arg m ρ c)⟩) (run_main (F := Ideal) m ρ)
  · exact (θ_run Cert.ReferenceIdeal.defs _ _).mono (fun _ h => ⟨(h 0).1.trans (reference_value _ _ _ _ _), (h 0).2⟩)
      (Cert.ReferenceIdeal.Value.run (F := Ideal) m' ρ')

end Cert.ReduceProof

end
-- ==== Proof.Exchange.Prog.lean ====
/-
The body of the exchange, cut into named steps.

The printed body is one straight line in parts.  Here it is stated step by step, and the two are equal by
unfolding.
-/
module

public import proofs.«01_k».proof.Proof.Gen.ExchangeIdeal.Skeleton

@[expose] public section

set_option maxRecDepth 16384

noncomputable section

namespace Cert.ExchangeProof

open Cert.ExchangeIdeal Cert.ExchangeIdeal.Gen
open Idealize.ShloMosaic Idealize.ShloMosaic.TcCoe
open Idealize.SL.Sem

variable {F : FTy → Type} [FloatOps F]

/-! ## The buffers and their pieces -/

/-- The staged tokens and router columns, the two staged results, and the three scratch buffers. -/
abbrev xM : Memref sig .tc .vmem S1024x1024 .f32 := Memref.whole cc0_stg0_0
abbrev wM : Memref sig .tc .vmem S1024x8 .f32 := Memref.whole cc0_stg1_0
abbrev tM : Memref sig .tc .vmem S2048x1024 .bf16 := Memref.whole cc0_stg2_0
abbrev gM : Memref sig .tc .vmem S2048x16 .f32 := Memref.whole cc0_stg3_0
abbrev hM : Memref sig .tc .vmem S1024x1024 .bf16 := Memref.whole cc0_scratch0
abbrev vM : Memref sig .tc .vmem S1024x8 .f32 := Memref.whole cc0_scratch1
abbrev yM : Memref sig .tc .vmem S1024x16 .f32 := Memref.whole cc0_scratch2

/-- A whole scratch buffer as the rectangle that the loads and stores name. -/
abbrev allX : Rect S1024x1024 := Rect.unit (s := S1024x1024) ![0, 0] S1024x1024.size inb_S1024x1024_S1024x1024_0_0
abbrev allW : Rect S1024x8 := Rect.unit (s := S1024x8) ![0, 0] S1024x8.size inb_S1024x8_S1024x8_0_0
abbrev allY : Rect S1024x16 := Rect.unit (s := S1024x16) ![0, 0] S1024x16.size inb_S1024x16_S1024x16_0_0

/-- The rows of the two results that device `d` computes: as its transfers name them, and as its stores do. -/
abbrev rowsT (d : Dev nD) : Rect S2048x1024 := Rect.unit (s := S2048x1024) (k0_off1 d) S1024x1024.size (k0_off1_inb d)
abbrev ownT (d : Dev nD) : Rect S2048x1024 := Rect.unit (s := S2048x1024) (k0_off2 d) S1024x1024.size (k0_off2_inb d)
abbrev rowsG (d : Dev nD) : Rect S2048x16 := Rect.unit (s := S2048x16) (k0_off3 d) S1024x16.size (k0_off3_inb d)
abbrev ownG (d : Dev nD) : Rect S2048x16 := Rect.unit (s := S2048x16) (k0_off4 d) S1024x16.size (k0_off4_inb d)
abbrev tOf (d : Dev nD) : Memref sig .tc .vmem S1024x1024 .bf16 := tM.slice (rowsT d) (fun _ => rfl)
abbrev gOf (d : Dev nD) : Memref sig .tc .vmem S1024x16 .f32 := gM.slice (rowsG d) (fun _ => rfl)

theorem sem_inb : ∀ (k : Fin 6) (a), (![k.val] : Fin 1 → Nat) a + S1.size a ≤ S6.size a := by decide +kernel
/-- Entry `k` of the semaphore array. -/
abbrev semOf (k : Fin 6) : DmaSem sig :=
  ((cc0_scratch3.slice (Rect.unit (s := S6) ![k.val] S1.size (sem_inb k))).squeeze S_ squeezes_S1_S_).sem

/-! ## The steps -/

abbrev P (α : Type) : Type 1 := Prog (TpuEff nD τ sig (Elt F) Λ₀ .tc) α

/-- The neighbour is told that the device is in the region, and the device waits for it. -/
def meet (d : Dev nD) : P (F := F) PUnit := do
  semSignalWord (⟨k0_dev1 d, k0_dev1_lt d⟩ : Dev nD) (SemArray.scalar (sig.barrier 0 rfl) : Sems sig S_).sem 1#32
  semWaitWord (SemArray.scalar (sig.barrier 0 rfl) : Sems sig S_).sem 1#32

/-- The tokens, narrowed, into the first scratch buffer. -/
def narrow : P (F := F) PUnit := do
  let a : Vec F S1024x1024 .f32 ← Prog.lift (.load xM allX.toLoadRect (View.loadsAt_vmem h_S1024x1024))
  let _ : Vec F S1024x1024 .bf16 ← Prog.lift (.load hM allX.toLoadRect (View.loadsAt_vmem h_S1024x1024))
  Prog.lift (.store hM allX (k0_pay1 a) Finset.univ (View.stores_vmem h_S1024x1024
    ((Memref.isWhole_whole _).storeExact_slice rfl _ packedbf16_S1024x1024_S1024x1024_0_0) (fun _ => rfl)) (.inl rfl))

/-- The narrowed tokens, the router columns and the scores start on their way. -/
def sendT (d : Dev nD) : P (F := F) PUnit :=
  Prog.lift (.enqueueDma hM (.remote (Dev.tc (⟨k0_dev2 d, k0_dev2_lt d⟩ : Dev nD)) (tOf d) (.dma (semOf 0))) (.dma (semOf 1))
    (Memref.isWhole_whole _).wordExact ((Memref.isWhole_whole _).wordExact_slice rfl _ (k0_off1_wordsbf16 d)) ⟨⟨rfl, Or.inl rfl⟩, trivial⟩)
def sendW (d : Dev nD) : P (F := F) PUnit :=
  Prog.lift (.enqueueDma wM (.remote (Dev.tc (⟨k0_dev3 d, k0_dev3_lt d⟩ : Dev nD)) vM (.dma (semOf 2))) (.dma (semOf 3))
    (Memref.isWhole_whole _).wordExact (Memref.isWhole_whole _).wordExact ⟨⟨rfl, Or.inl rfl⟩, trivial⟩)
def sendG (d : Dev nD) : P (F := F) PUnit :=
  Prog.lift (.enqueueDma yM (.remote (Dev.tc (⟨k0_dev4 d, k0_dev4_lt d⟩ : Dev nD)) (gOf d) (.dma (semOf 4))) (.dma (semOf 5))
    (Memref.isWhole_whole _).wordExact (View.wordExact_bits rfl) ⟨⟨rfl, Or.inl rfl⟩, trivial⟩)

/-- The device's own rows of the two results. -/
def keepT (d : Dev nD) : P (F := F) PUnit := do
  let a : Vec F S1024x1024 .bf16 ← Prog.lift (.load hM allX.toLoadRect (View.loadsAt_vmem h_S1024x1024))
  let _ : Vec F S1024x1024 .bf16 ← Prog.lift (.load tM (ownT d).toLoadRect (View.loadsAt_vmem h_S1024x1024))
  Prog.lift (.store tM (ownT d) a Finset.univ (View.stores_vmem h_S1024x1024
    ((Memref.isWhole_whole _).storeExact_slice rfl _ (k0_off2_packedbf16 d)) (fun _ => rfl)) (.inl rfl))
def keepG (d : Dev nD) : P (F := F) PUnit := do
  let a : Vec F S1024x16 .f32 ← Prog.lift (.load yM allY.toLoadRect (View.loadsAt_vmem h_S1024x16))
  let _ : Vec F S1024x16 .f32 ← Prog.lift (.load gM (ownG d).toLoadRect (View.loadsAt_vmem h_S1024x16))
  Prog.lift (.store gM (ownG d) a Finset.univ (View.stores_vmem_bits_univ h_S1024x16 rfl) (.inl rfl))

/-- The word of a device's row of the mesh. -/
def rowWord (d : Dev nD) : BitVec 32 := Scalar.remsi (Scalar.divsi (Dev.word d) 2#32) 2#32

/-- The scores of the device's tokens, into the third scratch buffer. -/
def score (d : Dev nD) : P (F := F) PUnit := do
  let a : Vec F S1024x8 .f32 ← Prog.lift (.load wM allW.toLoadRect (View.loadsAt_vmem h_S1024x8))
  let b : Vec F S1024x8 .f32 ← Prog.lift (.load vM allW.toLoadRect (View.loadsAt_vmem h_S1024x8))
  let b' : Vec F S1024x8 .f32 ← Prog.lift (.load vM allW.toLoadRect (View.loadsAt_vmem h_S1024x8))
  let a' : Vec F S1024x8 .f32 ← Prog.lift (.load wM allW.toLoadRect (View.loadsAt_vmem h_S1024x8))
  let x : Vec F S1024x1024 .f32 ← Prog.lift (.load xM allX.toLoadRect (View.loadsAt_vmem h_S1024x1024))
  let _ : Vec F S1024x16 .f32 ← Prog.lift (.load yM allY.toLoadRect (View.loadsAt_vmem h_S1024x16))
  Prog.lift (.store yM allY (k0_pay3 (k0_pay2 (rowWord d) a b b' a') x) Finset.univ (View.stores_vmem_bits_univ h_S1024x16 rfl) (.inl rfl))

/-- The waits: for the device's own send and for the neighbour's. -/
def sentT (d : Dev nD) : P (F := F) PUnit :=
  Prog.lift (.waitDma2 (semOf 0) (tOf d) hM ((Memref.isWhole_whole _).wordExact_slice rfl _ (k0_off1_wordsbf16 d)) (Memref.isWhole_whole _).wordExact)
def recvT (d : Dev nD) : P (F := F) PUnit :=
  Prog.lift (.waitDma2 (semOf 1) hM (tOf d) (Memref.isWhole_whole _).wordExact ((Memref.isWhole_whole _).wordExact_slice rfl _ (k0_off1_wordsbf16 d)))
def sentW : P (F := F) PUnit :=
  Prog.lift (.waitDma2 (semOf 2) vM wM (Memref.isWhole_whole _).wordExact (Memref.isWhole_whole _).wordExact)
def recvW : P (F := F) PUnit :=
  Prog.lift (.waitDma2 (semOf 3) wM vM (Memref.isWhole_whole _).wordExact (Memref.isWhole_whole _).wordExact)
def sentG (d : Dev nD) : P (F := F) PUnit :=
  Prog.lift (.waitDma2 (semOf 4) (gOf d) yM (View.wordExact_bits rfl) (Memref.isWhole_whole _).wordExact)
def recvG (d : Dev nD) : P (F := F) PUnit :=
  Prog.lift (.waitDma2 (semOf 5) yM (gOf d) (Memref.isWhole_whole _).wordExact (View.wordExact_bits rfl))

/-- The whole body. -/
def prog : P (F := F) PUnit := do
  let d : Dev nD ← Prog.lift .deviceId
  meet d
  narrow
  sendT d
  sendW d
  keepT d
  sentW
  recvW
  score d
  sendG d
  keepG d
  sentG d
  recvG d
  sentT d
  recvT d

set_option maxHeartbeats 4000000 in
/-- The printed body is this one. -/
theorem body_eq :
    cc0_body (F := F) xM (Memref.isWhole_whole _) wM (Memref.isWhole_whole _) tM (Memref.isWhole_whole _) gM (Memref.isWhole_whole _)
      hM (Memref.isWhole_whole _) vM (Memref.isWhole_whole _) yM (Memref.isWhole_whole _) cc0_scratch3
    = prog (F := F) := by
  rw [cc0_body_eq_skeleton]
  rfl

end Cert.ExchangeProof

end
-- ==== Proof.Exchange.Common.lean ====
/-
The protocol of the exchange: who talks to whom, what every buffer holds when it is handed over, and the
schedule of the semaphore cells.

A device talks to its neighbour along x only.  It has one barrier cell and a send and a receive cell for each of
three transfers: the narrowed tokens, the router columns and the scores.  Every cell has one round of one duty.
-/
module

public import proofs.«01_k».proof.Proof.Exchange.Prog
public import proofs.«01_k».proof.Proof.Gen.ExchangeIdeal.Launch
public import proofs.«01_k».proof.Proof.Gen.ExchangeIdeal.Points
public import Idealize.ShloMosaic.Lib.Pipeline.Launch
public import Idealize.ShloMosaic.Lib.Pipeline.Kit
public import Idealize.ShloMosaic.Lib.Tactic
public import Idealize.ShloMosaic.Lib.ValueIdx

@[expose] public section

set_option maxRecDepth 16384

noncomputable section

namespace Cert.ExchangeProof

open Cert.ExchangeIdeal Cert.ExchangeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The mesh -/

set_option backward.proofsInPublic true in
/-- The neighbour along x. -/
def xn (c : Dev nD) : Dev nD := ⟨(c.val + 2) % 4, Nat.mod_lt _ (by decide)⟩

theorem xn_xn (c : Dev nD) : xn (xn c) = c := by revert c; decide
theorem xn_iff {a b : Dev nD} : a = xn b ↔ b = xn a := ⟨fun h => by rw [h, xn_xn], fun h => by rw [h, xn_xn]⟩
/-- A device and its neighbour are in different rows of the mesh. -/
theorem xn_row (c : Dev nD) : (xn c).val / 2 = 1 - c.val / 2 := by revert c; decide
theorem row_lt (c : Dev nD) : c.val / 2 < 2 := by revert c; decide
theorem dev1_eq (c : Dev nD) : (⟨k0_dev1 c, k0_dev1_lt c⟩ : Dev nD) = xn c :=
  Fin.ext ((k0_dev1_eq c).trans (by revert c; decide))
theorem dev2_eq (c : Dev nD) : (⟨k0_dev2 c, k0_dev2_lt c⟩ : Dev nD) = xn c :=
  Fin.ext ((k0_dev2_eq c).trans (by revert c; decide))
theorem dev3_eq (c : Dev nD) : (⟨k0_dev3 c, k0_dev3_lt c⟩ : Dev nD) = xn c :=
  Fin.ext ((k0_dev3_eq c).trans (by revert c; decide))
theorem dev4_eq (c : Dev nD) : (⟨k0_dev4 c, k0_dev4_lt c⟩ : Dev nD) = xn c :=
  Fin.ext ((k0_dev4_eq c).trans (by revert c; decide))

def xEquiv : Dev nD ≃ Dev nD := ⟨xn, xn, xn_xn, xn_xn⟩

/-! ## The cells -/

/-- The transfer cells: the send and the arrival of the tokens, of the router columns and of the scores. -/
abbrev sT : Fin 6 := 0
abbrev rT : Fin 6 := 1
abbrev sW : Fin 6 := 2
abbrev rW : Fin 6 := 3
abbrev sG : Fin 6 := 4
abbrev rG : Fin 6 := 5

/-- A device's cells: the barrier (`none`), and the transfer cells. -/
abbrev Cell : Type := Option (Fin 6)

abbrev barS : Sem sig := (SemArray.scalar (sig.barrier 0 rfl) : Sems sig S_).sem

theorem dsem_lt (a : Fin 6) : 4 + a.val < sig.nDmaSem := by
  show _ < 10; have := a.isLt; omega
def dsem (a : Fin 6) : DmaSem sig := ⟨4 + a.val, dsem_lt a⟩

theorem sem_eq : ∀ a, semOf a = dsem a := by decide +kernel

def csem (x : Cell) : SemLoc sig := match x with
  | none => .reg barS
  | some a => .dma (dsem a)

/-- Which of the protocol's cells a semaphore is. -/
def dec (s : SemLoc sig) : Option Cell := match s with
  | .reg b => if b = barS then some none else none
  | .dma q => if h : 4 ≤ q.val ∧ q.val < 10 then some (some ⟨q.val - 4, by omega⟩) else none

theorem dec_csem (x : Cell) : dec (csem x) = some x := by
  rcases x with _ | a
  · rfl
  · have ha := a.isLt
    unfold csem dec dsem
    dsimp only
    rw [dif_pos ⟨by omega, by omega⟩]
    exact congrArg some (congrArg some (Fin.ext (by show 4 + a.val - 4 = a.val; omega)))

theorem csem_injective : Function.Injective csem := fun x y h => by
  have := congrArg dec h; rw [dec_csem, dec_csem] at this; exact Option.some.inj this

def kcell (p : Dev nD × Cell) : GSem nD τ sig := ((p.1 : Thread nD τ), csem p.2)

theorem kcell_injective : Function.Injective kcell := by
  rintro ⟨c, x⟩ ⟨c', x'⟩ h
  have h1 : c = c' := congrArg (fun g : GSem nD τ sig => g.1.1) h
  have h2 : csem x = csem x' := congrArg Prod.snd h
  rw [h1, csem_injective h2]

theorem dec_kcell (p : Dev nD × Cell) : dec (kcell p).2 = some p.2 := dec_csem p.2

/-- The credit of each transfer. -/
def N (a : Fin 6) : ℕ :=
  if a.val < 2 then hM.view.dmaCredit else if a.val < 4 then vM.view.dmaCredit else yM.view.dmaCredit
theorem N_pos (a : Fin 6) : 0 < N a := by
  unfold N; (repeat' split) <;> exact View.dmaCredit_pos _ (by decide)
theorem credit_h : ∀ a : Fin 6, a.val < 2 → hM.view.dmaCredit = N a := fun a h => by unfold N; rw [if_pos h]
theorem credit_t (d : Dev nD) : (tOf d).view.dmaCredit = hM.view.dmaCredit := by revert d; decide +kernel
theorem credit_w : wM.view.dmaCredit = N sW := by decide +kernel
theorem credit_v : vM.view.dmaCredit = N rW := by decide +kernel
theorem credit_y : yM.view.dmaCredit = N sG := by decide +kernel
theorem credit_g (d : Dev nD) : (gOf d).view.dmaCredit = N rG := by revert d; decide +kernel

/-! ## Contents -/

/-- The tokens and the router columns as staged on device `c`. -/
def xC (c : Dev nD) : (cc0_stg0_0 : Ref sig .tc).ty.Contents (Elt F) :=
  (win0_0.blk (0 : Fin 1)).view.read (Elt F) ((s₀ m ρ).mem ((c : Thread nD τ).loc main_arg0))
def wC (c : Dev nD) : (cc0_stg1_0 : Ref sig .tc).ty.Contents (Elt F) :=
  (win0_1.blk (0 : Fin 1)).view.read (Elt F) ((s₀ m ρ).mem ((c : Thread nD τ).loc main_arg1))

/-- The tokens narrowed. -/
def hC (c : Dev nD) : S1024x1024.Idx → Elt F .bf16 := k0_pay1 (F := F) (xC m ρ c)
/-- The scores of the device's tokens. -/
def yC (c : Dev nD) : S1024x16.Idx → Elt F .f32 :=
  k0_pay3 (F := F) (k0_pay2 (rowWord c) (wC m ρ c) (wC m ρ (xn c)) (wC m ρ (xn c)) (wC m ρ c)) (xC m ρ c)

/-- Which of a device and its neighbour computes row `r` of the results. -/
def holder (c : Dev nD) (r : ℕ) : Dev nD := if r / 1024 = c.val / 2 then c else xn c

/-- A row of the results within its holder's rows. -/
def inT (i : S2048x1024.Idx) : S1024x1024.Idx := ValueIdx.ix2 ⟨(i 0).val % 1024, Nat.mod_lt _ (by decide)⟩ (i 1)
def inG (i : S2048x16.Idx) : S1024x16.Idx := ValueIdx.ix2 ⟨(i 0).val % 1024, Nat.mod_lt _ (by decide)⟩ (i 1)

/-- The two results on device `c`. -/
def tC (c : Dev nD) : S2048x1024.Idx → Elt F .bf16 := fun i => hC m ρ (holder c (i 0).val) (inT i)
def gC (c : Dev nD) : S2048x16.Idx → Elt F .f32 := fun i => yC m ρ (holder c (i 0).val) (inG i)

/-! ## Pieces of buffers -/

/-- What a view covers of device `c`'s buffer. -/
def part {s : Shape} {e : EltTy} (b : Memref sig .tc .vmem s e) (q : PosShare TreeShare) (c : Dev nD) (f : Buf (Elt F) (b.view.loc (c : Thread nD τ))) : sProp 𝕄 :=
  b.view.loc (c : Thread nD τ) ↦[b.view.set]{q} f
/-- A whole buffer. -/
def wholeP (b : Ref sig .tc) (c : Dev nD) (f : Buf (Elt F) ((c : Thread nD τ).loc b)) : sProp 𝕄 :=
  ((c : Thread nD τ).loc b) ↦{fullShare} f

instance part_storable {s : Shape} {e : EltTy} (b : Memref sig .tc .vmem s e) (q c f) : BI.Storable (upEmb : UEmb _ 𝕄) (part (F := F) b q c f) := by unfold part; infer_instance

/-! ## The schedule -/

/-- Where the neighbour's transfers land on device `c`: its buffer for router columns, and the neighbour's rows of the two results. -/
def landing (c : Dev nD) : sProp 𝕄 :=
  iprop((∃ f, part (F := F) vM fullShare c f) ∗ (∃ f, part (F := F) (tOf (xn c)) fullShare c f) ∗ (∃ f, part (F := F) (gOf (xn c)) fullShare c f))

/-- What the transfer cells hand over: a send gives its source back, an arrival the piece it filled. -/
def dmaPay (a : Fin 6) (c : Dev nD) : sProp 𝕄 := match a with
  | 0 => part hM fullShare.left c (hC m ρ c)
  | 1 => part (tOf (xn c)) fullShare c (tC m ρ c)
  | 2 => part wM fullShare c (wC m ρ c)
  | 3 => part vM fullShare c (wC m ρ (xn c))
  | 4 => part yM fullShare.left c (yC m ρ c)
  | 5 => part (gOf (xn c)) fullShare c (gC m ρ c)

/-- The barrier hands over the neighbour's landing places. -/
def cellPay (x : Option Cell) (c : Dev nD) : sProp 𝕄 := match x with
  | none => iprop(emp)
  | some none => landing (xn c)
  | some (some a) => dmaPay m ρ a c
def cellAmt (x : Option Cell) : ℕ := match x with
  | some (some a) => N a
  | _ => 1
def cellDuties (x : Option Cell) : Finset Bool := match x with
  | none => ∅
  | some _ => {false}

instance cellPay_storable (x c) : BI.Storable (upEmb : UEmb _ 𝕄) (cellPay m ρ x c) := by
  unfold cellPay
  split
  · infer_instance
  · unfold landing; infer_instance
  · unfold dmaPay; split <;> infer_instance

/-- One round of one duty: a unit of the barrier from the neighbour, and a transfer's credit. -/
def sched : Rounds.Schedule (GSem nD τ sig) Bool 𝕄 where
  duties g r := if r = 0 ∧ g.1.2 = .tc then cellDuties (dec g.2) else ∅
  unitless _ := False
  amount g _ _ := cellAmt (dec g.2)
  payload g _ _ := cellPay m ρ (dec g.2) g.1.1
  amount_pos g _ _ _ := by
    unfold cellAmt
    split
    · exact N_pos _
    · exact Nat.one_pos

instance sched_payload_storable (g : GSem nD τ sig) (r : ℕ) (d : Bool) :
    BI.Storable (upEmb : UEmb _ 𝕄) ((sched (F := F) m ρ).payload g r d) := cellPay_storable m ρ (dec g.2) g.1.1

section Sched
variable (c : Dev nD) (x : Cell)

theorem duties_eq : (sched (F := F) m ρ).duties (kcell (c, x)) 0 = {false} := by
  show (if 0 = 0 ∧ (kcell (c, x)).1.2 = .tc then cellDuties (dec (kcell (c, x)).2) else ∅) = _
  rw [if_pos ⟨rfl, rfl⟩, dec_kcell]; rfl
theorem mem_duties : false ∈ (sched (F := F) m ρ).duties (kcell (c, x)) 0 := by
  rw [duties_eq]; exact Finset.mem_singleton_self _
theorem duties_later (g : GSem nD τ sig) : ∀ r, 1 ≤ r → (sched (F := F) m ρ).duties g r = ∅ :=
  fun r hr => if_neg fun h => by omega
theorem amount_eq (d : Bool) : (sched (F := F) m ρ).amount (kcell (c, x)) 0 d = cellAmt (some x) := by
  show cellAmt (dec (kcell (c, x)).2) = _; rw [dec_kcell]
theorem payload_eq (d : Bool) : (sched (F := F) m ρ).payload (kcell (c, x)) 0 d = cellPay m ρ (some x) c := by
  show cellPay m ρ (dec (kcell (c, x)).2) (kcell (c, x)).1.1 = _; rw [dec_kcell]; rfl
theorem expect_eq : (sched (F := F) m ρ).expect (kcell (c, x)) 0 = cellAmt (some x) := by
  unfold Schedule.expect Schedule.amountOf
  rw [duties_eq, Finset.sum_congr rfl fun d _ => amount_eq m ρ c x d, Finset.sum_singleton]
theorem rest_eq :
    bigSep ((sched (F := F) m ρ).duties (kcell (c, x)) 0 \ ∅) (fun d => (sched (F := F) m ρ).payload (kcell (c, x)) 0 d)
    = cellPay m ρ (some x) c := by
  rw [Finset.sdiff_empty, duties_eq, bigSep_singleton, payload_eq]

end Sched

/-! ## What each core owes at launch; the levels -/

/-- A tally on one cell. -/
abbrev T (p : Dev nD × Cell) (n : ℕ) : CellTallies nD τ sig Unit := tallyAt (kcell p) () n

theorem T_apply (p q : Dev nD × Cell) (n : ℕ) (u : Unit) : T p n (kcell q) u = if q = p then n else 0 := by
  rw [tallyAt_apply]
  by_cases h : q = p
  · rw [if_pos h, if_pos ⟨by rw [h], rfl⟩]
  · rw [if_neg h, if_neg fun h' => h (kcell_injective h'.1)]

/-- A transfer's credit, owed to the cell `a` of device `c`. -/
abbrev TN (c : Dev nD) (a : Fin 6) : CellTallies nD τ sig Unit := T (c, some a) (N a)

def O₀ (c : Dev nD) : CellTallies nD τ sig Unit :=
  TN (xn c) rG + TN (xn c) rW + TN (xn c) rT + T (xn c, none) 1

def L (g : GSem nD τ sig) : Finset Unit := if g.1.2 = .tc then {()} else ∅
/-- Barrier cells at 1, arrivals of router columns at 2, other arrivals at 3, everything else at 0. -/
def cellLv (x : Option Cell) : ℕ := match x with
  | none => 0
  | some none => 1
  | some (some a) => if a = rW then 2 else if a = rT ∨ a = rG then 3 else 0
def lv (g : GSem nD τ sig) (_ : Unit) : ℕ := cellLv (dec g.2)

theorem lv_kcell (p : Dev nD × Cell) (u : Unit) : lv (kcell p) u = cellLv (some p.2) := by unfold lv; rw [dec_kcell]
theorem L_of_ne (g : GSem nD τ sig) (h : g.1.2 ≠ .tc) : L g = ∅ := if_neg h
theorem L_tc (c : Dev nD) (sm : SemLoc sig) : L ((c : Thread nD τ), sm) = {()} := if_pos rfl

/-- The cells a tally is on are all at a level above `b`. -/
def Above (b : ℕ) (O : CellTallies nD τ sig Unit) : Prop := ∀ (g : GSem nD τ sig) (u : Unit), 0 < O g u → ∃ p, g = kcell p ∧ b < cellLv (some p.2)

theorem above_zero (b : ℕ) : Above b 0 := fun g u h => absurd h (Nat.lt_irrefl 0)
theorem above_add {b : ℕ} {O O' : CellTallies nD τ sig Unit} (h : Above b O) (h' : Above b O') : Above b (O + O') := fun g u hg => by
  rw [Pi.add_apply, Finsupp.add_apply] at hg
  by_cases h0 : 0 < O g u
  · exact h g u h0
  · exact h' g u (by omega)
theorem above_T {b : ℕ} {p : Dev nD × Cell} {n : ℕ} (h : b < cellLv (some p.2)) : Above b (T p n) := fun g u hg => by
  rw [tallyAt_apply] at hg
  by_cases hh : g = kcell p ∧ u = ()
  · exact ⟨p, hh.1, h⟩
  · rw [if_neg hh] at hg; exact absurd hg (Nat.lt_irrefl 0)

theorem mayWait (c : Dev nD) (sm : SemLoc sig) (O : CellTallies nD τ sig Unit) (hO : Above (cellLv (dec sm)) O) :
    (levAts L lv : sProp 𝕄) ⊢ MayWait (c : Thread nD τ) sm () O :=
  MayOwe.of_cut (L := L) (lev := lv) (cellLv (dec sm)) (fun p hp => by rw [Finset.mem_singleton.mp hp, L_tc]; exact Finset.mem_singleton_self _)
    (fun g u hg => by obtain ⟨p, rfl, -⟩ := hO g u hg; exact Finset.mem_singleton_self _)
    (fun p hp => by rw [Finset.mem_singleton.mp hp]; exact le_rfl)
    (fun g u hg => by obtain ⟨p, rfl, h⟩ := hO g u hg; rw [lv_kcell]; exact h)

theorem above_O₀ (c : Dev nD) : Above 0 (O₀ c) :=
  above_add (above_add (above_add (above_T (show 0 < 3 by decide)) (above_T (show 0 < 2 by decide))) (above_T (show 0 < 3 by decide))) (above_T Nat.one_pos)

end Cert.ExchangeProof

end
-- ==== Proof.Exchange.Steps.lean ====
/-
The rules for one step of the exchange on one device: a send, a wait, and the pieces its buffers are cut into.
-/
module

public import proofs.«01_k».proof.Proof.Exchange.Common

@[expose] public section

set_option maxRecDepth 16384

noncomputable section

namespace Cert.ExchangeProof

open Cert.ExchangeIdeal Cert.ExchangeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- A program on device `c` establishes `Q`. -/
abbrev run {α : Type} (c : Dev nD) (p : P (F := F) α) (Q : α → sProp 𝕄) : sProp 𝕄 :=
  wp frame (wpE (defs₀ (F := F)) 𝒱₀ (c : Thread nD τ) none) Set.univ p Q

theorem run_bind (c : Dev nD) {α β : Type} (p : P (F := F) α) (k : α → P (F := F) β) (Q : β → sProp 𝕄) :
    run c (p >>= k) Q = run c p fun a => run c (k a) Q := wp_bind frame _ _ p k Q
theorem run_wand (c : Dev nD) {α : Type} {p : P (F := F) α} {Q Q' : α → sProp 𝕄} : run c p Q ⊢ iprop((∀ a, Q a -∗ Q' a) -∗ run c p Q') :=
  wp_wand frame (wpE (defs₀ (F := F)) 𝒱₀ (c : Thread nD τ) none) Set.univ

/-! ## The shared records -/

/-- Every cell's invariant, under the names `K`, and that every cell has reached its round. -/
def records (K : Dev nD × Cell → ℕ) : sProp 𝕄 :=
  iprop((bigSep Finset.univ fun p : Dev nD × Cell => cellInv ER (sched m ρ) (K p) (kcell p))
    ∗ bigSep Finset.univ fun p : Dev nD × Cell => reached ER (kcell p) 0)

instance records_persistent (K : Dev nD × Cell → ℕ) : BI.Persistent (records (F := F) m ρ K) := by unfold records; infer_instance

theorem inv_at (K : Dev nD × Cell → ℕ) (p : Dev nD × Cell) : records (F := F) m ρ K ⊢ cellInv ER (sched m ρ) (K p) (kcell p) := by
  unfold records; exact sep_elim_left.trans (bigSep_elim (Finset.mem_univ p))
theorem reached_at (K : Dev nD × Cell → ℕ) (p : Dev nD × Cell) : records (F := F) m ρ K ⊢ reached ER (kcell p) 0 := by
  unfold records; exact sep_elim_right.trans (bigSep_elim (Finset.mem_univ p))

/-- The debt `O`, whatever waits have been made. -/
def owesE (c : Dev nD) (O : CellTallies nD τ sig Unit) : sProp 𝕄 := iprop(∃ W, owes (c : Thread nD τ) O W)

/-- The right to wait for a cell of device `c`, the credit that is due there, the cell closed, and a duty's token. -/
def turn (c : Dev nD) (a : Fin 6) : sProp 𝕄 := atPos ER (kcell (c, some a)) 0 ∅ 0
def due (c : Dev nD) (a : Fin 6) : sProp 𝕄 := cred (TN c a)
def zero (c : Dev nD) (a : Fin 6) : sProp 𝕄 := semVal (kcell (c, some a)) 0
def tok (x : Cell) (c : Dev nD) : sProp 𝕄 := dutyTok ER (kcell (c, x)) 0 false

/-! ## Sends and waits -/

/-- A send: the source goes to the send cell's round, the piece filled to the arrival cell's. -/
theorem run_send (K : Dev nD × Cell → ℕ) (c n n' : Dev nD) (hn : n' = n) (a b : Fin 6) (s₁ s₂ : DmaSem sig) (h₁ : s₁ = dsem a) (h₂ : s₂ = dsem b)
    {s : Shape} {e : EltTy} (src dst : Memref sig .tc .vmem s e) (hN : dst.view.dmaCredit = N a) (hab : N b = N a)
    {hsc : (dst : Memref sig (Dev.tc n' : Thread nD τ).2.kind .vmem s e).view.ref.isScScratch = false} {hsrc : src.view.WordExact} {hdst : dst.view.WordExact}
    {hsem : DmaTarget.Typed .vmem (.dma s₂) (.remote (Dev.tc n' : Thread nD τ) dst (.dma s₁) hsc)}
    {q : PosShare TreeShare} (fs : Buf (Elt F) (src.view.loc (c : Thread nD τ))) (fd : Buf (Elt F) (dst.view.loc (n : Thread nD τ)))
    (hpay₁ : part src q c fs ⊢ dmaPay m ρ a c)
    (hpay₂ : part dst fullShare n (dst.view.write (Elt F) fd (src.view.read (Elt F) fs) Finset.univ) ⊢ dmaPay m ρ b n)
    (O : CellTallies nD τ sig Unit) :
    iprop(records m ρ K ∗ part src q c fs ∗ part dst fullShare n fd
        ∗ owesE c (O + TN n b) ∗ tok (some a) c ∗ tok (some b) n)
      ⊢ run c (Prog.lift (.enqueueDma src (.remote (Dev.tc n' : Thread nD τ) dst (.dma s₁) hsc) (.dma s₂) hsrc hdst hsem))
          fun _ => iprop(due c a ∗ owesE c O) := by
  subst hn h₁ h₂
  unfold owesE due tok TN
  rw [hab]
  unfold part at hpay₁ hpay₂ ⊢
  iintro ⟨#HR, Hs, Hd, ⟨%W, HO⟩, Ht₁, Ht₂⟩
  iapply (Rounds.wp_send_pointsTo 𝒱₀ ER (sched m ρ) (c : Thread nD τ) none (κ₁ := K (c, some a)) (κ₂ := K (n', some b))
    (r₁ := 0) (r₂ := 0) (d₁ := false) (d₂ := false) (fd := fd)
    (sS := .dma (dsem a)) (sem := .dma (dsem b)) (mem_duties m ρ c (some a)) (mem_duties m ρ n' (some b))
    () () (N a) hN (amount_eq m ρ c (some a) false) ((amount_eq m ρ n' (some b) false).trans hab) O rfl (W := W)
    (hpay₁.trans (Entails.of_eq (payload_eq m ρ c (some a) false).symm)) (hpay₂.trans (Entails.of_eq (payload_eq m ρ n' (some b) false).symm)))
    $$ [Hs Hd HO Ht₁ Ht₂]
  · isplitr; · iapply (inv_at m ρ K (c, some a)); iexact HR
    isplitr; · iapply (inv_at m ρ K (n', some b)); iexact HR
    isplitl [Hs]; · iexact Hs
    isplitl [Hd]; · iexact Hd
    isplitl [HO]; · iexact HO
    isplitl [Ht₁]; · iexact Ht₁
    isplitr; · iapply (reached_at m ρ K (c, some a)); iexact HR
    isplitl [Ht₂]; · iexact Ht₂
    iapply (reached_at m ρ K (n', some b)); iexact HR
  iintro ⟨Hc, HO⟩
  rw [wp_ret]; imodintro
  isplitl [Hc]; · iexact Hc
  iexists W; iexact HO

/-- A wait: what the cell's round holds, and the cell closed at zero. -/
theorem run_wait (K : Dev nD × Cell → ℕ) (c : Dev nD) (a : Fin 6) (t : DmaSem sig) (ht : t = dsem a)
    {s s' : Shape} {e e' : EltTy} {src : Memref sig .tc .vmem s' e'} {dst : Memref sig .tc .vmem s e} (hN : dst.view.dmaCredit = N a)
    {hsrc : src.view.WordExact} {hdst : dst.view.WordExact} (O : CellTallies nD τ sig Unit) (hO : Above (cellLv (some (some a))) O) :
    iprop(records m ρ K ∗ levAts L lv ∗ due c a ∗ owesE c O ∗ turn c a)
      ⊢ run (F := F) c (Prog.lift (.waitDma2 t src dst hsrc hdst))
          fun _ => iprop(owesE c O ∗ zero c a ∗ dmaPay m ρ a c) := by
  subst ht
  unfold owesE due turn zero
  iintro ⟨#HR, #Hl, Hc, ⟨%W, HO⟩, Hat⟩
  iapply (Rounds.wp_wait_rest_token 𝒱₀ ER (sched m ρ) (c : Thread nD τ) none (κ := K (c, some a))
      (wpE_waitDma2_eq 𝒱₀ (c : Thread nD τ) none Set.univ) (Set.mem_univ _) () (O := O) (W := W) (R := 0) (m := 0) (T := ∅)
      (by rw [Nat.zero_add, hN]; exact (expect_eq m ρ c (some a)).symm)) $$ [Hc HO Hat]
  · isplitr; · iapply (inv_at m ρ K (c, some a)); iexact HR
    isplitl [Hc]; · rw [hN]; iexact Hc
    isplitl [HO]; · iexact HO
    isplitr; · iapply (mayWait c (csem (some a)) O (by rw [dec_csem]; exact hO)); iexact Hl
    iexact Hat
  iintro ⟨HO, Hat, -, Hpay⟩
  ihave Hp := (show bigSep ((sched (F := F) m ρ).duties ((c : Thread nD τ), SemLoc.dma (dsem a)) 0 \ ∅)
    (fun d => (sched (F := F) m ρ).payload ((c : Thread nD τ), SemLoc.dma (dsem a)) 0 d) ⊢ dmaPay m ρ a c from
      Entails.of_eq (rest_eq m ρ c (some a))) $$ Hpay
  imod (Rounds.cell_close ER (sched m ρ) (Set.mem_univ (K (c, some a))) (fun h => h) (R := 0 + 1) (duties_later m ρ (kcell (c, some a)))) $$ [Hat] with Hz
  · isplitr; · iapply (inv_at m ρ K (c, some a)); iexact HR
    iexact Hat
  rw [wp_ret]; imodintro
  isplitl [HO]; · iexists _; iexact HO
  isplitl [Hz] <;> iassumption

/-! ## Whole buffers -/

theorem stageX_zero : (![0, 0] : Fin S1024x1024.rank → Nat) = fun _ => 0 := funext fun a => by revert a; decide
theorem stageW_zero : (![0, 0] : Fin S1024x8.rank → Nat) = fun _ => 0 := funext fun a => by revert a; decide
theorem stageY_zero : (![0, 0] : Fin S1024x16.rank → Nat) = fun _ => 0 := funext fun a => by revert a; decide

/-- A whole buffer is all that its view covers. -/
theorem part_x (c : Dev nD) (f) : wholeP (F := F) cc0_stg0_0 c f = part xM fullShare c f := by unfold wholeP part; rw [show (xM.view.set : Finset _) = Finset.univ from View.set_whole _]
theorem part_w (c : Dev nD) (f) : wholeP (F := F) cc0_stg1_0 c f = part wM fullShare c f := by unfold wholeP part; rw [show (wM.view.set : Finset _) = Finset.univ from View.set_whole _]
theorem part_h (c : Dev nD) (f) : wholeP (F := F) cc0_scratch0 c f = part hM fullShare c f := by unfold wholeP part; rw [show (hM.view.set : Finset _) = Finset.univ from View.set_whole _]
theorem part_v (c : Dev nD) (f) : wholeP (F := F) cc0_scratch1 c f = part vM fullShare c f := by unfold wholeP part; rw [show (vM.view.set : Finset _) = Finset.univ from View.set_whole _]
theorem part_y (c : Dev nD) (f) : wholeP (F := F) cc0_scratch2 c f = part yM fullShare c f := by unfold wholeP part; rw [show (yM.view.set : Finset _) = Finset.univ from View.set_whole _]

theorem share_part {s : Shape} {e : EltTy} (b : Memref sig .tc .vmem s e) (c : Dev nD) (f : Buf (Elt F) (b.view.loc (c : Thread nD τ))) :
    part b fullShare c f ⊣⊢ iprop(part b fullShare.left c f ∗ part (F := F) b fullShare.right c f) := by
  unfold part; exact pointsTo_share (PosShare.mem_left_op_right fullShare)

/-! ## The two results, cut into the device's rows and its neighbour's -/

theorem mem_rowsT (d : Dev nD) (i : S2048x1024.Idx) : i ∈ (rowsT d).set ↔ (i 0).val / 1024 = d.val / 2 := by
  rw [show (rowsT d).set = (Rect.unit (s := S2048x1024) (k0_off1 d) S1024x1024.size (k0_off1_inb d)).set from rfl, Rect.mem_set_unit, k0_off1_eq]
  have hl : (i 1).val < 1024 := (i 1).isLt
  constructor
  · intro h
    have h0 : 1024 * (d.val / 2) ≤ (i 0).val ∧ (i 0).val < 1024 * (d.val / 2) + 1024 := h 0
    omega
  · intro h a
    match a with
    | ⟨0, _⟩ => exact ⟨by show 1024 * (d.val / 2) ≤ (i 0).val; omega, by show (i 0).val < 1024 * (d.val / 2) + 1024; omega⟩
    | ⟨1, _⟩ => exact ⟨Nat.zero_le _, by show (i 1).val < 0 + 1024; omega⟩
theorem mem_rowsG (d : Dev nD) (i : S2048x16.Idx) : i ∈ (rowsG d).set ↔ (i 0).val / 1024 = d.val / 2 := by
  rw [show (rowsG d).set = (Rect.unit (s := S2048x16) (k0_off3 d) S1024x16.size (k0_off3_inb d)).set from rfl, Rect.mem_set_unit, k0_off3_eq]
  have hl : (i 1).val < 16 := (i 1).isLt
  constructor
  · intro h
    have h0 : 1024 * (d.val / 2) ≤ (i 0).val ∧ (i 0).val < 1024 * (d.val / 2) + 1024 := h 0
    omega
  · intro h a
    match a with
    | ⟨0, _⟩ => exact ⟨by show 1024 * (d.val / 2) ≤ (i 0).val; omega, by show (i 0).val < 1024 * (d.val / 2) + 1024; omega⟩
    | ⟨1, _⟩ => exact ⟨Nat.zero_le _, by show (i 1).val < 0 + 16; omega⟩

/-- The holder of a row of device `d`'s block. -/
theorem holder_eq (c d : Dev nD) (hd : d = c ∨ d = xn c) (r x : ℕ) (hx : x < 1024) (hr : r = 1024 * (d.val / 2) + x) : holder c r = d ∧ r % 1024 = x := by
  refine ⟨?_, by omega⟩
  unfold holder
  have h1 := xn_row c
  have h2 := row_lt c
  rcases hd with rfl | rfl
  · exact if_pos (by omega)
  · exact if_neg (by omega)

/-- What a write of the holder's value through its rows leaves there, wherever the rectangle's offsets come from. -/
theorem tC_at (c d : Dev nD) (hd : d = c ∨ d = xn c) (off : Fin 2 → ℕ) (ho : off = ![1024 * (d.val / 2), 0])
    (inb : ∀ a, off a + S1024x1024.size a ≤ S2048x1024.size a) (f : (cc0_stg2_0 : Ref sig .tc).ty.Contents (Elt F)) :
    ∀ i ∈ (tM.access (Rect.unit (s := S2048x1024) off S1024x1024.size inb)).set,
      (tM.access (Rect.unit (s := S2048x1024) off S1024x1024.size inb)).write (Elt F) f (hC m ρ d) Finset.univ i = tC m ρ c i := by
  subst ho
  intro i hi
  obtain ⟨x, -, rfl⟩ := Finset.mem_map.mp hi
  rw [View.write_emb_of_mem _ _ (Finset.mem_univ x)]
  have h0 : ((tM.access (Rect.unit (s := S2048x1024) ![1024 * (d.val / 2), 0] S1024x1024.size inb)).emb x 0).val = 1024 * (d.val / 2) + 1 * (x 0).val := rfl
  obtain ⟨hh, hm⟩ := holder_eq c d hd _ (x 0).val (x 0).isLt (h0.trans (by omega))
  have hi : inT ((tM.access (Rect.unit (s := S2048x1024) ![1024 * (d.val / 2), 0] S1024x1024.size inb)).emb x) = x := funext fun a => by
    match a with
    | ⟨0, _⟩ => exact Fin.ext hm
    | ⟨1, _⟩ => exact Fin.ext (show 0 + 1 * (x 1).val = (x 1).val by omega)
  exact (congrArg₂ (hC m ρ) hh hi).symm
theorem gC_at (c d : Dev nD) (hd : d = c ∨ d = xn c) (off : Fin 2 → ℕ) (ho : off = ![1024 * (d.val / 2), 0])
    (inb : ∀ a, off a + S1024x16.size a ≤ S2048x16.size a) (f : (cc0_stg3_0 : Ref sig .tc).ty.Contents (Elt F)) :
    ∀ i ∈ (gM.access (Rect.unit (s := S2048x16) off S1024x16.size inb)).set,
      (gM.access (Rect.unit (s := S2048x16) off S1024x16.size inb)).write (Elt F) f (yC m ρ d) Finset.univ i = gC m ρ c i := by
  subst ho
  intro i hi
  obtain ⟨x, -, rfl⟩ := Finset.mem_map.mp hi
  rw [View.write_emb_of_mem _ _ (Finset.mem_univ x)]
  have h0 : ((gM.access (Rect.unit (s := S2048x16) ![1024 * (d.val / 2), 0] S1024x16.size inb)).emb x 0).val = 1024 * (d.val / 2) + 1 * (x 0).val := rfl
  obtain ⟨hh, hm⟩ := holder_eq c d hd _ (x 0).val (x 0).isLt (h0.trans (by omega))
  have hi : inG ((gM.access (Rect.unit (s := S2048x16) ![1024 * (d.val / 2), 0] S1024x16.size inb)).emb x) = x := funext fun a => by
    match a with
    | ⟨0, _⟩ => exact Fin.ext hm
    | ⟨1, _⟩ => exact Fin.ext (show 0 + 1 * (x 1).val = (x 1).val by omega)
  exact (congrArg₂ (yC m ρ) hh hi).symm

theorem unit_set_congr {s : Shape} {o o' : Fin s.rank → ℕ} (z : Fin s.rank → ℕ) (h : o = o') (inb : ∀ a, o a + z a ≤ s.size a) (inb' : ∀ a, o' a + z a ≤ s.size a) :
    (Rect.unit o z inb).set = (Rect.unit o' z inb').set := by subst h; rfl

theorem setT (d : Dev nD) : (tOf d).view.set = (rowsT d).set := View.set_slice_whole _ _
theorem setG (d : Dev nD) : (gOf d).view.set = (rowsG d).set := View.set_slice_whole _ _
theorem setT_own (d : Dev nD) : (tM.access (ownT d)).set = (tOf d).view.set :=
  (View.set_slice_whole _ _).trans ((unit_set_congr (s := S2048x1024) S1024x1024.size ((k0_off2_eq d).trans (k0_off1_eq d).symm) (k0_off2_inb d) (k0_off1_inb d)).trans (setT d).symm)
theorem setG_own (d : Dev nD) : (gM.access (ownG d)).set = (gOf d).view.set :=
  (View.set_slice_whole _ _).trans ((unit_set_congr (s := S2048x16) S1024x16.size ((k0_off4_eq d).trans (k0_off3_eq d).symm) (k0_off4_inb d) (k0_off3_inb d)).trans (setG d).symm)

/-- A buffer is its part in the device's rows and its part in the neighbour's. -/
theorem cut {ℓ : Loc nD τ sig} (I J : Finset (Idx ℓ)) (h : ∀ i, i ∈ J ↔ i ∉ I) (f : Buf (Elt F) ℓ) :
    (ℓ ↦{fullShare} f : sProp 𝕄) ⊣⊢ iprop((ℓ ↦[I]{fullShare} f) ∗ ℓ ↦[J]{fullShare} f) := by
  rw [show J = Finset.univ \ I from Finset.ext fun i => by rw [h, Finset.mem_sdiff]; exact ⟨fun h => ⟨Finset.mem_univ _, h⟩, fun h => h.2⟩]
  exact pointsTo_split_subset (Finset.subset_univ I)

theorem row_flip (c : Dev nD) {r : ℕ} (h : r < 2048) : r / 1024 = (xn c).val / 2 ↔ ¬ r / 1024 = c.val / 2 := by
  have h1 := xn_row c
  have h2 := row_lt c
  omega
theorem cut_t (c : Dev nD) (f : Buf (Elt F) ((c : Thread nD τ).loc cc0_stg2_0)) :
    wholeP cc0_stg2_0 c f ⊣⊢ iprop(part (F := F) (tOf c) fullShare c f ∗ part (tOf (xn c)) fullShare c f) :=
  cut (ℓ := (c : Thread nD τ).loc cc0_stg2_0) (tOf c).view.set (tOf (xn c)).view.set (fun i : S2048x1024.Idx => by
    rw [setT, setT, mem_rowsT, mem_rowsT]; exact row_flip c (i 0).isLt) f
theorem cut_g (c : Dev nD) (f : Buf (Elt F) ((c : Thread nD τ).loc cc0_stg3_0)) :
    wholeP cc0_stg3_0 c f ⊣⊢ iprop(part (F := F) (gOf c) fullShare c f ∗ part (gOf (xn c)) fullShare c f) :=
  cut (ℓ := (c : Thread nD τ).loc cc0_stg3_0) (gOf c).view.set (gOf (xn c)).view.set (fun i : S2048x16.Idx => by
    rw [setG, setG, mem_rowsG, mem_rowsG]; exact row_flip c (i 0).isLt) f

end Cert.ExchangeProof

end
-- ==== Proof.Exchange.Body.lean ====
/-
The whole body of the exchange on one device: the barrier, the loads and stores between the transfers, and the
body from the barrier to the last wait.
-/
module

public import proofs.«01_k».proof.Proof.Exchange.Steps

@[expose] public section

set_option maxRecDepth 16384

noncomputable section

namespace Cert.ExchangeProof

open Cert.ExchangeIdeal Cert.ExchangeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The barrier -/

section Meet
variable (K : Dev nD × Cell → ℕ) (c : Dev nD)

theorem payload_bar : (sched (F := F) m ρ).payload ((xn c : Thread nD τ), SemLoc.reg barS) 0 false = landing (F := F) c :=
  (payload_eq m ρ (xn c) none false).trans (by show landing (xn (xn c)) = _; rw [xn_xn])

/-- What device `c` owes after the barrier. -/
abbrev O₁ : CellTallies nD τ sig Unit := TN (xn c) rG + TN (xn c) rW + TN (xn c) rT

theorem run_meet :
    iprop(records m ρ K ∗ levAts L lv ∗ owesE c (O₀ c) ∗ cred (T (c, none) 1) ∗ atPos ER (kcell (c, none)) 0 ∅ 0
        ∗ tok none (xn c) ∗ landing c)
      ⊢ run (F := F) c (meet c) fun _ => iprop(owesE c (O₁ c) ∗ semVal (kcell (c, none)) 0 ∗ landing (xn c)) := by
  unfold owesE meet tok
  iintro ⟨#HR, #Hl, ⟨%W, HO⟩, Hc, Hat, Ht, Hr⟩
  simp only [semSignalWord, semWaitWord, Prog.lift, Prog.bind_op, Prog.bind_ret, dev1_eq c]
  iapply (Rounds.wp_signal 𝒱₀ ER (sched m ρ) (c : Thread nD τ) none (dst := (xn c : Thread nD τ)) (sem := barS) (κ := K (xn c, none))
      (d := false) (mem_duties m ρ (xn c) none) ((amount_eq m ρ (xn c) none false).trans (by decide)) () (O₁ c) rfl) $$ [HO Ht Hr]
  · isplitr; · iapply (inv_at m ρ K (xn c, none)); iexact HR
    isplitl [HO]; · iexact HO
    isplitl [Ht]; · iexact Ht
    isplitl [Hr]
    · rw [payload_bar]; iexact Hr
    iapply (reached_at m ρ K (xn c, none)); iexact HR
  iintro HO
  iapply (Rounds.wp_wait_rest_token 𝒱₀ ER (sched m ρ) (c : Thread nD τ) none (sm := .reg barS) (κ := K (c, none))
      (wpE_semWait_eq 𝒱₀ (c : Thread nD τ) none Set.univ) (Set.mem_univ _) () (O := O₁ c) (W := W)
      (R := 0) (m := 0) (T := ∅) ((show 0 + _ = 1 by decide).trans (expect_eq m ρ c none).symm)) $$ [Hc HO Hat]
  · isplitr; · iapply (inv_at m ρ K (c, none)); iexact HR
    isplitl [Hc]; · iexact Hc
    isplitl [HO]; · iexact HO
    isplitr
    · iapply (mayWait c (csem none) _ (by
        rw [dec_csem]
        exact above_add (above_add (above_T (show 1 < 3 by decide)) (above_T (show 1 < 2 by decide))) (above_T (show 1 < 3 by decide))))
      iexact Hl
    iexact Hat
  iintro ⟨HO, Hat, -, Hpay⟩
  ihave Hp := (show bigSep ((sched (F := F) m ρ).duties ((c : Thread nD τ), SemLoc.reg barS) 0 \ ∅)
    (fun d => (sched (F := F) m ρ).payload ((c : Thread nD τ), SemLoc.reg barS) 0 d) ⊢ landing (F := F) (xn c) from
      Entails.of_eq (rest_eq m ρ c none)) $$ Hpay
  imod (Rounds.cell_close ER (sched m ρ) (Set.mem_univ (K (c, none))) (fun h => h) (R := 0 + 1) (duties_later m ρ (kcell (c, none)))) $$ [Hat] with Hz
  · isplitr; · iapply (inv_at m ρ K (c, none)); iexact HR
    iexact Hat
  rw [wp_ret]; imodintro
  isplitl [HO]; · iexists _; iexact HO
  isplitl [Hz] <;> iassumption

end Meet

/-! ## Loads and stores -/

/-- A load of a whole buffer is its contents, and a store of one replaces them. -/
theorem read_x (f : S1024x1024.Idx → Elt F .f32) : xM.view.readAt (Elt F) allX.toLoadRect f = f := Memref.readAt_unit_zero _ cc0_stg0_0 stageX_zero _ f
theorem read_w (f : S1024x8.Idx → Elt F .f32) : wM.view.readAt (Elt F) allW.toLoadRect f = f := Memref.readAt_unit_zero _ cc0_stg1_0 stageW_zero _ f
theorem read_h (f : S1024x1024.Idx → Elt F .bf16) : hM.view.readAt (Elt F) allX.toLoadRect f = f := Memref.readAt_unit_zero _ cc0_scratch0 stageX_zero _ f
theorem read_v (f : S1024x8.Idx → Elt F .f32) : vM.view.readAt (Elt F) allW.toLoadRect f = f := Memref.readAt_unit_zero _ cc0_scratch1 stageW_zero _ f
theorem read_y (f : S1024x16.Idx → Elt F .f32) : yM.view.readAt (Elt F) allY.toLoadRect f = f := Memref.readAt_unit_zero _ cc0_scratch2 stageY_zero _ f
theorem write_h (f w : S1024x1024.Idx → Elt F .bf16) : (hM.access allX).write (Elt F) f w Finset.univ = w := Memref.write_access_unit_zero_univ _ cc0_scratch0 stageX_zero _ f w
theorem write_v (f w : S1024x8.Idx → Elt F .f32) : vM.view.write (Elt F) f w Finset.univ = w := View.write_whole_univ _ _ _
theorem write_y (f w : S1024x16.Idx → Elt F .f32) : (yM.access allY).write (Elt F) f w Finset.univ = w := Memref.write_access_unit_zero_univ _ cc0_scratch2 stageY_zero _ f w

section Compute
variable (c : Dev nD)

theorem run_narrow (f : Buf (Elt F) (hM.view.loc (c : Thread nD τ))) :
    iprop(part xM fullShare c (xC m ρ c) ∗ part hM fullShare c f)
      ⊢ run c narrow fun _ => iprop(part xM fullShare c (xC m ρ c) ∗ part hM fullShare c (hC m ρ c)) := by
  unfold part narrow
  iintro ⟨Hx, Hh⟩
  simp only [Prog.lift, Prog.bind_op, Prog.bind_ret]
  iapply (wp_load 𝒱₀ (c : Thread nD τ) none Set.univ (m := xM) (View.setOn_subset_set _ _)) $$ Hx; iintro Hx
  iapply (wp_load 𝒱₀ (c : Thread nD τ) none Set.univ (m := hM) (View.setOn_subset_set _ _)) $$ Hh; iintro Hh
  iapply (wp_store 𝒱₀ (c : Thread nD τ) none Set.univ (m := hM) (r := allX) (Mk := Finset.univ) (by show (hM.view.slice allX).set ⊆ _; rw [View.set_slice]; exact View.setOn_subset_set _ _)) $$ Hh; iintro Hh
  rw [wp_ret]; imodintro
  isplitl [Hx]; · iexact Hx
  iapply (Entails.of_eq (congrArg (fun g => (hM.view.loc (c : Thread nD τ) ↦[hM.view.set]{fullShare} g : sProp 𝕄)) ((write_h f _).trans (congrArg (k0_pay1 (F := F)) (read_x (xC m ρ c)))))) $$ Hh

theorem run_score (f : Buf (Elt F) (yM.view.loc (c : Thread nD τ))) :
    iprop(part xM fullShare c (xC m ρ c) ∗ part wM fullShare c (wC m ρ c) ∗ part vM fullShare c (wC m ρ (xn c)) ∗ part yM fullShare c f)
      ⊢ run c (score c) fun _ => iprop(part xM fullShare c (xC m ρ c) ∗ part wM fullShare c (wC m ρ c) ∗ part vM fullShare c (wC m ρ (xn c)) ∗ part yM fullShare c (yC m ρ c)) := by
  unfold part score
  iintro ⟨Hx, Hw, Hv, Hy⟩
  simp only [Prog.lift, Prog.bind_op, Prog.bind_ret]
  iapply (wp_load 𝒱₀ (c : Thread nD τ) none Set.univ (m := wM) (View.setOn_subset_set _ _)) $$ Hw; iintro Hw
  iapply (wp_load 𝒱₀ (c : Thread nD τ) none Set.univ (m := vM) (View.setOn_subset_set _ _)) $$ Hv; iintro Hv
  iapply (wp_load 𝒱₀ (c : Thread nD τ) none Set.univ (m := vM) (View.setOn_subset_set _ _)) $$ Hv; iintro Hv
  iapply (wp_load 𝒱₀ (c : Thread nD τ) none Set.univ (m := wM) (View.setOn_subset_set _ _)) $$ Hw; iintro Hw
  iapply (wp_load 𝒱₀ (c : Thread nD τ) none Set.univ (m := xM) (View.setOn_subset_set _ _)) $$ Hx; iintro Hx
  iapply (wp_load 𝒱₀ (c : Thread nD τ) none Set.univ (m := yM) (View.setOn_subset_set _ _)) $$ Hy; iintro Hy
  iapply (wp_store 𝒱₀ (c : Thread nD τ) none Set.univ (m := yM) (r := allY) (Mk := Finset.univ) (by show (yM.view.slice allY).set ⊆ _; rw [View.set_slice]; exact View.setOn_subset_set _ _)) $$ Hy; iintro Hy
  rw [wp_ret]; imodintro
  isplitl [Hx]; · iexact Hx
  isplitl [Hw]; · iexact Hw
  isplitl [Hv]; · iexact Hv
  rw [write_y, read_x, read_w, read_v]
  iexact Hy

theorem run_keepT (q : PosShare TreeShare) (f : Buf (Elt F) (tM.view.loc (c : Thread nD τ))) :
    iprop(part hM q c (hC m ρ c) ∗ part (tOf c) fullShare c f)
      ⊢ run c (keepT c) fun _ => iprop(part hM q c (hC m ρ c) ∗ part (tOf c) fullShare c (tC m ρ c)) := by
  unfold part keepT
  iintro ⟨Hh, Ht⟩
  simp only [Prog.lift, Prog.bind_op, Prog.bind_ret]
  iapply (wp_load 𝒱₀ (c : Thread nD τ) none Set.univ (m := hM) (View.setOn_subset_set _ _)) $$ Hh; iintro Hh
  iapply (wp_load 𝒱₀ (c : Thread nD τ) none Set.univ (m := tM) (by rw [← setT_own, View.set_slice]; exact subset_rfl)) $$ Ht; iintro Ht
  iapply (wp_store 𝒱₀ (c : Thread nD τ) none Set.univ (m := tM) (r := ownT c) (Mk := Finset.univ) (by rw [← setT_own]; exact subset_rfl)) $$ Ht; iintro Ht
  rw [wp_ret]; imodintro
  isplitl [Hh]; · iexact Hh
  rw [read_h]
  iapply (Entails.of_eq (pointsTo_congr fun i hi => tC_at m ρ c c (.inl rfl) _ (k0_off2_eq c) _ f i (by rw [← setT_own] at hi; exact hi))) $$ Ht

theorem run_keepG (q : PosShare TreeShare) (f : Buf (Elt F) (gM.view.loc (c : Thread nD τ))) :
    iprop(part yM q c (yC m ρ c) ∗ part (gOf c) fullShare c f)
      ⊢ run c (keepG c) fun _ => iprop(part yM q c (yC m ρ c) ∗ part (gOf c) fullShare c (gC m ρ c)) := by
  unfold part keepG
  iintro ⟨Hh, Ht⟩
  simp only [Prog.lift, Prog.bind_op, Prog.bind_ret]
  iapply (wp_load 𝒱₀ (c : Thread nD τ) none Set.univ (m := yM) (View.setOn_subset_set _ _)) $$ Hh; iintro Hh
  iapply (wp_load 𝒱₀ (c : Thread nD τ) none Set.univ (m := gM) (by rw [← setG_own, View.set_slice]; exact subset_rfl)) $$ Ht; iintro Ht
  iapply (wp_store 𝒱₀ (c : Thread nD τ) none Set.univ (m := gM) (r := ownG c) (Mk := Finset.univ) (by rw [← setG_own]; exact subset_rfl)) $$ Ht; iintro Ht
  rw [wp_ret]; imodintro
  isplitl [Hh]; · iexact Hh
  rw [read_y]
  iapply (Entails.of_eq (pointsTo_congr fun i hi => gC_at m ρ c c (.inl rfl) _ (k0_off4_eq c) _ f i (by rw [← setG_own] at hi; exact hi))) $$ Ht

end Compute

/-! ## The body -/

section Body
variable (K : Dev nD × Cell → ℕ) (c : Dev nD)

/-- What stays with device `c` of the protocol's ghost state: its turns, and the tokens of the duties it pays. -/
def linear : sProp 𝕄 :=
  iprop((atPos ER (kcell (c, none)) 0 ∅ 0 ∗ bigSep Finset.univ (turn (F := F) c))
    ∗ tok none (xn c) ∗ (tok (some sT) c ∗ tok (some rT) (xn c)) ∗ (tok (some sW) c ∗ tok (some rW) (xn c)) ∗ tok (some sG) c ∗ tok (some rG) (xn c))
/-- The credit its neighbour owes it. -/
def credits : sProp 𝕄 := iprop(cred (T (c, none) 1) ∗ due c rT ∗ due c rW ∗ due (F := F) c rG)
/-- Its cells at zero. -/
def zeros : sProp 𝕄 := iprop(semVal (kcell (c, none)) 0 ∗ bigSep Finset.univ (zero (F := F) c))
/-- The three scratch buffers, at some contents. -/
def scratch : sProp 𝕄 :=
  iprop((∃ f, wholeP (F := F) cc0_scratch0 c f) ∗ (∃ f, wholeP (F := F) cc0_scratch1 c f) ∗ (∃ f, wholeP (F := F) cc0_scratch2 c f))

theorem bigSep_six (Φ : Fin 6 → sProp 𝕄) : bigSep Finset.univ Φ = iprop(Φ sT ∗ Φ rT ∗ Φ sW ∗ Φ rW ∗ Φ sG ∗ Φ rG) :=
  bigSep_univ_eq_bigSepL [0, 1, 2, 3, 4, 5] (by decide) (by decide) Φ

theorem run_deviceId {α : Type} (k : Dev nD → P (F := F) α) (Q : α → sProp 𝕄) :
    run c (Prog.lift TpuEff.deviceId >>= k) Q = run c (k c) Q := by
  simp only [Prog.lift, Prog.bind_op, Prog.bind_ret, wp_deviceId]

theorem run_prog :
    iprop(records m ρ K ∗ linear c ∗ credits c ∗ levAts L lv ∗ scratch c ∗ owesE c (O₀ c)
        ∗ wholeP cc0_stg0_0 c (xC m ρ c) ∗ wholeP cc0_stg1_0 c (wC m ρ c) ∗ (∃ f, wholeP cc0_stg2_0 c f) ∗ (∃ f, wholeP cc0_stg3_0 c f))
      ⊢ run (F := F) c prog fun _ => iprop(scratch c ∗ zeros c ∗ owesE c 0
        ∗ wholeP cc0_stg0_0 c (xC m ρ c) ∗ wholeP cc0_stg1_0 c (wC m ρ c) ∗ wholeP cc0_stg2_0 c (tC m ρ c) ∗ wholeP cc0_stg3_0 c (gC m ρ c)) := by
  unfold linear credits scratch zeros prog
  simp only [bigSep_six, part_h, part_v, part_y, part_x, part_w]
  iintro ⟨#HR, ⟨⟨HatB, HaT, HaT', HaW, HaW', HaG, HaG'⟩, HtB, ⟨HtT, HtT'⟩, ⟨HtW, HtW'⟩, HtG, HtG'⟩, ⟨HcB, HcT, HcW, HcG⟩, #Hl,
    ⟨⟨%fh, Hh⟩, Hv, ⟨%fy, Hy⟩⟩, HO, Hx, Hw, ⟨%ft, Ht⟩, ⟨%fg, Hg⟩⟩
  ihave Ht := (cut_t c ft).1 $$ Ht
  icases Ht with ⟨Ht, Ht'⟩
  ihave Hg := (cut_g c fg).1 $$ Hg
  icases Hg with ⟨Hg, Hg'⟩
  rw [run_deviceId, run_bind]
  ihave H := (run_meet m ρ K c) $$ [HO HcB HatB HtB Hv Ht' Hg']
  · isplitr; · iexact HR
    isplitr; · iexact Hl
    isplitl [HO]; · iexact HO
    isplitl [HcB]; · iexact HcB
    isplitl [HatB]; · iexact HatB
    isplitl [HtB]; · iexact HtB
    unfold landing
    isplitl [Hv]; · iexact Hv
    isplitl [Ht']
    · iexists ft; iexact Ht'
    · iexists fg; iexact Hg'
  iapply (run_wand c) $$ H
  unfold landing
  rw [xn_xn]
  iintro %_ ⟨HO, HzB, ⟨%fv, Hv⟩, ⟨%ft', Ht'⟩, ⟨%fg', Hg'⟩⟩
  -- the tokens narrowed and sent
  rw [run_bind]
  ihave H := (run_narrow m ρ c fh) $$ [Hx Hh]
  · isplitl [Hx] <;> iassumption
  iapply (run_wand c) $$ H
  iintro %_ ⟨Hx, Hh⟩
  ihave Hh := (share_part hM c (hC m ρ c)).1 $$ Hh
  icases Hh with ⟨Hhl, Hhr⟩
  rw [run_bind]
  ihave H := (run_send m ρ K c (xn c) _ (dev2_eq c) sT rT _ _ (sem_eq 0) (sem_eq 1) hM (tOf c) ((credit_t c).trans (credit_h sT (by decide))) rfl (hC m ρ c) ft'
    (Entails.of_eq rfl)
    (by
      show part (tOf c) fullShare (xn c) _ ⊢ part (tOf (xn (xn c))) fullShare (xn c) (tC m ρ (xn c))
      rw [xn_xn]
      exact Entails.of_eq (pointsTo_congr fun i hi => tC_at m ρ (xn c) c (.inr (xn_xn c).symm) _ (k0_off1_eq c) _ ft' i hi))
    (TN (xn c) rG + TN (xn c) rW)) $$ [Hhl Ht' HO HtT HtT']
  · isplitr; · iexact HR
    isplitl [Hhl]; · iexact Hhl
    isplitl [Ht']; · iexact Ht'
    isplitl [HO]; · iexact HO
    isplitl [HtT] <;> iassumption
  iapply (run_wand c) $$ H
  iintro %_ ⟨HdT, HO⟩
  -- the router columns sent
  rw [run_bind]
  ihave H := (run_send m ρ K c (xn c) _ (dev3_eq c) sW rW _ _ (sem_eq 2) (sem_eq 3) wM vM credit_v rfl (wC m ρ c) fv
    (Entails.of_eq rfl)
    (by
      show part vM fullShare (xn c) _ ⊢ part vM fullShare (xn c) (wC m ρ (xn (xn c)))
      rw [xn_xn]
      exact Entails.of_eq (congrArg (part vM fullShare (xn c)) (write_v fv (wC m ρ c))))
    (TN (xn c) rG)) $$ [Hw Hv HO HtW HtW']
  · isplitr; · iexact HR
    isplitl [Hw]; · iexact Hw
    isplitl [Hv]; · iexact Hv
    isplitl [HO]; · iexact HO
    isplitl [HtW] <;> iassumption
  iapply (run_wand c) $$ H
  iintro %_ ⟨HdW, HO⟩
  -- the device's own rows of the tokens
  rw [run_bind]
  ihave H := (run_keepT m ρ c fullShare.right ft) $$ [Hhr Ht]
  · isplitl [Hhr] <;> iassumption
  iapply (run_wand c) $$ H
  iintro %_ ⟨Hhr, Ht⟩
  -- the router columns arrive
  rw [run_bind]
  ihave H := (run_wait m ρ K c sW _ (sem_eq 2) (src := vM) (dst := wM) credit_w (TN (xn c) rG) (above_T (show 0 < 3 by decide))) $$ [HdW HO HaW]
  · isplitr; · iexact HR
    isplitr; · iexact Hl
    isplitl [HdW]; · iexact HdW
    isplitl [HO] <;> iassumption
  iapply (run_wand c) $$ H
  iintro %_ ⟨HO, HzW, Hw⟩
  ihave Hw := (Entails.of_eq (show dmaPay m ρ sW c = part wM fullShare c (wC m ρ c) from rfl)) $$ Hw
  rw [run_bind]
  ihave H := (run_wait m ρ K c rW _ (sem_eq 3) (src := wM) (dst := vM) credit_v (TN (xn c) rG) (above_T (show 2 < 3 by decide))) $$ [HcW HO HaW']
  · isplitr; · iexact HR
    isplitr; · iexact Hl
    isplitl [HcW]; · iexact HcW
    isplitl [HO] <;> iassumption
  iapply (run_wand c) $$ H
  iintro %_ ⟨HO, HzW', Hv⟩
  ihave Hv := (Entails.of_eq (show dmaPay m ρ rW c = part vM fullShare c (wC m ρ (xn c)) from rfl)) $$ Hv
  -- the scores, sent and kept
  rw [run_bind]
  ihave H := (run_score m ρ c fy) $$ [Hx Hw Hv Hy]
  · isplitl [Hx]; · iexact Hx
    isplitl [Hw]; · iexact Hw
    isplitl [Hv]; · iexact Hv
    iexact Hy
  iapply (run_wand c) $$ H
  iintro %_ ⟨Hx, Hw, Hv, Hy⟩
  ihave Hy := (share_part yM c (yC m ρ c)).1 $$ Hy
  icases Hy with ⟨Hyl, Hyr⟩
  rw [run_bind]
  ihave H := (run_send m ρ K c (xn c) _ (dev4_eq c) sG rG _ _ (sem_eq 4) (sem_eq 5) yM (gOf c) (credit_g c) rfl (yC m ρ c) fg'
    (Entails.of_eq rfl)
    (by
      show part (gOf c) fullShare (xn c) _ ⊢ part (gOf (xn (xn c))) fullShare (xn c) (gC m ρ (xn c))
      rw [xn_xn]
      exact Entails.of_eq (pointsTo_congr fun i hi => gC_at m ρ (xn c) c (.inr (xn_xn c).symm) _ (k0_off3_eq c) _ fg' i hi))
    0) $$ [Hyl Hg' HO HtG HtG']
  · isplitr; · iexact HR
    isplitl [Hyl]; · iexact Hyl
    isplitl [Hg']; · iexact Hg'
    isplitl [HO]; · rw [zero_add]; iexact HO
    isplitl [HtG] <;> iassumption
  iapply (run_wand c) $$ H
  iintro %_ ⟨HdG, HO⟩
  rw [run_bind]
  ihave H := (run_keepG m ρ c fullShare.right fg) $$ [Hyr Hg]
  · isplitl [Hyr] <;> iassumption
  iapply (run_wand c) $$ H
  iintro %_ ⟨Hyr, Hg⟩
  -- the waits
  rw [run_bind]
  ihave H := (run_wait m ρ K c sG _ (sem_eq 4) (src := gOf c) (dst := yM) credit_y 0 (above_zero _)) $$ [HdG HO HaG]
  · isplitr; · iexact HR
    isplitr; · iexact Hl
    isplitl [HdG]; · iexact HdG
    isplitl [HO] <;> iassumption
  iapply (run_wand c) $$ H
  iintro %_ ⟨HO, HzG, Hyl⟩
  ihave Hyl := (Entails.of_eq (show dmaPay m ρ sG c = part yM fullShare.left c (yC m ρ c) from rfl)) $$ Hyl
  rw [run_bind]
  ihave H := (run_wait m ρ K c rG _ (sem_eq 5) (src := yM) (dst := gOf c) (credit_g c) 0 (above_zero _)) $$ [HcG HO HaG']
  · isplitr; · iexact HR
    isplitr; · iexact Hl
    isplitl [HcG]; · iexact HcG
    isplitl [HO] <;> iassumption
  iapply (run_wand c) $$ H
  iintro %_ ⟨HO, HzG', Hg'⟩
  ihave Hg' := (Entails.of_eq (show dmaPay m ρ rG c = part (gOf (xn c)) fullShare c (gC m ρ c) from rfl)) $$ Hg'
  rw [run_bind]
  ihave H := (run_wait m ρ K c sT _ (sem_eq 0) (src := tOf c) (dst := hM) (credit_h sT (by decide)) 0 (above_zero _)) $$ [HdT HO HaT]
  · isplitr; · iexact HR
    isplitr; · iexact Hl
    isplitl [HdT]; · iexact HdT
    isplitl [HO] <;> iassumption
  iapply (run_wand c) $$ H
  iintro %_ ⟨HO, HzT, Hhl⟩
  ihave Hhl := (Entails.of_eq (show dmaPay m ρ sT c = part hM fullShare.left c (hC m ρ c) from rfl)) $$ Hhl
  ihave H := (run_wait m ρ K c rT _ (sem_eq 1) (src := hM) (dst := tOf c) ((credit_t c).trans (credit_h rT (by decide))) 0 (above_zero _)) $$ [HcT HO HaT']
  · isplitr; · iexact HR
    isplitr; · iexact Hl
    isplitl [HcT]; · iexact HcT
    isplitl [HO] <;> iassumption
  iapply (run_wand c) $$ H
  iintro %_ ⟨HO, HzT', Ht'⟩
  ihave Ht' := (Entails.of_eq (show dmaPay m ρ rT c = part (tOf (xn c)) fullShare c (tC m ρ c) from rfl)) $$ Ht'
  -- the pieces together
  ihave Hh := (share_part hM c (hC m ρ c)).2 $$ [Hhl Hhr]
  · isplitl [Hhl] <;> iassumption
  ihave Hy := (share_part yM c (yC m ρ c)).2 $$ [Hyl Hyr]
  · isplitl [Hyl] <;> iassumption
  isplitl [Hh Hv Hy]
  · isplitl [Hh]; · iexists (hC m ρ c); iexact Hh
    isplitl [Hv]; · iexists (wC m ρ (xn c)); iexact Hv
    iexists (yC m ρ c); iexact Hy
  isplitl [HzB HzT HzT' HzW HzW' HzG HzG']
  · isplitl [HzB]; · iexact HzB
    isplitl [HzT]; · iexact HzT
    isplitl [HzT']; · iexact HzT'
    isplitl [HzW]; · iexact HzW
    isplitl [HzW']; · iexact HzW'
    isplitl [HzG] <;> iassumption
  isplitl [HO]; · iexact HO
  isplitl [Hx]; · iexact Hx
  isplitl [Hw]; · iexact Hw
  isplitl [Ht Ht']
  · iapply (cut_t c (tC m ρ c)).2
    isplitl [Ht] <;> iassumption
  · iapply (cut_g c (gC m ρ c)).2
    isplitl [Hg] <;> iassumption

end Body

end Cert.ExchangeProof

end
-- ==== Proof.Exchange.Launch.lean ====
/-
The launch of the exchange: what every device starts from, the ghost state dealt out, and the run of the
program.
-/
module

public import proofs.«01_k».proof.Proof.Exchange.Body
public import Idealize.ShloMosaic.Lib.Pipeline.CollectiveSegs

@[expose] public section

set_option maxRecDepth 16384

noncomputable section

namespace Cert.ExchangeProof

open Cert.ExchangeIdeal Cert.ExchangeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

/-- What the device's body starts from, but for its scratch buffers: the protocol's ghost state and credit. -/
def start (c : Dev nD) : sProp 𝕄 := iprop((∃ K, records m ρ K ∗ linear c) ∗ credits c ∗ levAts L lv)
def Φ₀ (c : Dev nD) : sProp 𝕄 := iprop(start m ρ c ∗ scratch c)
/-- After the body: the scratch buffers and every cell of the device at zero. -/
def Φ₁ (c : Dev nD) : sProp 𝕄 := iprop(scratch (F := F) c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xC m ρ c
    | ⟨1, _⟩ => wC m ρ c
    | ⟨2, _⟩ => tC m ρ c
    | ⟨3, _⟩ => gC m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem fetched_x (t : Fin cfg0.N) : (cfg0.win (0 : Fin 4)).fetch t = true := by rw [fin_N0 t]; rfl
theorem fetched_w (t : Fin cfg0.N) : (cfg0.win (1 : Fin 4)).fetch t = true := by rw [fin_N0 t]; rfl

/-- A staging buffer owned whole, at the contents `X`. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_held (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns; simp only [Memref.view_whole, View.read_whole, View.set_whole]

def bodyPre (c : Dev nD) : sProp 𝕄 :=
  iprop(Φ₀ m ρ c ∗ (dats m ρ 0 c).owesAt () t0_0.castSucc
    ∗ (∃ d, held c cc0_stg0_0 ((dats m ρ 0 c).before (0 : Fin 4) t0_0 d))
    ∗ (∃ d, held c cc0_stg1_0 ((dats m ρ 0 c).before (1 : Fin 4) t0_0 d))
    ∗ (∃ d, held c cc0_stg2_0 ((dats m ρ 0 c).before (2 : Fin 4) t0_0 d))
    ∗ (∃ d, held c cc0_stg3_0 ((dats m ρ 0 c).before (3 : Fin 4) t0_0 d)))
def bodyPost (c : Dev nD) : sProp 𝕄 :=
  iprop(Φ₁ c ∗ (dats m ρ 0 c).owesAt () t0_0.succ
    ∗ held c cc0_stg0_0 (xC m ρ c) ∗ held c cc0_stg1_0 (wC m ρ c) ∗ held c cc0_stg2_0 (tC m ρ c) ∗ held c cc0_stg3_0 (gC m ρ c))

theorem held_intro (c : Dev nD) (b : Ref sig .tc) (X : b.ty.Contents (Elt F)) :
    (((c : Thread nD τ).loc b) ↦{fullShare} X : sProp 𝕄) ⊢ held c b X := by
  iintro H; iexists X; isplitr; · (ipureintro; rfl)
  iexact H

theorem run_body (c : Dev nD) : bodyPre m ρ c ⊢ run (F := F) c prog fun _ => bodyPost m ρ c := by
  unfold bodyPre bodyPost Φ₀ Φ₁ start Dat.owesAt Pipeline.owesWithin
  iintro ⟨⟨⟨⟨%K, #HR, Hlin⟩, Hcr, #Hl⟩, Hscr⟩, ⟨%W, -, HO⟩, ⟨%d0, %g0, %hg0, Hx⟩, ⟨%d1, %g1, %hg1, Hw⟩, ⟨%d2, %g2, -, Ht⟩, ⟨%d3, %g3, -, Hg⟩⟩
  have hx : g0 = xC m ρ c := by rw [hg0]; unfold Dat.before; rw [if_pos (fetched_x t0_0)]; rfl
  subst hx
  have hw : g1 = wC m ρ c := by rw [hg1]; unfold Dat.before; rw [if_pos (fetched_w t0_0)]; rfl
  subst hw
  have h := run_prog m ρ K c
  unfold owesE wholeP at h
  ihave H := h $$ [Hlin Hcr Hscr HO Hx Hw Ht Hg]
  · isplitr; · iexact HR
    isplitl [Hlin]; · iexact Hlin
    isplitl [Hcr]; · iexact Hcr
    isplitr; · iexact Hl
    isplitl [Hscr]; · iexact Hscr
    isplitl [HO]; · iexists W; iexact HO
    isplitl [Hx]; · iexact Hx
    isplitl [Hw]; · iexact Hw
    isplitl [Ht]; · iexists g2; iexact Ht
    iexists g3; iexact Hg
  iapply (run_wand c) $$ H
  iintro %_ ⟨Hscr, Hz, ⟨%W', HO⟩, Hx, Hw, Ht, Hg⟩
  isplitl [Hscr Hz]
  · isplitl [Hscr] <;> iassumption
  isplitl [HO]
  · iexists W'
    isplitr; · ipureintro; exact fun _ _ => Or.inl trivial
    iexact HO
  isplitl [Hx]; · iapply (held_intro c cc0_stg0_0 (xC m ρ c)); iexact Hx
  isplitl [Hw]; · iapply (held_intro c cc0_stg1_0 (wC m ρ c)); iexact Hw
  isplitl [Ht]; · iapply (held_intro c cc0_stg2_0 (tC m ρ c)); iexact Ht
  iapply (held_intro c cc0_stg3_0 (gC m ρ c)); iexact Hg

theorem after_x (c : Dev nD) (t : Fin cfg0.N) : (dats m ρ 0 c).after (0 : Fin 4) t = xC m ρ c := rfl
theorem after_w (c : Dev nD) (t : Fin cfg0.N) : (dats m ρ 0 c).after (1 : Fin 4) t = wC m ρ c := rfl
theorem after_t (c : Dev nD) (t : Fin cfg0.N) : (dats m ρ 0 c).after (2 : Fin 4) t = tC m ρ c := by unfold dats; dsimp only
theorem after_g (c : Dev nD) (t : Fin cfg0.N) : (dats m ρ 0 c).after (3 : Fin 4) t = gC m ρ c := by unfold dats; dsimp only
theorem phi_in (c : Dev nD) : (dats m ρ 0 c).Φ t0_0.castSucc = Φ₀ m ρ c := rfl
theorem phi_out (c : Dev nD) : (dats m ρ 0 c).Φ t0_0.succ = Φ₁ c := rfl

theorem body_obligation (c : Dev nD) : BodyObligation (dats (F := F) m ρ 0 c) (defs₀ (F := F)) 𝒱₀ () Set.univ := fun t => by
  rw [fin_N0 t]
  rw [bigSep_W, bigSep_W]
  simp only [owns_held]
  rw [show (defs₀ (F := F)) .tc cfg0.body (cfg0.bodyArgs t0_0 (cfg0.slots t0_0)) = prog from body_eq]
  rw [after_x, after_w, after_t, after_g, phi_in, phi_out]
  exact run_body m ρ c

/-! ## The ghost state dealt out -/

def osem (a : Fin 6) : SemLoc sig := csem (some a)

theorem ownSemFacts : Pipeline.OwnSemFacts cfg0.spec osem where
  isScoped := by decide +kernel
  inj := fun x y h => Option.some.inj (csem_injective h)
  disj := by decide +kernel

theorem share_eq (c : Dev nD) (w : Fin cfg0.W) : (dats m ρ 0 c).share w = fullShare := by unfold Dat.share; split <;> rfl

/-- Every cell of every device, and its duty's token. -/
def allCells : Finset (GSem nD τ sig) := Finset.univ.map ⟨kcell, kcell_injective⟩
def tokOf (p : Dev nD × Cell) : GSem nD τ sig × ℕ × Bool := (kcell p, 0, false)
theorem tokOf_injective : Function.Injective tokOf := fun p q h =>
  kcell_injective (congrArg (fun x : GSem nD τ sig × ℕ × Bool => x.1) h)
def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

/-- The cells of a device: the barrier, and the six transfer cells. -/
theorem bigSep_cell (Φ : Cell → sProp 𝕄) : bigSep Finset.univ Φ = iprop(Φ none ∗ bigSep Finset.univ fun a => Φ (some a)) := by
  have h : Finset.univ.erase (none : Cell) = Finset.univ.map Function.Embedding.some := by
    ext x; cases x <;> simp
  rw [bigSep_univ_at Φ none, h, bigSep_map]
  rfl

/-- What the launch deals a device: its cells' rounds, its turns, and its cells' tokens. -/
def G (c : Dev nD) : sProp 𝕄 :=
  iprop((bigSep Finset.univ fun x : Cell => roundState ER (sched m ρ) (kcell (c, x)) 0)
    ∗ (bigSep Finset.univ fun x : Cell => iprop(atPos ER (kcell (c, x)) 0 ∅ 0 ∗ reached ER (kcell (c, x)) 0))
    ∗ bigSep Finset.univ fun x : Cell => tok (F := F) x c)

def G' (c : Dev nD) : sProp 𝕄 := iprop(∃ K, records m ρ K ∗ linear c)

theorem fund : BI.own (ER (initOf allCells allToks)) ⊢ (|==> bigSep Finset.univ (G (F := F) m ρ) : sProp 𝕄) := by
  have hX (Φ : GSem nD τ sig → sProp 𝕄) : bigSep allCells Φ = bigSep Finset.univ fun c : Dev nD => bigSep Finset.univ fun x : Cell => Φ (kcell (c, x)) := by
    unfold allCells; rw [bigSep_map, bigSep_univ_prod]; rfl
  have hT : bigSep allToks (fun x => (dutyTok ER x.1 x.2.1 x.2.2 : sProp 𝕄))
      = bigSep Finset.univ fun c : Dev nD => bigSep Finset.univ fun x : Cell => tok (F := F) x c := by
    unfold allToks; rw [bigSep_map, bigSep_univ_prod]; rfl
  iintro HX
  imod (Rounds.fund ER (sched m ρ) allCells allToks) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem unscoped_eq (c : Dev nD) : (unscopedSems0 c : sProp 𝕄) = semVal (kcell (c, none)) 0 := by
  unfold unscopedSems0; rw [bigSep_eq_bigSepL_of_eq [SemLoc.reg barS] (by decide) (by decide)]; rfl

theorem own_eq (c : Dev nD) : (Pipeline.ownSems0 (Ix := Unit) (Name := ℕ) (U := UU) (Lvl := ℕ) (Val := Elt F) (τ := τ) osem c : sProp 𝕄)
    = bigSep Finset.univ (zero (F := F) c) := rfl

theorem zeros_eq (c : Dev nD) : (zeros c : sProp 𝕄) = bigSep Finset.univ fun x : Cell => semVal (kcell (c, x)) 0 := by
  rw [bigSep_cell]; rfl
theorem zeros_split (c : Dev nD) :
    (zeros c : sProp 𝕄) = iprop(unscopedSems0 c ∗ Pipeline.ownSems0 (Ix := Unit) (Name := ℕ) (U := UU) (Lvl := ℕ) (Val := Elt F) (τ := τ) osem c) := by
  rw [own_eq, unscoped_eq]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x => iprop(∃ κ : ℕ, cellInv ER (sched m ρ) κ (kcell (c, x))))
          ∗ (bigSep Finset.univ fun x : Cell => iprop(atPos ER (kcell (c, x)) 0 ∅ 0 ∗ reached ER (kcell (c, x)) 0))
          ∗ bigSep Finset.univ fun x : Cell => tok (F := F) x c) := by
  unfold G
  iintro ⟨Hos, Hus, Hst, Hat, Htok⟩
  ihave Hv := (Entails.of_eq ((zeros_split (F := F) c).symm.trans (zeros_eq c))) $$ [Hos Hus]
  · isplitl [Hus] <;> iassumption
  imod (show iprop((bigSep Finset.univ fun x : Cell => semVal (kcell (c, x)) 0) ∗ bigSep Finset.univ fun x : Cell => roundState ER (sched m ρ) (kcell (c, x)) 0)
      ⊢ (|={Set.univ}=> bigSep Finset.univ fun x => iprop(∃ κ : ℕ, cellInv ER (sched m ρ) κ (kcell (c, x))) : sProp 𝕄) from by
        rw [← bigSep_sep']
        exact (bigSep_mono fun x _ => (Rounds.body_intro ER (sched m ρ) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

/-- The tokens a device spends. -/
def spent (c : Dev nD) : sProp 𝕄 :=
  iprop(tok none (xn c) ∗ (tok (some sT) c ∗ tok (some rT) (xn c)) ∗ (tok (some sW) c ∗ tok (some rW) (xn c)) ∗ tok (some sG) c ∗ tok (F := F) (some rG) (xn c))

/-- They are dealt out of those of all devices' cells. -/
theorem toks_around :
    (bigSep Finset.univ fun c : Dev nD => bigSep Finset.univ fun x : Cell => tok (F := F) x c) ⊢ bigSep Finset.univ fun c => spent (F := F) c := by
  have hx (x : Cell) : (bigSep Finset.univ fun c : Dev nD => tok (F := F) x c) = bigSep Finset.univ fun c => tok x (xn c) := bigSep_univ_equiv xEquiv _
  unfold spent
  simp only [bigSep_cell, bigSep_six, bigSep_sep']
  rw [hx none, hx (some rT), hx (some rW), hx (some rG)]
  iintro ⟨H1, H2, H3, H4, H5, H6, H7⟩
  isplitl [H1]; · iexact H1
  isplitl [H2 H3]
  · isplitl [H2] <;> iassumption
  isplitl [H4 H5]
  · isplitl [H4] <;> iassumption
  isplitl [H6] <;> iassumption

theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem turns_eq (c : Dev nD) : (bigSep Finset.univ fun x : Cell => (atPos ER (kcell (c, x)) 0 ∅ 0 : sProp 𝕄))
    = iprop(atPos ER (kcell (c, none)) 0 ∅ 0 ∗ bigSep Finset.univ (turn (F := F) c)) := by
  rw [bigSep_cell]; rfl

theorem regroup :
    (bigSep Finset.univ fun c : Dev nD => iprop((bigSep Finset.univ fun x => iprop(∃ κ : ℕ, cellInv ER (sched m ρ) κ (kcell (c, x))))
          ∗ (bigSep Finset.univ fun x : Cell => iprop(atPos ER (kcell (c, x)) 0 ∅ 0 ∗ reached ER (kcell (c, x)) 0))
          ∗ bigSep Finset.univ fun x : Cell => tok (F := F) x c) : sProp 𝕄)
      ⊢ bigSep Finset.univ (G' m ρ) := by
  rw [bigSep_sep', bigSep_sep', ← bigSep_univ_prod (fun p : Dev nD × Cell => iprop(∃ κ : ℕ, cellInv ER (sched m ρ) κ (kcell p))),
    bigSep_congr (s := Finset.univ) (fun (c : Dev nD) _ => bigSep_sep' Finset.univ (fun x : Cell => (atPos ER (kcell (c, x)) 0 ∅ 0 : sProp 𝕄)) (fun x => reached ER (kcell (c, x)) 0)),
    bigSep_sep', ← bigSep_univ_prod (fun p : Dev nD × Cell => (reached ER (kcell p) 0 : sProp 𝕄))]
  iintro ⟨HI, ⟨Hat, #HR⟩, Htok⟩
  ihave HK := (BI.bigSep_exists_pi Finset.univ (fun (p : Dev nD × Cell) (κ : ℕ) => (cellInv ER (sched m ρ) κ (kcell p) : sProp 𝕄))) $$ HI
  icases HK with ⟨%K, #HI⟩
  ihave Htk := (toks_around (F := F)) $$ Htok
  iapply (bigSep_beside (R := records m ρ K) (Φ := linear) fun c _ => by
    unfold G'; iintro ⟨#H1, H2⟩; iexists K; isplitr; · iexact H1
    iexact H2)
  isplitr
  · unfold records; isplitl; · iexact HI
    iexact HR
  · iapply ((Entails.of_eq (bigSep_sep' Finset.univ (fun c : Dev nD => bigSep Finset.univ fun x : Cell => (atPos ER (kcell (c, x)) 0 ∅ 0 : sProp 𝕄)) spent).symm).trans
      (bigSep_mono fun c _ => show _ ⊢ linear c from by
        rw [turns_eq]; unfold linear spent
        exact Entails.of_eq rfl))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What is owed to a cell at launch: the barrier's unit, and an arrival's credit. -/
def owedAmt (x : Cell) : ℕ := match x with
  | none => 1
  | some a => if a = rT ∨ a = rW ∨ a = rG then N a else 0

theorem owed_rT : owedAmt (some rT) = N rT := (if_pos (show rT = rT ∨ rT = rW ∨ rT = rG by decide) : (if rT = rT ∨ rT = rW ∨ rT = rG then N rT else 0) = N rT)
theorem owed_rW : owedAmt (some rW) = N rW := (if_pos (show rW = rT ∨ rW = rW ∨ rW = rG by decide) : (if rW = rT ∨ rW = rW ∨ rW = rG then N rW else 0) = N rW)
theorem owed_rG : owedAmt (some rG) = N rG := (if_pos (show rG = rT ∨ rG = rW ∨ rG = rG by decide) : (if rG = rT ∨ rG = rW ∨ rG = rG then N rG else 0) = N rG)

theorem O₀_apply (d : Dev nD) (q : Dev nD × Cell) : O₀ d (kcell q) ()
    = (if q = (xn d, some rG) then N rG else 0) + (if q = (xn d, some rW) then N rW else 0) + (if q = (xn d, some rT) then N rT else 0) + (if q = (xn d, none) then 1 else 0) := by
  unfold O₀
  rw [Pi.add_apply, Finsupp.add_apply, Pi.add_apply, Finsupp.add_apply, Pi.add_apply, Finsupp.add_apply, T_apply, T_apply, T_apply, T_apply]

theorem owed_eq (d c : Dev nD) (x : Cell) : O₀ d (kcell (c, x)) () = if d = xn c then owedAmt x else 0 := by
  rw [O₀_apply]
  by_cases h : d = xn c
  · subst h
    rw [xn_xn, if_pos rfl]
    rcases x with _ | a
    · simp [owedAmt]
    · fin_cases a <;> simp [owedAmt, rT, rW, rG]
  · have hc : ∀ y : Cell, (c, x) ≠ (xn d, y) := fun y h' => h (xn_iff.mp (congrArg Prod.fst h'))
    rw [if_neg (hc _), if_neg (hc _), if_neg (hc _), if_neg (hc _), if_neg h]

theorem launch_at (c : Dev nD) (x : Cell) :
    tallyOn (kcell (c, x)) (launchCredit (Pipeline.owing O₀) 0 (kcell (c, x))) = T (c, x) (owedAmt x) := by
  unfold T tallyAt; refine congrArg _ (Finsupp.ext fun u => ?_); cases u
  refine (Pipeline.launchCredit_owing O₀ (kcell (c, x)) ()).trans (Eq.trans ?_ Finsupp.single_eq_same.symm)
  rw [Finset.sum_congr rfl fun d _ => owed_eq d c x, Finset.sum_ite_eq' Finset.univ (xn c) fun _ => owedAmt x, if_pos (Finset.mem_univ _)]

theorem creds (c : Dev nD) : (Pipeline.launchCred O₀ c : sProp 𝕄) ⊢ credits c := by
  have h : (Pipeline.launchCred O₀ c : sProp 𝕄) ⊢ bigSep Finset.univ fun x : Cell => cred (tallyOn (kcell (c, x)) (launchCredit (Pipeline.owing O₀) 0 (kcell (c, x)))) := by
    unfold Pipeline.launchCred
    exact (bigSep_subset (Finset.subset_univ (Finset.univ.map ⟨csem, csem_injective⟩))).trans (Entails.of_eq (bigSep_map _))
  refine h.trans ?_
  simp only [launch_at]
  rw [bigSep_cell, bigSep_six]
  unfold credits due
  iintro ⟨H1, -, H2, -, H3, -, H4⟩
  isplitl [H1]; · iexact H1
  isplitl [H2]; · iapply (Entails.of_eq (congrArg (fun n => cred (T (c, some rT) n)) owed_rT)) $$ H2
  isplitl [H3]; · iapply (Entails.of_eq (congrArg (fun n => cred (T (c, some rW) n)) owed_rW)) $$ H3
  iapply (Entails.of_eq (congrArg (fun n => cred (T (c, some rG) n)) owed_rG)) $$ H4

/-! ## The side conditions of the launch theorem -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem scratch_eq (c : Dev nD) : (scratch c : sProp 𝕄) = Pipeline.scopedRest cfg0.spec c := by
  rw [scopedRest0_eq]; rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, ← scratch_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ← scratch_eq]
  unfold Φ₁
  rw [zeros_split]
  iintro ⟨Hr, Hu, Ho⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    refine mayWait c _ _ ?_
    rw [show dec (SemLoc.dma ((cfgs 0).win w |>.sem s)) = none by fin_cases w <;> fin_cases s <;> decide]
    rcases t with ⟨_ | _, ht⟩
    · exact above_O₀ c
    · exact above_zero 0

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters every execution of the program ends, with every window's array at the computed
    contents and every counter at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 4) = (s₀ m ρ).mem (win0_0.arr.view.loc (c : Thread nD τ)) :=
  (dats (F := F) m ρ 0 c).arrAt_in (0 : Fin 4) rfl _
theorem finalA_w (c : Dev nD) : finalA m ρ c (1 : Fin 4) = (s₀ m ρ).mem (win0_1.arr.view.loc (c : Thread nD τ)) :=
  (dats (F := F) m ρ 0 c).arrAt_in (1 : Fin 4) rfl _

end Cert.ExchangeProof

end
-- ==== Proof.Exchange.Value.lean ====
/-
The value of the exchange: every device ends with all tokens, narrowed, and with the products of all tokens and the
whole router; and the frames of the programs.
-/
module

public import proofs.«01_k».proof.Proof.Exchange.Launch
public import proofs.«01_k».proof.Proof.Gen.GatesIdeal.Run
public import proofs.«01_k».proof.Defs
public import proofs.«01_k».proof.Proof.Gen.Exchange
public import proofs.«01_k».proof.Proof.Gen.Pre_finite_inputs_ExchangeIdeal
public import proofs.«01_k».proof.Proof.Gen.Pre_finite_inputs_GatesIdeal
public import Idealize.ShloMosaic.Lib.ValueIdx
public import Idealize.ShloMosaic.Lib.ValueLayout
public import Idealize.ShloMosaic.Lib.IdealHost
public import Idealize.ShloMosaic.Lib.KernelVsHost
public import Idealize.ShloMosaic.Lib.MatmulPlain
public import Idealize.ShloMosaic.Lib.StackMember
public import Idealize.ShloMosaic.Lib.ReduceAll
public import Idealize.ShloMosaic.Lib.Layout

@[expose] public section

set_option maxRecDepth 16384

noncomputable section

namespace Cert.ExchangeProof

open Cert.ExchangeIdeal Cert.ExchangeIdeal.Gen
open Idealize.ShloMosaic
open Idealize.ShloMosaic.TcCoe
open Idealize.ShloMosaic.ValueIdx
open Idealize.SL.Sem

/-! ## The arrays before and after the run -/

section Read
variable {F : FTy → Type} [FloatOps F]
variable (m : (ℓ : Loc nD τ sig) → Buf (Elt F) ℓ) (ρ : Dev nD → PrngReg)

theorem x_zero : (fun a => (win0_0.index (0 : Fin 1)) a * main_arg0.ty.shape.size a) = fun _ => 0 :=
  funext fun a => by revert a; decide
theorem w_zero : (fun a => (win0_1.index (0 : Fin 1)) a * main_arg1.ty.shape.size a) = fun _ => 0 :=
  funext fun a => by revert a; decide
theorem t_zero : (fun a => (win0_2.index (0 : Fin 1)) a * main_v1_0.ty.shape.size a) = fun _ => 0 :=
  funext fun a => by revert a; decide
theorem g_zero : (fun a => (win0_3.index (0 : Fin 1)) a * main_v1_1.ty.shape.size a) = fun _ => 0 :=
  funext fun a => by revert a; decide

/-- The staged blocks are the whole arrays. -/
theorem xC_eq (c : Dev nD) : xC m ρ c = m ((c : Thread nD τ).loc main_arg0) :=
  Memref.read_access_unit_zero (Elt F) main_arg0 x_zero (fun a => by revert a; decide) _
theorem wC_eq (c : Dev nD) : wC m ρ c = m ((c : Thread nD τ).loc main_arg1) :=
  Memref.read_access_unit_zero (Elt F) main_arg1 w_zero (fun a => by revert a; decide) _

/-- A result array ends at what the body left in its staged block. -/
theorem finalA_t (c : Dev nD) : finalA m ρ c (2 : Fin 4) = tC m ρ c := by
  have h : (win0_2.blk (0 : Fin 1)).view.read (Elt F) (finalA m ρ c (2 : Fin 4)) = tC m ρ c := by
    unfold finalA
    rw [show cfg0.N = ((0 : Fin 1) : Fin cfg0.N).val + 1 from rfl, (dats m ρ 0 c).arrAt_succ (2 : Fin 4) (0 : Fin 1)]
    rw [show (cfg0.win (2 : Fin 4)).flush (0 : Fin 1) = true from by decide, if_pos rfl]
    refine (View.read_write_univ _ _).trans ?_
    exact after_t m ρ c _
  exact (Memref.read_access_unit_zero (Elt F) main_v1_0 t_zero (fun a => by revert a; decide) _).symm.trans h
theorem finalA_g (c : Dev nD) : finalA m ρ c (3 : Fin 4) = gC m ρ c := by
  have h : (win0_3.blk (0 : Fin 1)).view.read (Elt F) (finalA m ρ c (3 : Fin 4)) = gC m ρ c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    refine (View.read_write_univ _ _).trans ?_
    exact after_g m ρ c _
  exact (Memref.read_access_unit_zero (Elt F) main_v1_1 g_zero (fun a => by revert a; decide) _).symm.trans h

/-- An element of a result, where its holder computed it. -/
theorem tC_apply (c : Dev nD) (r : Fin 2048) (k : Fin 1024) :
    tC m ρ c (ix2 r k) = k0_pay1 (F := F) (xC m ρ (holder c r.val)) (ix2 (⟨r.val % 1024, Nat.mod_lt _ (by decide)⟩ : Fin 1024) k) := rfl
theorem gC_apply (c : Dev nD) (r : Fin 2048) (l : Fin 16) :
    gC m ρ c (ix2 r l) = k0_pay3 (F := F) (k0_pay2 (rowWord (holder c r.val)) (wC m ρ (holder c r.val)) (wC m ρ (xn (holder c r.val)))
      (wC m ρ (xn (holder c r.val))) (wC m ρ (holder c r.val))) (xC m ρ (holder c r.val)) (ix2 (⟨r.val % 1024, Nat.mod_lt _ (by decide)⟩ : Fin 1024) l) := rfl

end Read

/-! ## The devices' blocks of the whole arrays -/

abbrev AllTokens : Shape := ⟨2, ![2048, 1024]⟩
abbrev AllColumns : Shape := ⟨2, ![1024, 16]⟩

theorem lin_row : ∀ c : Dev nD, Layout.meshLin [2, 2] c.val [0] = c.val / 2 := by decide
theorem lin_none : ∀ c : Dev nD, Layout.meshLin [2, 2] c.val [] = 0 := by decide

/-- Row `i` of device `c`'s tokens among all tokens, and column `l` of its router columns among all columns. -/
def tokenOf (c : Dev nD) (i : Fin 1024) : Fin 2048 := ⟨1024 * (c.val / 2) + i.val, by have := row_lt c; omega⟩
def columnOf (c : Dev nD) (l : Fin 8) : Fin 16 := ⟨8 * (c.val / 2) + l.val, by have := row_lt c; omega⟩

theorem block_x (c : Dev nD) (X : AllTokens.Idx → EReal) (i k : Fin 1024) :
    (Layout.blockN ⟨2, ![1024, 1024]⟩ ⟨2, ![2048, 1024]⟩ (Layout.meshBlock [2, 2] ![[0], []] c) X : _ → EReal) (ix2 i k)
      = X (ix2 (tokenOf c i) k) := by
  refine congrArg X (funext fun a => Fin.ext ?_)
  rw [Layout.TilesN.idx_val]
  match a with
  | ⟨0, _⟩ => show Layout.meshLin [2, 2] c.val [0] * 1024 + i.val = 1024 * (c.val / 2) + i.val; rw [lin_row]; omega
  | ⟨1, _⟩ => show Layout.meshLin [2, 2] c.val [] * 1024 + k.val = k.val; rw [lin_none]; omega

theorem block_w (c : Dev nD) (R : AllColumns.Idx → EReal) (k : Fin 1024) (l : Fin 8) :
    (Layout.blockN ⟨2, ![1024, 8]⟩ ⟨2, ![1024, 16]⟩ (Layout.meshBlock [2, 2] ![[], [0]] c) R : _ → EReal) (ix2 k l)
      = R (ix2 k (columnOf c l)) := by
  refine congrArg R (funext fun a => Fin.ext ?_)
  rw [Layout.TilesN.idx_val]
  match a with
  | ⟨0, _⟩ => show Layout.meshLin [2, 2] c.val [] * 1024 + k.val = k.val; rw [lin_none]; omega
  | ⟨1, _⟩ => show Layout.meshLin [2, 2] c.val [0] * 8 + l.val = 8 * (c.val / 2) + l.val; rw [lin_row]; omega

/-- A token's holder and its row there; a router column's device of either row and its place there. -/
theorem token_held (c : Dev nD) (r : Fin 2048) : tokenOf (holder c r.val) ⟨r.val % 1024, Nat.mod_lt _ (by decide)⟩ = r := by
  apply Fin.ext
  show 1024 * ((holder c r.val).val / 2) + r.val % 1024 = r.val
  have h1 := xn_row c
  have h2 := row_lt c
  unfold holder
  split <;> omega

/-! ## Finite inputs -/

/-- Neither infinity. -/
def Finite (e : EReal) : Prop := e ≠ ⊤ ∧ e ≠ ⊥

theorem sub_self_of_finite (e : EReal) (h : Finite e) : e - e = 0 := EReal.sub_self h.1 h.2

theorem finite_of_test (x : Ideal .f32)
    (h : FloatOps.cmpf .olt (FloatOps.hostAbsf x) (FloatOps.ofBits (F := Ideal) .f32 0x7F800000#32) = 1#1) : Finite x := by
  rw [← Ideal.xori_weird_eq_hostAbsf_olt_inf] at h
  have h' : IntOp.xori (BitVec.ofBool (decide ((x : EReal) = ⊤ ∨ (x : EReal) = ⊥))) 1#1 = 1#1 := h
  by_cases hx : (x : EReal) = ⊤ ∨ (x : EReal) = ⊥
  · rw [decide_eq_true hx] at h'
    exact absurd h' (by decide)
  · exact not_or.1 hx

/-- What the precondition says of one device's blocks. -/
theorem finite_of_pre (x : FVec Ideal S1024x1024 .f32) (w : FVec Ideal S1024x8 .f32)
    (h : Cert.Pre_finite_inputs_ExchangeIdeal.fn (F := Ideal) x w = fun _ => 1#1) : (∀ i, Finite (x i)) ∧ ∀ i, Finite (w i) := by
  have h0 := congrFun h ix0
  unfold Cert.Pre_finite_inputs_ExchangeIdeal.fn at h0
  obtain ⟨hx, hw⟩ := IntOp.andi_eq_one.1 h0
  haveI : Subsingleton Cert.Pre_finite_inputs_ExchangeIdeal.S_.Idx := ⟨fun a b => funext fun k => k.elim0⟩
  exact ⟨fun i => finite_of_test _ (Host.reduce_andi_all _ _ _ _ ix0 hx i), fun i => finite_of_test _ (Host.reduce_andi_all _ _ _ _ ix0 hw i)⟩

/-! ## The payloads on extended reals -/

theorem pay_narrow (x : Vec Ideal S1024x1024 .f32) (i : S1024x1024.Idx) : (k0_pay1 (F := Ideal) x i : EReal) = x i := by
  unfold k0_pay1
  rw [shapeCast_self, shapeCast_self]
  rfl

theorem dot_plain : dot_S1024x1024_S1024x16_S1024x16_1_0_0_1_n_n = DotDims.plain 1024 1024 16 := rfl
theorem dot_plain_whole : Cert.GatesIdeal.dot_S2048x1024_S1024x16_S2048x16_1_0_0_1_n_n = DotDims.plain 2048 1024 16 := rfl

theorem product (a : FVec Ideal S1024x1024 .bf16) (b : FVec Ideal S1024x16 .bf16) (i : Fin 1024) (l : Fin 16) :
    (matmul dot_S1024x1024_S1024x16_S1024x16_1_0_0_1_n_n none a b (constant S1024x16 .f32 0x00000000#32) (ix2 i l) : EReal)
      = ∑ k : Fin 1024, ((a (ix2 i k) : EReal) * (b (ix2 k l) : EReal)) := by
  rw [matmul_zero_eq_dotGeneral, dot_plain]
  exact StackMember.dotGeneral_plain_apply none a b i l

/-- The scores: with finite operands the parts that narrowing would leave over are zero. -/
theorem pay_scores (W : FVec Ideal S1024x16 .f32) (x : Vec Ideal S1024x1024 .f32) (hW : ∀ i, Finite (W i)) (hx : ∀ i, Finite (x i))
    (i : Fin 1024) (l : Fin 16) : (k0_pay3 (F := Ideal) W x (ix2 i l) : EReal) = ∑ k : Fin 1024, ((x (ix2 i k) : EReal) * (W (ix2 k l) : EReal)) := by
  unfold k0_pay3
  rw [shapeCast_self, shapeCast_self]
  refine (congrArg₂ (fun a b : EReal => a + b) (congrArg₂ (fun a b : EReal => a + b) (product _ _ i l) (product _ _ i l)) (product _ _ i l)).trans ?_
  have h1 : ∑ k : Fin 1024, (x (ix2 i k) : EReal) * ((W (ix2 k l) : EReal) - (W (ix2 k l) : EReal)) = 0 :=
    Finset.sum_eq_zero fun k _ => by rw [sub_self_of_finite _ (hW _), mul_zero]
  have h2 : ∑ k : Fin 1024, ((x (ix2 i k) : EReal) - (x (ix2 i k) : EReal)) * (W (ix2 k l) : EReal) = 0 :=
    Finset.sum_eq_zero fun k _ => by rw [sub_self_of_finite _ (hx _), zero_mul]
  refine (congrArg₂ (fun a b : EReal => (∑ k : Fin 1024, ((x (ix2 i k) : EReal) * (W (ix2 k l) : EReal))) + a + b) h1 h2).trans ?_
  rw [add_zero, add_zero]

theorem row_test (c : Dev nD) : Scalar.cmpi .eq (rowWord c) 0#32 = if c.val / 2 = 0 then 1#1 else 0#1 := by revert c; decide

/-- The two devices' router columns side by side are the whole router. -/
theorem pay_router (R : AllColumns.Idx → EReal) (w : Dev nD → Vec Ideal S1024x8 .f32)
    (h : ∀ c k l, (w c (ix2 k l) : EReal) = R (ix2 k (columnOf c l))) (c : Dev nD) (k : Fin 1024) (l : Fin 16) :
    (k0_pay2 (F := Ideal) (rowWord c) (w c) (w (xn c)) (w (xn c)) (w c) (ix2 k l) : EReal) = R (ix2 k l) := by
  have h1 := xn_row c
  have h2 := row_lt c
  unfold k0_pay2
  rw [shapeCast_self, row_test]
  by_cases hl : l.val < 8
  · refine (concatenate_pair_apply_left (t := S1024x16) (s₁ := S1024x8) (s₂ := S1024x8) 1 _ _ _ (ix2 k l) rfl (ix2 k (⟨l.val, hl⟩ : Fin 8))
      (fun b => by match b with | ⟨0, _⟩ => rfl | ⟨1, _⟩ => rfl)).trans ?_
    by_cases hc : c.val / 2 = 0
    · rw [if_pos hc]
      refine (h c k ⟨l.val, hl⟩).trans (congrArg (fun z => R (ix2 k z)) (Fin.ext ?_))
      show 8 * (c.val / 2) + l.val = l.val
      omega
    · rw [if_neg hc]
      refine (h (xn c) k ⟨l.val, hl⟩).trans (congrArg (fun z => R (ix2 k z)) (Fin.ext ?_))
      show 8 * ((xn c).val / 2) + l.val = l.val
      omega
  · refine (concatenate_pair_apply_right (t := S1024x16) (s₁ := S1024x8) (s₂ := S1024x8) 1 _ _ _ (ix2 k l) rfl rfl (ix2 k (⟨l.val - 8, by omega⟩ : Fin 8))
      (fun b hb => by match b with | ⟨0, _⟩ => rfl | ⟨1, _⟩ => exact absurd rfl hb) (by show l.val - 8 + 8 = l.val; omega)).trans ?_
    by_cases hc : c.val / 2 = 0
    · rw [if_pos hc]
      refine (h (xn c) k ⟨l.val - 8, by omega⟩).trans (congrArg (fun z => R (ix2 k z)) (Fin.ext ?_))
      show 8 * ((xn c).val / 2) + (l.val - 8) = l.val
      omega
    · rw [if_neg hc]
      refine (h c k ⟨l.val - 8, by omega⟩).trans (congrArg (fun z => R (ix2 k z)) (Fin.ext ?_))
      show 8 * (c.val / 2) + (l.val - 8) = l.val
      omega

/-! ## The results -/

section Results
variable (m : (ℓ : Loc nD τ sig) → Buf (Elt Ideal) ℓ) (ρ : Dev nD → PrngReg)
variable (X : AllTokens.Idx → EReal) (R : AllColumns.Idx → EReal)

/-- The devices' arguments are their blocks of the whole arrays. -/
def Blocks : Prop := ∀ c : Dev nD,
  m ((c.tc : Thread nD τ).loc main_arg0) = Layout.blockN ⟨2, ![1024, 1024]⟩ ⟨2, ![2048, 1024]⟩ (Layout.meshBlock [2, 2] ![[0], []] c) X
  ∧ m ((c.tc : Thread nD τ).loc main_arg1) = Layout.blockN ⟨2, ![1024, 8]⟩ ⟨2, ![1024, 16]⟩ (Layout.meshBlock [2, 2] ![[], [0]] c) R

variable {m X R} (hB : Blocks m X R)
include hB

theorem x_at (c : Dev nD) (i k : Fin 1024) : (xC m ρ c (ix2 i k) : EReal) = X (ix2 (tokenOf c i) k) :=
  (congrFun ((xC_eq m ρ c).trans (hB c).1) _).trans (block_x c X i k)
theorem w_at (c : Dev nD) (k : Fin 1024) (l : Fin 8) : (wC m ρ c (ix2 k l) : EReal) = R (ix2 k (columnOf c l)) :=
  (congrFun ((wC_eq m ρ c).trans (hB c).2) _).trans (block_w c R k l)

/-- The first result is all tokens. -/
theorem tokens_value (c : Dev nD) : tC m ρ c = X := by
  funext i
  obtain ⟨r, k, rfl⟩ : ∃ (r : Fin 2048) (k : Fin 1024), i = ix2 r k := ⟨i 0, i 1, eq_ix2 i⟩
  rw [tC_apply]
  refine (pay_narrow (xC m ρ (holder c r.val)) _).trans ((x_at ρ hB (holder c r.val) _ k).trans ?_)
  exact congrArg (fun z => X (ix2 z k)) (token_held c r)

variable (hP : Cert.Pre_ExchangeIdeal_finite_inputs_ExchangeIdeal m)

omit hB in
include hP in
theorem x_finite (c : Dev nD) (i : S1024x1024.Idx) : Finite (xC m ρ c i : EReal) := by
  rw [xC_eq]
  exact (finite_of_pre _ _ (hP c)).1 i
omit hB in
include hP in
theorem w_finite (c : Dev nD) (i : S1024x8.Idx) : Finite (wC m ρ c i : EReal) := by
  rw [wC_eq]
  exact (finite_of_pre _ _ (hP c)).2 i

include hP

include ρ in
theorem router_finite (k : Fin 1024) (l : Fin 16) : Finite (R (ix2 k l)) := by
  by_cases hl : l.val < 8
  · have h := w_finite ρ hP (0 : Dev nD) (ix2 k (⟨l.val, hl⟩ : Fin 8))
    rw [w_at ρ hB] at h
    rwa [show columnOf (0 : Dev nD) ⟨l.val, hl⟩ = l from Fin.ext (by show 8 * (0 / 2) + l.val = l.val; omega)] at h
  · have h := w_finite ρ hP (2 : Dev nD) (ix2 k (⟨l.val - 8, by omega⟩ : Fin 8))
    rw [w_at ρ hB] at h
    rwa [show columnOf (2 : Dev nD) ⟨l.val - 8, by omega⟩ = l from Fin.ext (by show 8 * (2 / 2) + (l.val - 8) = l.val; omega)] at h

/-- The second result is the product of all tokens and the whole router. -/
theorem scores_value (c : Dev nD) :
    gC m ρ c = Host.dotGeneral (F := Ideal) (φ₁ := .f32) (φ₂ := .f32) Cert.GatesIdeal.dot_S2048x1024_S1024x16_S2048x16_1_0_0_1_n_n none X R := by
  funext i
  obtain ⟨r, l, rfl⟩ : ∃ (r : Fin 2048) (l : Fin 16), i = ix2 r l := ⟨i 0, i 1, eq_ix2 i⟩
  rw [dot_plain_whole, gC_apply]
  refine Eq.trans ?_ (StackMember.dotGeneral_plain_apply (φ₁ := .f32) (φ₂ := .f32) none X R r l).symm
  have hW := fun (d : Dev nD) (k : Fin 1024) (z : Fin 16) => pay_router R (wC m ρ) (w_at ρ hB) d k z
  refine (pay_scores _ _ (fun j => ?_) (x_finite ρ hP _) _ _).trans (Finset.sum_congr rfl fun k _ => ?_)
  · rw [eq_ix2 j]
    exact (hW _ _ _).symm ▸ router_finite ρ hB hP (j 0) (j 1)
  · refine congrArg₂ (fun a b : EReal => a * b) ((x_at ρ hB _ _ _).trans ?_) (hW _ k l)
    exact congrArg (fun z => X (ix2 z k)) (token_held c r)

end Results

/-! ## The claims -/

theorem frame_of {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c (0 : Fin 4)).trans (finalA_x m ρ c), (h.1 c (1 : Fin 4)).trans (finalA_w m ρ c)⟩, h.2⟩)
    (run_main m ρ)

theorem frame_exchangeIdeal : Cert.quiescent_ExchangeIdeal := fun m ρ _ => frame_of (F := Ideal) m ρ
theorem frame_exchangeIdeal_pre : Cert.quiescent_ExchangeIdeal_pre_finite_inputs_ExchangeIdeal := fun m ρ _ => frame_of (F := Ideal) m ρ

/-- The two programs have the same body table. -/
theorem defs_eq : Cert.Exchange.defs (F := Bits) = Cert.ExchangeIdeal.defs (F := Bits) := by
  have h : Cert.Exchange.defs₀ (F := Bits) = Cert.ExchangeIdeal.defs₀ (F := Bits) := by
    unfold Cert.Exchange.defs₀ Cert.ExchangeIdeal.defs₀
    refine congrArg Defs.onTc (funext fun l => funext fun a => ?_)
    match l, a with
    | ⟨0, _⟩, (t, s) => rfl
    | ⟨n + 1, hn⟩, _ => exact absurd hn (Nat.not_lt.2 (Nat.le_add_left _ _))
  exact congrArg (Pipeline.defs (Cert.ExchangeIdeal.pcfgs (F := Bits))) h

theorem frame_exchange : Cert.quiescent_Exchange := fun m ρ _ => by
  rw [defs_eq]
  exact frame_of (F := Bits) m ρ

theorem gates_of (m : (ℓ : Loc Cert.GatesIdeal.nD Cert.GatesIdeal.τ Cert.GatesIdeal.sig) → Buf (Elt Ideal) ℓ) (ρ : Dev Cert.GatesIdeal.nD → PrngReg) :
    θ_run (Cert.GatesIdeal.defs (F := Ideal)) (onTc (τ := Cert.GatesIdeal.τ) (Cert.GatesIdeal.main (F := Ideal))) ⟨m, fun _ => 0, ρ⟩
      (fun r => (∀ c : Dev Cert.GatesIdeal.nD,
        r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
        ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
        ∧ r.2.sem = fun _ => 0) :=
  (θ_run Cert.GatesIdeal.defs _ _).mono (fun r h => ⟨fun c => (h c).2.2, Idealize.ShloMosaic.sem_eq_zero_of_no_sems (by decide) r.2⟩)
    (Cert.GatesIdeal.Value.run (F := Ideal) m ρ)

theorem frame_gates : Cert.quiescent_GatesIdeal := fun m ρ _ => gates_of m ρ
theorem frame_gates_pre : Cert.quiescent_GatesIdeal_pre_finite_inputs_GatesIdeal := fun m ρ _ => gates_of m ρ

theorem algebraic : Cert.algebraic_ExchangeIdeal_GatesIdeal_pre_finite_inputs_ExchangeIdeal := by
  intro m ρ m' ρ' hP hB
  refine ⟨_, _, ?_, (θ_run Cert.GatesIdeal.defs _ _).mono (fun _ h => h 0) (Cert.GatesIdeal.Value.run (F := Ideal) m' ρ')⟩
  exact (θ_run defs _ _).mono (fun _ h c => ⟨((h.1 c (2 : Fin 4)).trans (finalA_t m ρ c)).trans (tokens_value ρ hB c),
      ((h.1 c (3 : Fin 4)).trans (finalA_g m ρ c)).trans (scores_value ρ hB hP c),
      (h.1 c (0 : Fin 4)).trans (finalA_x m ρ c), (h.1 c (1 : Fin 4)).trans (finalA_w m ρ c)⟩) (run_main (F := Ideal) m ρ)

end Cert.ExchangeProof

end
-- ==== Proof.Experts.Steps.lean ====
/- The experts' call, point by point: what the scratch holds after each of the eight grid points, and what the last one stores. -/
module

public import proofs.«01_k».proof.Proof.Gen.ExpertsIdeal
public import proofs.«01_k».proof.Proof.Gen.ExpertsIdeal.Frame
public import Idealize.ShloMosaic.Lib.ValueIdx
public import Idealize.ShloMosaic.Lib.VecWindow
public import Idealize.ShloMosaic.Lib.Pipeline.Value

@[expose] public section

set_option maxRecDepth 16384

noncomputable section

namespace Cert.ExpertsProof

open Idealize.ShloMosaic Idealize.ShloMosaic.TcCoe Idealize.ShloMosaic.ValueIdx
open Idealize.SL.Sem
open Cert.ExpertsIdeal Cert.ExpertsIdeal.Gen

variable {F : FTy → Type} [FloatOps F]
/-- The weights an expert's slots are read with, a row per token: the weight of the choice given that slot, or zero. -/
def wts (a : BitVec 32) (b0 b1 : Vec F S2048 .i32) (w0 w1 : Vec F S2048 .f32) : FVec F S2048x320 .bf16 :=
  k0_pay7 (k0_pay4 a b0 w0) (k0_pay5 (F := F) a b1) (Scalar.ofBits .f32 0x00000000#32) (k0_pay6 w1)

/-- One expert's addition to the tokens' outputs: what the scratch holds after a grid point, from what it held before. -/
def step (a : BitVec 32) (b0 b1 : Vec F S2048 .i32) (w0 w1 : Vec F S2048 .f32) (x : Vec F S2048x1024 .bf16)
    (W1 : Vec F S1x1024x2048 .f32) (W2 : Vec F S1x2048x1024 .f32) (prev : Vec F S2048x1024 .f32) : FVec F S2048x1024 .f32 :=
  k0_pay12 prev (wts a b0 b1 w0 w1) (k0_pay10 (k0_pay2 a b0 b1 x) W1 W2)

variable (m : (ℓ : Loc nD τ sig) → Buf (Elt F) ℓ)

/-- The step at grid point `t`, of the blocks the windows hold there. -/
def stepAt (hO : Ok m) (c : Dev nD) (t : Fin (cfgM m hO).N) (prev : Vec F S2048x1024 .f32) : FVec F S2048x1024 .f32 :=
  step (BitVec.ofNat 32 (grid0.coords t 0).val) (iblk m hO c 0 t) (iblk m hO c 1 t) (iblk m hO c 2 t) (iblk m hO c 3 t)
    (iblk m hO c 4 t) (iblk m hO c 5 t) (iblk m hO c 6 t) prev

theorem pay12_congr {p p' : Vec F S2048x1024 .f32} {w w' : Vec F S2048x320 .bf16} {y y' : Vec F S320x1024 .f32}
    (hp : p = p') (hw : w = w') (hy : y = y') : k0_pay12 p w y = k0_pay12 p' w' y' := by
  rw [hp, hw, hy]

theorem pay10_congr {p p' : Vec F S320x1024 .bf16} {w w' : Vec F S1x1024x2048 .f32} {y y' : Vec F S1x2048x1024 .f32}
    (hp : p = p') (hw : w = w') (hy : y = y') : k0_pay10 p w y = k0_pay10 p' w' y' := by
  rw [hp, hw, hy]

theorem pay2_congr {a : BitVec 32} {p p' q q' : Vec F S2048 .i32} {y y' : Vec F S2048x1024 .bf16}
    (hp : p = p') (hw : q = q') (hy : y = y') : k0_pay2 a p q y = k0_pay2 a p' q' y' := by
  rw [hp, hw, hy]

theorem wts_congr {a : BitVec 32} {p p' q q' : Vec F S2048 .i32} {v v' w w' : Vec F S2048 .f32}
    (hp : p = p') (hq : q = q') (hv : v = v') (hw : w = w') :
    k0_pay7 (k0_pay4 a p v) (k0_pay5 (F := F) a q) (Scalar.ofBits .f32 0x00000000#32) (k0_pay6 w) = wts a p' q' v' w' := by
  rw [hp, hq, hv, hw]; rfl

/-- A whole buffer's contents read whole are what they were given as. -/
theorem readAt_unread_full {κ : Kind} {sp : Space} {s : Shape} {e : EltTy} {M : Memref sig κ sp s e} (h : M.IsWhole)
    {off : Fin s.rank → ℕ} (inb : ∀ a, off a + s.size a ≤ s.size a) (X : s.Idx → Elt F e) :
    M.view.readAt (Elt F) (Rect.unit off s.size inb).toLoadRect (h.unread X) = X :=
  (View.readAt_full _ _ _).trans (h.read_unread X)

theorem outs_B (hO : Ok m) (c : Dev nD) (t : Fin (cfgM m hO).N) (h1 : ¬t.val % 8 = 0) (h5 : ¬t.val % 8 = 7) :
    (outsAt0 m hO c t.val t.isLt).2
      = stepAt m hO c t (outsAt0 m hO c (t.val - 1) (Nat.lt_of_le_of_lt (Nat.sub_le _ _) t.isLt)).2 := by
  rw [outsAt0_B m hO c t h1 h5]
  dsimp only
  unfold sout0_B_3
  dsimp only [kernelRun0_B]
  refine (View.read_writes_full _ _ inb_S2048x1024_S2048x1024_0_0 _ _).trans ?_
  unfold stepAt step
  refine pay12_congr ?_ ?_ ?_
  · exact readAt_unread_full _ _ _
  · unfold kernelRun0_B.sl.v35 kernelRun0_B.sl.HS1_1
    refine (View.readCov_full _ _ _ _ _).trans ?_
    unfold kernelRun0_B.sl.r kernelRun0_B.sl.r_1 kernelRun0_B.sl.r_2 kernelRun0_B.sl.cst_34
    exact wts_congr (readAt_unread_full _ _ _) (readAt_unread_full _ _ _) (readAt_unread_full _ _ _) (readAt_unread_full _ _ _)
  · unfold kernelRun0_B.sl.v36 kernelRun0_B.sl.HS2_1
    refine (View.readCov_full _ _ _ _ _).trans ?_
    refine pay10_congr ?_ (readAt_unread_full _ _ _) (readAt_unread_full _ _ _)
    unfold kernelRun0_B.sl.v8 kernelRun0_B.sl.HS0_1
    refine (View.readCov_full _ _ _ _ _).trans ?_
    exact pay2_congr (readAt_unread_full _ _ _) (readAt_unread_full _ _ _) (readAt_unread_full _ _ _)

theorem outs_A (hO : Ok m) (c : Dev nD) (t : Fin (cfgM m hO).N) (h1 : t.val % 8 = 0) (h5 : ¬t.val % 8 = 7) :
    (outsAt0 m hO c t.val t.isLt).2 = stepAt m hO c t k0_pay8 := by
  rw [outsAt0_A m hO c t h1 h5]
  dsimp only
  unfold sout0_A_3
  dsimp only [kernelRun0_A]
  refine (View.read_writes_full _ _ inb_S2048x1024_S2048x1024_0_0 _ _).trans ?_
  unfold stepAt step
  refine pay12_congr ?_ ?_ ?_
  · unfold kernelRun0_A.sl.v34 kernelRun0_A.sl.HS3_1
    exact View.readCov_full _ _ _ _ _
  · unfold kernelRun0_A.sl.v35 kernelRun0_A.sl.HS1_1
    refine (View.readCov_full _ _ _ _ _).trans ?_
    unfold kernelRun0_A.sl.r kernelRun0_A.sl.r_1 kernelRun0_A.sl.r_2 kernelRun0_A.sl.cst_34
    exact wts_congr (readAt_unread_full _ _ _) (readAt_unread_full _ _ _) (readAt_unread_full _ _ _) (readAt_unread_full _ _ _)
  · unfold kernelRun0_A.sl.v36 kernelRun0_A.sl.HS2_1
    refine (View.readCov_full _ _ _ _ _).trans ?_
    refine pay10_congr ?_ (readAt_unread_full _ _ _) (readAt_unread_full _ _ _)
    unfold kernelRun0_A.sl.v8 kernelRun0_A.sl.HS0_1
    refine (View.readCov_full _ _ _ _ _).trans ?_
    exact pay2_congr (readAt_unread_full _ _ _) (readAt_unread_full _ _ _) (readAt_unread_full _ _ _)

theorem outs_C (hO : Ok m) (c : Dev nD) (t : Fin (cfgM m hO).N) (h1 : ¬t.val % 8 = 0) (h5 : t.val % 8 = 7) :
    (outsAt0 m hO c t.val t.isLt).1
      = k0_pay1 (stepAt m hO c t (outsAt0 m hO c (t.val - 1) (Nat.lt_of_le_of_lt (Nat.sub_le _ _) t.isLt)).2) := by
  rw [outsAt0_C m hO c t h1 h5]
  dsimp only
  unfold out0_C_7
  dsimp only [kernelRun0_C]
  refine (View.read_writes_full _ _ inb_S2048x1024_S2048x1024_0_0 _ _).trans (congrArg k0_pay1 ?_)
  unfold kernelRun0_C.sl.v34 kernelRun0_C.sl.HS3_1
  refine (View.readCov_full _ _ _ _ _).trans ?_
  unfold stepAt step
  refine pay12_congr ?_ ?_ ?_
  · exact readAt_unread_full _ _ _
  · unfold kernelRun0_C.sl.v35 kernelRun0_C.sl.HS1_1
    refine (View.readCov_full _ _ _ _ _).trans ?_
    unfold kernelRun0_C.sl.r kernelRun0_C.sl.r_1 kernelRun0_C.sl.r_2 kernelRun0_C.sl.cst_34
    exact wts_congr (readAt_unread_full _ _ _) (readAt_unread_full _ _ _) (readAt_unread_full _ _ _) (readAt_unread_full _ _ _)
  · unfold kernelRun0_C.sl.v36 kernelRun0_C.sl.HS2_1
    refine (View.readCov_full _ _ _ _ _).trans ?_
    refine pay10_congr ?_ (readAt_unread_full _ _ _) (readAt_unread_full _ _ _)
    unfold kernelRun0_C.sl.v8 kernelRun0_C.sl.HS0_1
    refine (View.readCov_full _ _ _ _ _).trans ?_
    exact pay2_congr (readAt_unread_full _ _ _) (readAt_unread_full _ _ _) (readAt_unread_full _ _ _)

end Cert.ExpertsProof

end
-- ==== Proof.Experts.Math.lean ====
/-
The experts' outputs as numbers: what one expert adds to a token, read slot by slot and read choice by choice, is the
same where no two choices share a slot.
-/
module

public import Idealize.ShloMosaic.Lib.ValueIdx
public import Idealize.ShloMosaic.Lib.WordCmp

@[expose] public section

noncomputable section

namespace Cert.ExpertsProof

open Idealize.ShloMosaic

/-- The half is named: 0 or 1. -/
def Named (b : BitVec 32) : Prop := b = 0#32 ∨ b = 1#32

theorem named_of_bounds {b : BitVec 32} (h0 : IntOp.cmpi .sge b 0#32 = 1#1) (h1 : IntOp.cmpi .slt b 2#32 = 1#1) : Named b := by
  rw [WordCmp.cmpi_sge_eq] at h0
  rw [WordCmp.cmpi_slt_eq] at h1
  have e0 : (0#32).toInt ≤ b.toInt := by
    by_contra hn
    rw [decide_eq_false hn] at h0
    exact absurd h0 (by decide)
  have e1 : b.toInt < (2#32).toInt := by
    by_contra hn
    rw [decide_eq_false hn] at h1
    exact absurd h1 (by decide)
  have f0 : (0#32).toInt = 0 := by decide
  have f1 : (2#32).toInt = 2 := by decide
  rw [f0] at e0
  rw [f1] at e1
  rcases (by omega : b.toInt = 0 ∨ b.toInt = 1) with h | h
  · exact Or.inl (BitVec.eq_of_toInt_eq (h.trans (by decide)))
  · exact Or.inr (BitVec.eq_of_toInt_eq (h.trans (by decide)))

/-- Slot `s` of expert `e`, as a word. -/
def slotWord (e : Fin 8) (s : Fin 320) : BitVec 32 := BitVec.ofNat 32 (320 * e.val + s.val)

theorem slotWord_toInt (e : Fin 8) (s : Fin 320) : (slotWord e s).toInt = 320 * e.val + s.val := by
  unfold slotWord
  have h : 320 * e.val + s.val < 2 ^ 31 := by omega
  rw [BitVec.toInt_eq_toNat_of_lt (by rw [BitVec.toNat_ofNat]; omega), BitVec.toNat_ofNat]
  have : (320 * e.val + s.val) % 2 ^ 32 = 320 * e.val + s.val := Nat.mod_eq_of_lt (by omega)
  rw [this]; push_cast; rfl

/-- The choice lies with expert `e`: its slot is one of that expert's. -/
def Of (e : Fin 8) (b : BitVec 32) : Prop := 320 * (e.val : ℤ) ≤ b.toInt ∧ b.toInt < 320 * ((e.val : ℤ) + 1)

instance (e : Fin 8) (b : BitVec 32) : Decidable (Of e b) := by unfold Of; infer_instance

theorem of_iff (e : Fin 8) (b : BitVec 32) : Of e b ↔ ∃ s, b = slotWord e s := by
  constructor
  · rintro ⟨h0, h1⟩
    refine ⟨⟨(b.toInt - 320 * e.val).toNat, by omega⟩, BitVec.eq_of_toInt_eq ?_⟩
    rw [slotWord_toInt]
    show _ = 320 * (e.val : ℤ) + ((b.toInt - 320 * e.val).toNat : ℤ)
    omega
  · rintro ⟨s, rfl⟩
    unfold Of
    rw [slotWord_toInt]
    have := s.isLt
    omega

theorem slotWord_inj {e : Fin 8} {s s' : Fin 320} (h : slotWord e s = slotWord e s') : s = s' := by
  have h' := congrArg BitVec.toInt h
  rw [slotWord_toInt, slotWord_toInt] at h'
  exact Fin.ext (by omega)

/-- A sum over an expert's slots that a choice picks one of. -/
theorem sum_slot (e : Fin 8) (b : BitVec 32) (z : EReal) :
    (∑ s, if b = slotWord e s then z else 0) = if Of e b then z else 0 := by
  by_cases h : Of e b
  · obtain ⟨s0, rfl⟩ := (of_iff e b).1 h
    rw [if_pos h, Finset.sum_eq_single s0 (fun s _ hs => if_neg fun he => hs (slotWord_inj he).symm)
      (fun hn => absurd (Finset.mem_univ _) hn), if_pos rfl]
  · rw [if_neg h]
    exact Finset.sum_eq_zero fun s _ => if_neg fun he => h ((of_iff e b).2 ⟨s, he⟩)

/-- Both choices of a token, over an expert's slots: each choice's weight, times what its slot holds. -/
theorem sum_slots (e : Fin 8) (b0 b1 : BitVec 32) (w0 w1 y : EReal) (a : Fin 320 → EReal)
    (hb : ∀ s, b0 = slotWord e s → b1 ≠ slotWord e s) (ha : ∀ s, b0 = slotWord e s ∨ b1 = slotWord e s → a s = y) :
    (∑ s, ((if b0 = slotWord e s then w0 else 0) + (if b1 = slotWord e s then w1 else 0)) * a s)
      = (if Of e b0 then w0 else 0) * y + (if Of e b1 then w1 else 0) * y := by
  have h : ∀ s, ((if b0 = slotWord e s then w0 else 0) + (if b1 = slotWord e s then w1 else 0)) * a s
      = (if b0 = slotWord e s then w0 * y else 0) + (if b1 = slotWord e s then w1 * y else 0) := by
    intro s
    by_cases h0 : b0 = slotWord e s
    · rw [if_pos h0, if_neg (hb s h0), if_pos h0, if_neg (hb s h0), add_zero, add_zero, ha s (Or.inl h0)]
    · by_cases h1 : b1 = slotWord e s
      · rw [if_neg h0, if_pos h1, if_neg h0, if_pos h1, zero_add, zero_add, ha s (Or.inr h1)]
      · rw [if_neg h0, if_neg h1, if_neg h0, if_neg h1, add_zero, zero_mul]
  rw [Finset.sum_congr rfl fun s _ => h s, Finset.sum_add_distrib, sum_slot, sum_slot]
  congr 1
  · by_cases h0 : Of e b0
    · rw [if_pos h0, if_pos h0]
    · rw [if_neg h0, if_neg h0, zero_mul]
  · by_cases h0 : Of e b1
    · rw [if_pos h0, if_pos h0]
    · rw [if_neg h0, if_neg h0, zero_mul]

/-- The gathered row of a slot: the token whose choice the slot is, where one token has it. -/
theorem sum_tokens (k : BitVec 32) (b0 b1 : Fin 2048 → BitVec 32) (x : Fin 2048 → EReal) (t : Fin 2048)
    (ht : b0 t = k ∨ b1 t = k) (hu : ∀ t', b0 t' = k ∨ b1 t' = k → t' = t) :
    (∑ t', (if b0 t' = k ∨ b1 t' = k then (1 : EReal) else 0) * x t') = x t := by
  rw [Finset.sum_eq_single t (fun t' _ hn => ?_) (fun hn => absurd (Finset.mem_univ _) hn), if_pos ht, one_mul]
  rw [if_neg fun h => hn (hu t' h), zero_mul]

end Cert.ExpertsProof

end
-- ==== Proof.Experts.Pay.lean ====
/- What one grid point of the experts' call computes, over the extended reals: the rows gathered into an expert's slots, the
   network on them, and the weighted rows added back to the tokens. -/
module

public import proofs.«01_k».proof.Proof.Experts.Steps
public import proofs.«01_k».proof.Proof.Experts.Math
public import Idealize.ShloMosaic.Lib.Pointwise

@[expose] public section

set_option maxRecDepth 16384

noncomputable section

namespace Cert.ExpertsProof

open Idealize.ShloMosaic
open Cert.ExpertsIdeal Cert.ExpertsIdeal.Gen

/-- An expert's slot as the kernel counts it. -/
theorem slot_word (e : Fin 8) (s : Fin 320) : IntOp.addi (Scalar.muli (BitVec.ofNat 32 e.val) 320#32) (BitVec.ofNat 32 s.val) = slotWord e s := by
  show BitVec.ofNat 32 e.val * BitVec.ofNat 32 320 + BitVec.ofNat 32 s.val = _
  unfold slotWord
  rw [← BitVec.ofNat_mul, ← BitVec.ofNat_add, Nat.mul_comm]

theorem bit_mask (p q : Bool) :
    (FloatOps.sitofp FTy.f32 (BitVec.setWidth 32 (BitVec.ofBool (p || q))) : Ideal .f32) = if p = true ∨ q = true then (1 : EReal) else 0 := by
  show ((((BitVec.setWidth 32 (BitVec.ofBool (p || q))).toInt : ℤ) : ℝ) : EReal) = _
  cases p <;> cases q <;> simp

/-- The gathered rows: a slot's row is the sum of the tokens with a choice given that slot. -/
theorem pay2_at (e : Fin 8) (b0 b1 : Vec Ideal S2048 .i32) (x : Vec Ideal S2048x1024 .bf16) (s : Fin 320) (d : Fin 1024) :
    k0_pay2 (F := Ideal) (BitVec.ofNat 32 e.val) b0 b1 x (ix2 s d)
      = ∑ t : Fin 2048, (if b0 (ix1 t) = slotWord e s ∨ b1 (ix1 t) = slotWord e s then (1 : EReal) else 0) * (x (ix2 t d) : EReal) := by
  pointwise [k0_pay2]
  refine Finset.sum_congr rfl fun t _ => ?_
  rw [slot_word, WordCmp.cmpi_eq_eq, WordCmp.cmpi_eq_eq, WordCmp.ori_ofBool, bit_mask]
  simp only [decide_eq_true_eq]

theorem wts_at (e : Fin 8) (b0 b1 : Vec Ideal S2048 .i32) (w0 w1 : Vec Ideal S2048 .f32) (t : Fin 2048) (s : Fin 320) :
    wts (F := Ideal) (BitVec.ofNat 32 e.val) b0 b1 w0 w1 (ix2 t s)
      = ((if b0 (ix1 t) = slotWord e s then (w0 (ix1 t) : EReal) else 0) + (if b1 (ix1 t) = slotWord e s then (w1 (ix1 t) : EReal) else 0) : EReal) := by
  pointwise [wts, k0_pay7, k0_pay6, k0_pay5, k0_pay4, k0_pay3]
  rw [slot_word, WordCmp.cmpi_eq_eq, WordCmp.cmpi_eq_eq, WordCmp.select_ofBool, WordCmp.select_ofBool]
  simp only [decide_eq_true_eq]

theorem pay10_at (xe : Vec Ideal S320x1024 .bf16) (W1 : Vec Ideal S1x1024x2048 .f32) (W2 : Vec Ideal S1x2048x1024 .f32) (s : Fin 320) (d : Fin 1024) :
    k0_pay10 (F := Ideal) xe W1 W2 (ix2 s d)
      = ∑ j : Fin 2048, max (∑ k : Fin 1024, (xe (ix2 s k) : EReal) * (W1 (ix3 0 k j) : EReal)) 0 * (W2 (ix3 0 j d) : EReal) := by
  pointwise [k0_pay10, k0_pay9]

theorem pay12_at (prev : Vec Ideal S2048x1024 .f32) (w : Vec Ideal S2048x320 .bf16) (y : Vec Ideal S320x1024 .f32) (t : Fin 2048) (d : Fin 1024) :
    k0_pay12 (F := Ideal) prev w y (ix2 t d) = ((prev (ix2 t d) : EReal) + ∑ s : Fin 320, (w (ix2 t s) : EReal) * (y (ix2 s d) : EReal) : EReal) := by
  pointwise [k0_pay12]

theorem pay8_at (t : Fin 2048) (d : Fin 1024) : k0_pay8 (F := Ideal) (ix2 t d) = (0 : EReal) := by
  pointwise [k0_pay8]

theorem pay1_at (v : Vec Ideal S2048x1024 .f32) (t : Fin 2048) (d : Fin 1024) : k0_pay1 (F := Ideal) v (ix2 t d) = (v (ix2 t d) : EReal) := by
  pointwise [k0_pay1]

/-- One expert's network on a row `x`, with the weights' half `W1`, `W2`. -/
def net (x : Fin 1024 → EReal) (W1 : Fin 1024 → Fin 2048 → EReal) (W2 : Fin 2048 → EReal) : EReal :=
  ∑ j, max (∑ k, x k * W1 k j) 0 * W2 j

/-- The choices' slots are apart: no slot of an expert is given to two choices. -/
structure Apart (b0 b1 : Fin 2048 → BitVec 32) : Prop where
  fst : ∀ e s t t', b0 t = slotWord e s → b0 t' = slotWord e s → t = t'
  snd : ∀ e s t t', b1 t = slotWord e s → b1 t' = slotWord e s → t = t'
  both : ∀ e s t t', b0 t = slotWord e s → b1 t' ≠ slotWord e s

/-- One expert's addition, at a token: for each choice that lies with the expert, its weight times the network of the token's row. -/
theorem step_at (e : Fin 8) (b0 b1 : Vec Ideal S2048 .i32) (w0 w1 : Vec Ideal S2048 .f32) (x : Vec Ideal S2048x1024 .bf16)
    (W1 : Vec Ideal S1x1024x2048 .f32) (W2 : Vec Ideal S1x2048x1024 .f32) (prev : Vec Ideal S2048x1024 .f32)
    (hb : Apart (fun t => b0 (ix1 t)) (fun t => b1 (ix1 t))) (t : Fin 2048) (d : Fin 1024) :
    step (F := Ideal) (BitVec.ofNat 32 e.val) b0 b1 w0 w1 x W1 W2 prev (ix2 t d)
      = ((prev (ix2 t d) : EReal)
        + ((if Of e (b0 (ix1 t)) then (w0 (ix1 t) : EReal) else 0) * net (fun k => x (ix2 t k)) (fun k j => W1 (ix3 0 k j)) (fun j => W2 (ix3 0 j d))
          + (if Of e (b1 (ix1 t)) then (w1 (ix1 t) : EReal) else 0) * net (fun k => x (ix2 t k)) (fun k j => W1 (ix3 0 k j)) (fun j => W2 (ix3 0 j d))) : EReal) := by
  unfold step
  rw [pay12_at]
  refine congrArg (fun z : EReal => (prev (ix2 t d) : EReal) + z) ?_
  refine (Finset.sum_congr rfl fun s _ => congrArg (· * _) (wts_at e b0 b1 w0 w1 t s)).trans ?_
  refine sum_slots e _ _ _ _ _ _ (fun s h => hb.both e s t t h) fun s hs => ?_
  rw [pay10_at]
  unfold net
  refine Finset.sum_congr rfl fun j _ => congrArg (fun z : EReal => max z 0 * _) (Finset.sum_congr rfl fun k _ => congrArg (· * _) ?_)
  rw [pay2_at]
  refine sum_tokens (slotWord e s) (fun t' => b0 (ix1 t')) (fun t' => b1 (ix1 t')) (fun t' => x (ix2 t' k)) t hs fun t' ht' => ?_
  rcases hs with hs | hs <;> rcases ht' with ht' | ht'
  · exact hb.fst e s _ _ ht' hs
  · exact absurd ht' (hb.both e s t t' hs)
  · exact absurd hs (hb.both e s t' t ht')
  · exact hb.snd e s _ _ ht' hs

/-- Position `j` of the half named by `b`, of a hidden row. -/
def pos (b : BitVec 32) (j : Fin 2048) : Fin 4096 := if b = 0#32 then ⟨j.val, by omega⟩ else ⟨2048 + j.val, by omega⟩

theorem pos_val {b : BitVec 32} (h : Named b) (j : Fin 2048) : (pos b j).val = b.toNat * 2048 + j.val := by
  rcases h with rfl | rfl
  · show j.val = 0 * 2048 + j.val
    omega
  · show 2048 + j.val = 1 * 2048 + j.val
    omega

/-- Expert `e`'s network at token `t`, result place `d`: over the named half of the hidden row. -/
def netOf (b : BitVec 32) (x : Vec Ideal S2048x1024 .bf16) (W1 : Vec Ideal S8x1024x4096 .f32) (W2 : Vec Ideal S8x4096x1024 .f32)
    (t : Fin 2048) (d : Fin 1024) (e : Fin 8) : EReal :=
  net (fun k => x (ix2 t k)) (fun k j => W1 (ix3 e k (pos b j))) (fun j => W2 (ix3 e (pos b j) d))

/-- One choice's output at a token: its weight times the network of the expert it lies with. -/
def chosen (b' : Vec Ideal S2048 .i32) (w : Vec Ideal S2048 .f32) (y : Fin 8 → EReal) (t : Fin 2048) (e : Fin 8) : EReal :=
  (if Of e (b' (ix1 t)) then (w (ix1 t) : EReal) else 0) * y e

end Cert.ExpertsProof

end
-- ==== Proof.Experts.Pre.lean ====
/- What the two preconditions say: the half is named, and no slot of an expert is given to two choices. -/
module

public import proofs.«01_k».proof.Proof.Experts.Pay
public import proofs.«01_k».proof.Proof.Gen.Pre_half_named
public import proofs.«01_k».proof.Proof.Gen.Pre_slots_apart
public import Idealize.ShloMosaic.Lib.ReduceAll

@[expose] public section

set_option maxRecDepth 16384

noncomputable section

namespace Cert.ExpertsProof

open Idealize.ShloMosaic

variable {F : FTy → Type} [FloatOps F]

theorem named_of_half (a0 : IVec ⟨1, ![1]⟩ 32) (a1 a2 a3 a4 a5 a6 a7)
    (h : Cert.Pre_half_named.fn (F := F) a0 a1 a2 a3 a4 a5 a6 a7 = fun _ => 1#1) (i : (⟨1, ![1]⟩ : Shape).Idx) : Named (a0 i) := by
  unfold Cert.Pre_half_named.fn at h
  dsimp only at h
  have h2 := Host.reduce_andi_all _ _ _ _ _ (congrFun h (fun k => k.elim0)) i
  exact named_of_bounds (IntOp.andi_eq_one.1 h2).1 (IntOp.andi_eq_one.1 h2).2

theorem named_of_slots (a0 : IVec ⟨1, ![1]⟩ 32) (a1 a2 a3 a4 a5 a6 a7)
    (h : Cert.Pre_slots_apart.fn (F := F) a0 a1 a2 a3 a4 a5 a6 a7 = fun _ => 1#1) (i : (⟨1, ![1]⟩ : Shape).Idx) : Named (a0 i) := by
  unfold Cert.Pre_slots_apart.fn Cert.Pre_slots_apart.fn_part1 at h
  dsimp only at h
  have h1 := (IntOp.andi_eq_one.1 (congrFun h (fun k => k.elim0))).1
  have h2 := Host.reduce_andi_all _ _ _ _ _ h1 i
  exact named_of_bounds (IntOp.andi_eq_one.1 h2).1 (IntOp.andi_eq_one.1 h2).2

/-- One pair's check: two choices of one slot, that slot given, are one choice. -/
theorem same_of_check {x y : BitVec 32} {i j : ℕ}
    (h : IntOp.ori (IntOp.ori (IntOp.cmpi .ne x y) (IntOp.cmpi .eq (BitVec.ofNat 32 i) (BitVec.ofNat 32 j)))
      (~~~IntOp.andi (IntOp.cmpi .sge x 0#32) (IntOp.cmpi .slt x 2560#32)) = 1#1)
    (hxy : x = y) (h0 : 0 ≤ x.toInt) (h1 : x.toInt < 2560) : BitVec.ofNat 32 i = BitVec.ofNat 32 j := by
  by_contra hn
  subst hxy
  have f0 : (0#32).toInt = 0 := by decide
  have f1 : (2560#32).toInt = 2560 := by decide
  rw [WordCmp.cmpi_ne_eq, WordCmp.cmpi_eq_eq, WordCmp.cmpi_sge_eq, WordCmp.cmpi_slt_eq, f0, f1, decide_eq_false hn,
    decide_eq_true h0, decide_eq_true h1, decide_eq_false (by simp)] at h
  exact absurd h (by decide)

/-- Every two of the 4096 choices: where both have one slot, and it is a slot of an expert, they are one choice. -/
theorem pair_of_slots (a0 : IVec ⟨1, ![1]⟩ 32) (a1) (a2 a3 : IVec ⟨1, ![2048]⟩ 32) (a4 a5 a6 a7)
    (h : Cert.Pre_slots_apart.fn (F := F) a0 a1 a2 a3 a4 a5 a6 a7 = fun _ => 1#1) :
    ∃ z : Fin 4096 → BitVec 32, (∀ t : Fin 2048, z ⟨t.val, by omega⟩ = a2 (ix1 t)) ∧ (∀ t : Fin 2048, z ⟨2048 + t.val, by omega⟩ = a3 (ix1 t)) ∧
      ∀ i j, z i = z j → 0 ≤ (z i).toInt → (z i).toInt < 2560 → i = j := by
  unfold Cert.Pre_slots_apart.fn Cert.Pre_slots_apart.fn_part1 at h
  dsimp only at h
  have h1 := (IntOp.andi_eq_one.1 (congrFun h (fun k => k.elim0))).2
  refine ⟨fun i => concatenate Cert.Pre_slots_apart.S4096 0 [⟨Cert.Pre_slots_apart.S2048, a2⟩, ⟨Cert.Pre_slots_apart.S2048, a3⟩]
    Cert.Pre_slots_apart.Facts.concatenates_S2048_S2048_S4096_d0 (ix1 i), fun t => ?_, fun t => ?_, fun i j => ?_⟩
  · exact concatenate_pair_apply_left (t := Cert.Pre_slots_apart.S4096) 0 a2 a3 _ (ix1 ⟨t.val, by omega⟩) rfl (ix1 t) (by intro b; fin_cases b; rfl)
  · exact concatenate_pair_apply_right (t := Cert.Pre_slots_apart.S4096) 0 a2 a3 _ (ix1 ⟨2048 + t.val, by omega⟩) rfl rfl (ix1 t) (by intro b hb; fin_cases b; exact absurd rfl hb) (Nat.add_comm _ _)
  · have h2 := Host.reduce_andi_all _ _ _ _ _ h1 (ix2 i j)
    revert h2
    generalize concatenate _ _ _ _ = z
    pointwise
    intro h2 hxy h0 h3
    have h4 := congrArg BitVec.toNat (same_of_check h2 hxy h0 h3)
    rw [BitVec.toNat_ofNat, BitVec.toNat_ofNat, Nat.mod_eq_of_lt (by omega), Nat.mod_eq_of_lt (by omega)] at h4
    exact Fin.ext h4

theorem apart_of_slots (a0 : IVec ⟨1, ![1]⟩ 32) (a1) (a2 a3 : IVec ⟨1, ![2048]⟩ 32) (a4 a5 a6 a7)
    (h : Cert.Pre_slots_apart.fn (F := F) a0 a1 a2 a3 a4 a5 a6 a7 = fun _ => 1#1) :
    Apart (fun t => a2 (ix1 t)) (fun t => a3 (ix1 t)) := by
  obtain ⟨z, hz0, hz1, hz⟩ := pair_of_slots a0 a1 a2 a3 a4 a5 a6 a7 h
  have key : ∀ (e : Fin 8) (s : Fin 320) i j, z i = slotWord e s → z j = slotWord e s → i.val = j.val := by
    intro e s i j hi hj
    have := slotWord_toInt e s
    exact congrArg Fin.val (hz i j (hi.trans hj.symm) (by rw [hi]; omega) (by rw [hi]; omega))
  refine ⟨fun e s t t' h0 h1 => Fin.ext ?_, fun e s t t' h0 h1 => Fin.ext ?_, fun e s t t' h0 h1 => ?_⟩
  · exact key e s _ _ ((hz0 t).trans h0) ((hz0 t').trans h1)
  · exact Nat.add_left_cancel (key e s _ _ ((hz1 t).trans h0) ((hz1 t').trans h1))
  · have h2 : t.val = 2048 + t'.val := key e s _ _ ((hz0 t).trans h0) ((hz1 t').trans h1)
    omega

end Cert.ExpertsProof

end
-- ==== Proof.Experts.Launch.lean ====
/- The experts' call runs: with the half named, every block lies inside its array. -/
module

public import proofs.«01_k».proof.Proof.Experts.Pre
public import proofs.«01_k».proof.Proof.Gen.Experts
public import proofs.«01_k».proof.Proof.Gen.Experts.Frame
public import proofs.«01_k».proof.Defs

@[expose] public section

set_option maxRecDepth 16384

noncomputable section

namespace Cert.ExpertsProof

open Idealize.ShloMosaic Idealize.ShloMosaic.TcCoe
open Idealize.SL.Sem

/-- The block a window reads from, in units of a half: the half named. -/
theorem half_word {b : BitVec 32} (h : Named b) (i : Fin 1) : (Scalar.addi b (BitVec.ofNat 32 i.val)).toNat = b.toNat := by
  obtain rfl : i = 0 := Subsingleton.elim _ _
  rcases h with rfl | rfl <;> decide

theorem half_le {b : BitVec 32} (h : Named b) : b.toNat ≤ 1 := by
  rcases h with rfl | rfl <;> decide

theorem expert_word (i : Fin 8) : (BitVec.ofNat 32 i.val).toNat = i.val := by
  rw [BitVec.toNat_ofNat, Nat.mod_eq_of_lt (by omega)]

section Bits
variable {F : FTy → Type} [FloatOps F]
open Cert.Experts Cert.Experts.Gen

theorem ok_experts (m : (ℓ : Loc nD τ sig) → Buf (Elt F) ℓ) (h : ∀ i, Named (m (((0 : Dev nD).tc : Thread nD τ).loc main_arg0) i)) : Ok m := by
  have hat : Named ((tbl m).at 0 (Rect.unit (s := S1) ![0] S1.size inb_S1_S1_0) numel1_S1) := h _
  constructor
  · intro i
    refine ⟨fun a => ?_, Or.inl rfl⟩
    have h0 := expert_word (i 0)
    have h1 := half_word hat (i 1)
    have h2 := half_le hat
    have h3 : (i 0).val < 8 := (i 0).isLt
    fin_cases a
    · show ((BitVec.ofNat 32 (i 0).val).toNat + 1) * 1 ≤ 8
      omega
    · show (0 + 1) * 1024 ≤ 1024
      omega
    · show ((Scalar.addi ((tbl m).at 0 (Rect.unit (s := S1) ![0] S1.size inb_S1_S1_0) numel1_S1) (BitVec.ofNat 32 (i 1).val)).toNat + 1) * 2048 ≤ 4096
      omega
  · intro i
    refine ⟨fun a => ?_, Or.inl rfl⟩
    have h0 := expert_word (i 0)
    have h1 := half_word hat (i 1)
    have h2 := half_le hat
    have h3 : (i 0).val < 8 := (i 0).isLt
    fin_cases a
    · show ((BitVec.ofNat 32 (i 0).val).toNat + 1) * 1 ≤ 8
      omega
    · show ((Scalar.addi ((tbl m).at 0 (Rect.unit (s := S1) ![0] S1.size inb_S1_S1_0) numel1_S1) (BitVec.ofNat 32 (i 1).val)).toNat + 1) * 2048 ≤ 4096
      omega
    · show (0 + 1) * 1024 ≤ 1024
      omega

end Bits

section Ideal
variable {F : FTy → Type} [FloatOps F]
open Cert.ExpertsIdeal Cert.ExpertsIdeal.Gen

theorem ok_ideal (m : (ℓ : Loc nD τ sig) → Buf (Elt F) ℓ) (h : ∀ i, Named (m (((0 : Dev nD).tc : Thread nD τ).loc main_arg0) i)) : Ok m := by
  have hat : Named ((tbl m).at 0 (Rect.unit (s := S1) ![0] S1.size inb_S1_S1_0) numel1_S1) := h _
  constructor
  · intro i
    refine ⟨fun a => ?_, Or.inl rfl⟩
    have h0 := expert_word (i 0)
    have h1 := half_word hat (i 1)
    have h2 := half_le hat
    have h3 : (i 0).val < 8 := (i 0).isLt
    fin_cases a
    · show ((BitVec.ofNat 32 (i 0).val).toNat + 1) * 1 ≤ 8
      omega
    · show (0 + 1) * 1024 ≤ 1024
      omega
    · show ((Scalar.addi ((tbl m).at 0 (Rect.unit (s := S1) ![0] S1.size inb_S1_S1_0) numel1_S1) (BitVec.ofNat 32 (i 1).val)).toNat + 1) * 2048 ≤ 4096
      omega
  · intro i
    refine ⟨fun a => ?_, Or.inl rfl⟩
    have h0 := expert_word (i 0)
    have h1 := half_word hat (i 1)
    have h2 := half_le hat
    have h3 : (i 0).val < 8 := (i 0).isLt
    fin_cases a
    · show ((BitVec.ofNat 32 (i 0).val).toNat + 1) * 1 ≤ 8
      omega
    · show ((Scalar.addi ((tbl m).at 0 (Rect.unit (s := S1) ![0] S1.size inb_S1_S1_0) numel1_S1) (BitVec.ofNat 32 (i 1).val)).toNat + 1) * 2048 ≤ 4096
      omega
    · show (0 + 1) * 1024 ≤ 1024
      omega

end Ideal

theorem frame_experts : quiescent_Experts := fun m ρ h =>
  Cert.Experts.Gen.frame m ρ (ok_experts m fun i => named_of_half _ _ _ _ _ _ _ _ (h 0) i)

theorem frame_expertsIdeal : quiescent_ExpertsIdeal := fun m ρ h =>
  Cert.ExpertsIdeal.Gen.frame m ρ (ok_ideal m fun i => named_of_half _ _ _ _ _ _ _ _ (h 0) i)

/-- Where the slots are apart the half is named too. -/
theorem ok_of_slots (m : (ℓ : Loc Cert.ExpertsIdeal.nD Cert.ExpertsIdeal.τ Cert.ExpertsIdeal.sig) → Buf (Elt Ideal) ℓ)
    (h : Pre_ExpertsIdeal_slots_apart m) : Cert.ExpertsIdeal.Gen.Ok m :=
  ok_ideal m fun i => named_of_slots _ _ _ _ _ _ _ _ (h 0) i

theorem frame_expertsIdeal_pre : quiescent_ExpertsIdeal_pre_slots_apart := fun m ρ h =>
  Cert.ExpertsIdeal.Gen.frame m ρ (ok_of_slots m h)

end Cert.ExpertsProof

end
-- ==== Proof.Experts.Blocks.lean ====
/- The blocks that the experts' windows hold, as parts of the arguments, and the result array, as the last point's store. -/
module

public import proofs.«01_k».proof.Proof.Experts.Launch
public import Idealize.ShloMosaic.Lib.Pipeline.Value

@[expose] public section

set_option maxRecDepth 16384

noncomputable section

namespace Cert.ExpertsProof

open Idealize.ShloMosaic Idealize.ShloMosaic.TcCoe
open Idealize.SL.Sem
open Cert.ExpertsIdeal Cert.ExpertsIdeal.Gen

variable {F : FTy → Type} [FloatOps F]
variable (m : (ℓ : Loc nD τ sig) → Buf (Elt F) ℓ) (hO : Ok m) (c : Dev nD) (t : Fin (cfgM m hO).N)

theorem blk0 : iblk m hO c 0 t = m ((c : Thread nD τ).loc main_arg2) :=
  Memref.read_access_unit_zero (Elt F) main_arg2 (funext fun a => by fin_cases a; rfl) (fun a => by fin_cases a <;> exact Nat.le_of_eq (Nat.zero_add _)) _
theorem blk1 : iblk m hO c 1 t = m ((c : Thread nD τ).loc main_arg3) :=
  Memref.read_access_unit_zero (Elt F) main_arg3 (funext fun a => by fin_cases a; rfl) (fun a => by fin_cases a <;> exact Nat.le_of_eq (Nat.zero_add _)) _
theorem blk2 : iblk m hO c 2 t = m ((c : Thread nD τ).loc main_arg4) :=
  Memref.read_access_unit_zero (Elt F) main_arg4 (funext fun a => by fin_cases a; rfl) (fun a => by fin_cases a <;> exact Nat.le_of_eq (Nat.zero_add _)) _
theorem blk3 : iblk m hO c 3 t = m ((c : Thread nD τ).loc main_arg5) :=
  Memref.read_access_unit_zero (Elt F) main_arg5 (funext fun a => by fin_cases a; rfl) (fun a => by fin_cases a <;> exact Nat.le_of_eq (Nat.zero_add _)) _
theorem blk4 : iblk m hO c 4 t = m ((c : Thread nD τ).loc main_arg1) :=
  Memref.read_access_unit_zero (Elt F) main_arg1 (funext fun a => by fin_cases a <;> rfl) (fun a => by fin_cases a <;> exact Nat.le_of_eq (Nat.zero_add _)) _

/-- The half's word, as the windows read it. -/
def half : BitVec 32 := (tbl m).at 0 (Rect.unit (s := S1) ![0] S1.size inb_S1_S1_0) numel1_S1

theorem blk5 (hn : Named (half m)) (k : Fin 1024) (j : Fin 2048) (e : Fin 8) (he : (grid0.coords t 0).val = e.val) (p : Fin 4096) (hp : p.val = (half m).toNat * 2048 + j.val) :
    (show Vec F S1x1024x2048 .f32 from iblk m hO c 5 t) (ix3 0 k j) = (show Vec F S8x1024x4096 .f32 from m ((c : Thread nD τ).loc main_arg6)) (ix3 e k p) := by
  refine congrArg (m ((c : Thread nD τ).loc main_arg6)) (funext fun a => Fin.ext ?_)
  have h0 := expert_word (grid0.coords t 0)
  have h1 := half_word hn (grid0.coords t 1)
  fin_cases a
  · show (BitVec.ofNat 32 (grid0.coords t 0).val).toNat * 1 + 1 * 0 = e.val
    omega
  · show 0 * 1024 + 1 * k.val = k.val
    omega
  · show (Scalar.addi (half m) (BitVec.ofNat 32 (grid0.coords t 1).val)).toNat * 2048 + 1 * j.val = p.val
    omega

theorem blk6 (hn : Named (half m)) (j : Fin 2048) (d : Fin 1024) (e : Fin 8) (he : (grid0.coords t 0).val = e.val) (p : Fin 4096) (hp : p.val = (half m).toNat * 2048 + j.val) :
    (show Vec F S1x2048x1024 .f32 from iblk m hO c 6 t) (ix3 0 j d) = (show Vec F S8x4096x1024 .f32 from m ((c : Thread nD τ).loc main_arg7)) (ix3 e p d) := by
  refine congrArg (m ((c : Thread nD τ).loc main_arg7)) (funext fun a => Fin.ext ?_)
  have h0 := expert_word (grid0.coords t 0)
  have h1 := half_word hn (grid0.coords t 1)
  fin_cases a
  · show (BitVec.ofNat 32 (grid0.coords t 0).val).toNat * 1 + 1 * 0 = e.val
    omega
  · show (Scalar.addi (half m) (BitVec.ofNat 32 (grid0.coords t 1).val)).toNat * 2048 + 1 * j.val = p.val
    omega
  · show 0 * 1024 + 1 * d.val = d.val
    omega

/-- The result array ends at what the body left in the staged result at the last point. -/
theorem final_out (hlt : 7 < (cfgM m hO).N) : (dats m hO 0 c).arrAt 7 (cfgM m hO).N = (outsAt0 m hO c 7 hlt).1 := by
  have h : (((cfgM m hO).win 7).blk ⟨7, hlt⟩).view.read (Elt F) ((dats m hO 0 c).arrAt 7 (cfgM m hO).N) = (outsAt0 m hO c 7 hlt).1 := by
    rw [show (cfgM m hO).N = (⟨7, hlt⟩ : Fin (cfgM m hO).N).val + 1 from N_0, (dats m hO 0 c).arrAt_succ 7 ⟨7, hlt⟩]
    rw [if_pos ((flush0_7 (adm m hO) ⟨7, hlt⟩).2 rfl)]
    refine (View.read_write_univ _ _).trans ?_
    exact after0_7 m hO c ⟨7, hlt⟩
  exact (Memref.read_access_unit_zero (Elt F) main_v0 (funext fun a => by fin_cases a <;> rfl) (fun a => by fin_cases a <;> exact Nat.le_of_eq (Nat.zero_add _)) _).symm.trans h

end Cert.ExpertsProof

end
-- ==== Proof.Experts.Ref.lean ====
/- The reference of the experts' call, at a place of its result. -/
module

public import proofs.«01_k».proof.Proof.Experts.Pay
public import proofs.«01_k».proof.Proof.Gen.FfnIdeal
public import proofs.«01_k».proof.Proof.Gen.FfnIdeal.Run

@[expose] public section

set_option maxRecDepth 16384

noncomputable section

namespace Cert.ExpertsProof

open Idealize.ShloMosaic Idealize.ShloMosaic.TcCoe
open Cert.FfnIdeal

theorem sel_pos (f : Fin 4096 → EReal) (b : BitVec 32) (j : Fin 2048) :
    Scalar.select (IntOp.cmpi .eq b 0#32) (f ⟨j.val, by omega⟩) (f ⟨2048 + j.val, by omega⟩) = f (pos b j) := by
  rw [WordCmp.cmpi_eq_eq, WordCmp.select_ofBool]
  unfold pos
  by_cases h : b = 0#32
  · rw [decide_eq_true h, if_pos rfl, if_pos h]
  · rw [decide_eq_false h, if_neg Bool.false_ne_true, if_neg h]

/-- The reference's check that a choice lies with an expert. -/
theorem sel_of (e : Fin 8) (b : BitVec 32) (w z : EReal) (hz : z = 0) :
    Scalar.select (IntOp.andi (IntOp.cmpi .sge b (IntOp.muli (BitVec.ofNat 32 e.val) 320#32))
      (IntOp.cmpi .slt b (IntOp.muli (IntOp.addi (BitVec.ofNat 32 e.val) 1#32) 320#32))) w z = if Of e b then w else 0 := by
  have h0 : (IntOp.muli (BitVec.ofNat 32 e.val) 320#32).toInt = 320 * (e.val : ℤ) := by revert e; decide
  have h1 : (IntOp.muli (IntOp.addi (BitVec.ofNat 32 e.val) 1#32) 320#32).toInt = 320 * ((e.val : ℤ) + 1) := by revert e; decide
  rw [WordCmp.cmpi_sge_eq, WordCmp.cmpi_slt_eq, h0, h1, WordCmp.andi_ofBool, WordCmp.select_ofBool, hz]
  refine if_congr ?_ rfl rfl
  rw [Bool.and_eq_true, decide_eq_true_eq, decide_eq_true_eq]
  exact Iff.rfl

theorem net_sel (b : BitVec 32) (x : Vec Ideal S2048x1024 .bf16) (W1 : Vec Ideal S8x1024x4096 .f32) (W2 : Vec Ideal S8x4096x1024 .f32)
    (t : Fin 2048) (d : Fin 1024) (e : Fin 8) :
    (∑ j : Fin 2048, max (∑ k : Fin 1024, (x (ix2 t k) : EReal) * Scalar.select (IntOp.cmpi .eq b 0#32)
        (W1 (ix3 e k ⟨j.val, by omega⟩) : EReal) (W1 (ix3 e k ⟨2048 + j.val, by omega⟩) : EReal)) 0
      * Scalar.select (IntOp.cmpi .eq b 0#32) (W2 (ix3 e ⟨j.val, by omega⟩ d) : EReal) (W2 (ix3 e ⟨2048 + j.val, by omega⟩ d) : EReal))
      = netOf b x W1 W2 t d e := by
  unfold netOf net
  refine Finset.sum_congr rfl fun j _ => ?_
  refine congr (congrArg HMul.hMul (congrArg (fun z : EReal => max z 0) (Finset.sum_congr rfl fun k _ => ?_))) ?_
  · exact congrArg (fun z : EReal => (x (ix2 t k) : EReal) * z) (sel_pos (fun p => W1 (ix3 e k p)) b j)
  · exact sel_pos (fun p => W2 (ix3 e p d)) b j

theorem ref_at (m : (ℓ : Loc nD τ sig) → Buf (Elt Ideal) ℓ) (c : Dev nD) (t : Fin 2048) (d : Fin 1024) :
    (show Vec Ideal S2048x1024 .bf16 from Cert.FfnIdeal.Value.res_main_v60 m c) (ix2 t d)
      = ((∑ e, chosen (m ((c : Thread nD τ).loc main_arg2)) (m ((c : Thread nD τ).loc main_arg4))
            (netOf ((show Vec Ideal S1 .i32 from m ((c : Thread nD τ).loc main_arg0)) (ix1 0)) (m ((c : Thread nD τ).loc main_arg1)) (m ((c : Thread nD τ).loc main_arg6)) (m ((c : Thread nD τ).loc main_arg7)) t d) t e)
          + ∑ e, chosen (m ((c : Thread nD τ).loc main_arg3)) (m ((c : Thread nD τ).loc main_arg5))
            (netOf ((show Vec Ideal S1 .i32 from m ((c : Thread nD τ).loc main_arg0)) (ix1 0)) (m ((c : Thread nD τ).loc main_arg1)) (m ((c : Thread nD τ).loc main_arg6)) (m ((c : Thread nD τ).loc main_arg7)) t d) t e : EReal) := by
  unfold Cert.FfnIdeal.Value.res_main_v60
  generalize m ((c : Thread nD τ).loc main_arg0) = a0
  generalize m ((c : Thread nD τ).loc main_arg1) = a1
  generalize m ((c : Thread nD τ).loc main_arg2) = a2
  generalize m ((c : Thread nD τ).loc main_arg3) = a3
  generalize m ((c : Thread nD τ).loc main_arg4) = a4
  generalize m ((c : Thread nD τ).loc main_arg5) = a5
  generalize m ((c : Thread nD τ).loc main_arg6) = a6
  generalize m ((c : Thread nD τ).loc main_arg7) = a7
  have hz : (id (constant S_ FTy.f32 0#32) ix0 : Ideal .f32) = (0 : EReal) := by
    show (constant S_ FTy.f32 0#32 : FVec Ideal S_ .f32) ix0 = (0 : EReal)
    pointwise
  pointwise
  exact congr (congrArg HAdd.hAdd (Finset.sum_congr rfl fun e _ => congr (congrArg HMul.hMul (sel_of e _ _ _ hz)) (net_sel _ _ _ _ _ _ e)))
    (Finset.sum_congr rfl fun e _ => congr (congrArg HMul.hMul (sel_of e _ _ _ hz)) (net_sel _ _ _ _ _ _ e))

end Cert.ExpertsProof

end
-- ==== Proof.Experts.Value.lean ====
/- The experts' call and its reference compute one function: the sum over the experts, of each choice's weighted network. -/
module

public import proofs.«01_k».proof.Proof.Experts.Blocks
public import proofs.«01_k».proof.Proof.Experts.Ref

@[expose] public section

set_option maxRecDepth 16384

noncomputable section

namespace Cert.ExpertsProof

open Idealize.ShloMosaic Idealize.ShloMosaic.TcCoe
open Idealize.SL.Sem
open Cert.ExpertsIdeal Cert.ExpertsIdeal.Gen

/-- The experts' output at token `t`, place `d`, of the program's arguments: each choice's, summed over the experts. -/
def moe (a0 : Vec Ideal S1 .i32) (x : Vec Ideal S2048x1024 .bf16) (b0 b1 : Vec Ideal S2048 .i32) (w0 w1 : Vec Ideal S2048 .f32)
    (W1 : Vec Ideal S8x1024x4096 .f32) (W2 : Vec Ideal S8x4096x1024 .f32) (t : Fin 2048) (d : Fin 1024) : EReal :=
  (∑ e, chosen b0 w0 (netOf (a0 (ix1 0)) x W1 W2 t d) t e) + ∑ e, chosen b1 w1 (netOf (a0 (ix1 0)) x W1 W2 t d) t e

theorem moe_congr {a0 a0' : Vec Ideal S1 .i32} {x x' : Vec Ideal S2048x1024 .bf16} {b0 b0' b1 b1' : Vec Ideal S2048 .i32}
    {w0 w0' w1 w1' : Vec Ideal S2048 .f32} {W1 W1' : Vec Ideal S8x1024x4096 .f32} {W2 W2' : Vec Ideal S8x4096x1024 .f32}
    (h0 : a0' = a0) (h1 : x' = x) (h2 : b0' = b0) (h3 : b1' = b1) (h4 : w0' = w0) (h5 : w1' = w1) (h6 : W1' = W1) (h7 : W2' = W2)
    (t : Fin 2048) (d : Fin 1024) : moe a0 x b0 b1 w0 w1 W1 W2 t d = moe a0' x' b0' b1' w0' w1' W1' W2' t d := by
  rw [h0, h1, h2, h3, h4, h5, h6, h7]

section Run
variable (m : (ℓ : Loc nD τ sig) → Buf (Elt Ideal) ℓ) (hO : Ok m) (c : Dev nD)

/-- What expert `e` adds at a place of the result. -/
def adds (t : Fin 2048) (d : Fin 1024) (e : Fin 8) : EReal :=
  chosen (m ((c : Thread nD τ).loc main_arg2)) (m ((c : Thread nD τ).loc main_arg4))
      (netOf (half m) (m ((c : Thread nD τ).loc main_arg1)) (m ((c : Thread nD τ).loc main_arg6)) (m ((c : Thread nD τ).loc main_arg7)) t d) t e
    + chosen (m ((c : Thread nD τ).loc main_arg3)) (m ((c : Thread nD τ).loc main_arg5))
      (netOf (half m) (m ((c : Thread nD τ).loc main_arg1)) (m ((c : Thread nD τ).loc main_arg6)) (m ((c : Thread nD τ).loc main_arg7)) t d) t e

variable (hn : Named (half m))
  (hb : Apart (fun t => (show Vec Ideal S2048 .i32 from m ((c : Thread nD τ).loc main_arg2)) (ix1 t))
    (fun t => (show Vec Ideal S2048 .i32 from m ((c : Thread nD τ).loc main_arg3)) (ix1 t)))

theorem coords_expert (k : Fin grid0.N) : (grid0.coords k 0).val = k.val := by
  have h := k.isLt
  have h8 : k.val < 8 := Nat.lt_of_lt_of_eq h N_0
  have e0 : (grid0.coords k 0).val = k.val / 1 % 8 := Pipeline.Grid.coords_val k 0 (by decide) rfl
  omega

include hn hb in
theorem stepAt_at (k : Fin (cfgM m hO).N) (e : Fin 8) (he : k.val = e.val) (prev : Vec Ideal S2048x1024 .f32) (t : Fin 2048) (d : Fin 1024) :
    stepAt m hO c k prev (ix2 t d) = ((prev (ix2 t d) : EReal) + adds m c t d e : EReal) := by
  have hc : (grid0.coords k 0).val = e.val := (coords_expert k).trans he
  unfold stepAt
  rw [blk0 m hO c k, blk1 m hO c k, blk2 m hO c k, blk3 m hO c k, blk4 m hO c k, hc]
  refine (step_at e _ _ _ _ _ _ _ prev hb t d).trans ?_
  have hnet : net (fun k' => (show Vec Ideal S2048x1024 .bf16 from m ((c : Thread nD τ).loc main_arg1)) (ix2 t k'))
      (fun k' j => (show Vec Ideal S1x1024x2048 .f32 from iblk m hO c 5 k) (ix3 0 k' j))
      (fun j => (show Vec Ideal S1x2048x1024 .f32 from iblk m hO c 6 k) (ix3 0 j d))
      = netOf (half m) (m ((c : Thread nD τ).loc main_arg1)) (m ((c : Thread nD τ).loc main_arg6)) (m ((c : Thread nD τ).loc main_arg7)) t d e := by
    unfold netOf
    refine congr (congrArg (net _) (funext fun k' => funext fun j => ?_)) (funext fun j => ?_)
    · exact blk5 m hO c k hn k' j e hc _ (pos_val hn j)
    · exact blk6 m hO c k hn j d e hc _ (pos_val hn j)
  unfold adds chosen
  rw [← hnet]

include hn hb in
/-- After each point but the last, the scratch holds the experts' outputs so far. -/
theorem outs_sum (n : ℕ) (h7 : n < 7) (hlt : n < (cfgM m hO).N) (t : Fin 2048) (d : Fin 1024) :
    (outsAt0 m hO c n hlt).2 (ix2 t d) = (∑ e : Fin (n + 1), adds m c t d ⟨e.val, by omega⟩ : EReal) := by
  induction n with
  | zero =>
    refine (congrFun (outs_A m hO c ⟨0, hlt⟩ rfl (show ¬0 % 8 = 7 by decide)) _).trans ((stepAt_at m hO c hn hb ⟨0, hlt⟩ 0 rfl _ t d).trans ?_)
    rw [pay8_at, zero_add, Fin.sum_univ_one]
    rfl
  | succ n ih =>
    have h1 : ¬(n + 1) % 8 = 0 := by omega
    have h5 : ¬(n + 1) % 8 = 7 := by omega
    refine (congrFun (outs_B m hO c ⟨n + 1, hlt⟩ h1 h5) _).trans ((stepAt_at m hO c hn hb ⟨n + 1, hlt⟩ ⟨n + 1, by omega⟩ rfl _ t d).trans ?_)
    rw [Fin.sum_univ_castSucc]
    exact congrArg (· + adds m c t d ⟨n + 1, by omega⟩) (ih (by omega) _)

include hn hb in
theorem outs_value (hlt : 7 < (cfgM m hO).N) (t : Fin 2048) (d : Fin 1024) :
    (outsAt0 m hO c 7 hlt).1 (ix2 t d) = (∑ e : Fin 8, adds m c t d e : EReal) := by
  refine (congrFun (outs_C m hO c ⟨7, hlt⟩ (show ¬7 % 8 = 0 by decide) rfl) _).trans ((pay1_at _ t d).trans
    ((stepAt_at m hO c hn hb ⟨7, hlt⟩ 7 rfl _ t d).trans ?_))
  rw [Fin.sum_univ_castSucc]
  exact congrArg (· + adds m c t d 7) (outs_sum m hO c hn hb 6 (by decide) _ t d)

end Run

/-- The result array, at a place: the experts' output of the arguments. -/
theorem out_value (m : (ℓ : Loc nD τ sig) → Buf (Elt Ideal) ℓ) (hP : Pre_ExpertsIdeal_slots_apart m) (c : Dev nD)
    (hlt : 7 < (cfgM m (ok_of_slots m hP)).N) (t : Fin 2048) (d : Fin 1024) :
    (outsAt0 m (ok_of_slots m hP) c 7 hlt).1 (ix2 t d)
      = moe (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) t d := by
  obtain rfl : c = 0 := Subsingleton.elim _ _
  have hn : Named (half m) := named_of_slots _ _ _ _ _ _ _ _ (hP 0) _
  refine (outs_value m (ok_of_slots m hP) 0 hn (apart_of_slots _ _ _ _ _ _ _ _ (hP 0)) hlt t d).trans ?_
  have hh : half m = (show Vec Ideal S1 .i32 from m (((0 : Dev nD) : Thread nD τ).loc main_arg0)) (ix1 0) :=
    congrArg (m (((0 : Dev nD) : Thread nD τ).loc main_arg0)) (funext fun a => by fin_cases a; exact Subsingleton.elim (α := Fin 1) _ _)
  unfold adds moe
  rw [Finset.sum_add_distrib, hh]

theorem frame_ffn : Cert.quiescent_FfnIdeal := fun m ρ _ =>
  (θ_run Cert.FfnIdeal.defs _ _).mono (fun r h => ⟨fun c => (h c).2, Idealize.ShloMosaic.sem_eq_zero_of_no_sems (by decide) r.2⟩)
    (Cert.FfnIdeal.Value.run (F := Ideal) m ρ)
theorem frame_ffn_pre : Cert.quiescent_FfnIdeal_pre_slots_apart := fun m ρ _ => frame_ffn m ρ trivial

theorem algebraic : Cert.algebraic_ExpertsIdeal_FfnIdeal_pre_slots_apart := by
  intro m ρ m' ρ' hP hB
  have hO := ok_of_slots m hP
  have hlt : 7 < (cfgM m hO).N := Nat.lt_of_lt_of_eq (by decide) N_0.symm
  have hv : ∀ c : Dev nD, (outsAt0 m hO c 7 hlt).1 = (show Vec Ideal S2048x1024 .bf16 from Cert.FfnIdeal.Value.res_main_v60 m' c) := by
    intro c
    funext j
    obtain ⟨t, d, rfl⟩ : ∃ (t : Fin 2048) (d : Fin 1024), j = ix2 t d := ⟨j 0, j 1, funext fun a => by fin_cases a <;> rfl⟩
    obtain ⟨h0, h1, h2, h3, h4, h5, h6, h7⟩ := hB c
    exact (out_value m hP c hlt t d).trans ((moe_congr h0 h1 h2 h3 h4 h5 h6 h7 t d).trans (ref_at m' c t d).symm)
  refine ⟨fun c => (outsAt0 m hO c 7 hlt).1, ?_, ?_⟩
  · exact (θ_run defs _ _).mono (fun _ h c => ⟨((h c).1 7).trans (final_out m hO c hlt), ((h c).2 main_arg0 (by decide : main_arg0 ∈ Pipeline.restRefs sig spec0)),
      ((h c).1 4).trans (((dats m hO 0 c).arrAt_in 4 rfl _).trans (A_eq m hO c 4)),
      ((h c).1 0).trans (((dats m hO 0 c).arrAt_in 0 rfl _).trans (A_eq m hO c 0)),
      ((h c).1 1).trans (((dats m hO 0 c).arrAt_in 1 rfl _).trans (A_eq m hO c 1)),
      ((h c).1 2).trans (((dats m hO 0 c).arrAt_in 2 rfl _).trans (A_eq m hO c 2)),
      ((h c).1 3).trans (((dats m hO 0 c).arrAt_in 3 rfl _).trans (A_eq m hO c 3)),
      ((h c).1 5).trans (((dats m hO 0 c).arrAt_in 5 rfl _).trans (A_eq m hO c 5)),
      ((h c).1 6).trans (((dats m hO 0 c).arrAt_in 6 rfl _).trans (A_eq m hO c 6))⟩) (run_main (F := Ideal) m ρ hO)
  · exact (θ_run Cert.FfnIdeal.defs _ _).mono (fun _ h c => ⟨(h c).1.trans (hv c).symm, (h c).2⟩) (Cert.FfnIdeal.Value.run (F := Ideal) m' ρ')

end Cert.ExpertsProof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Exchange
public import proofs.«01_k».proof.Proof.Gen.ExchangeIdeal
public import proofs.«01_k».proof.Proof.Gen.ExchangeIdeal.Skeleton
public import proofs.«01_k».proof.Proof.Gen.ExchangeIdeal.Launch
public import proofs.«01_k».proof.Proof.Gen.ExchangeIdeal.Points
public import proofs.«01_k».proof.Proof.Gen.ExchangeIdeal.Frame
public import proofs.«01_k».proof.Proof.Gen.GatesIdeal
public import proofs.«01_k».proof.Proof.Gen.GatesIdeal.Run
public import proofs.«01_k».proof.Proof.Gen.Pre_finite_inputs_ExchangeIdeal
public import proofs.«01_k».proof.Proof.Gen.Pre_finite_inputs_GatesIdeal
public import proofs.«01_k».proof.Proof.Gen.Experts
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.FfnIdeal
public import proofs.«01_k».proof.Proof.Gen.FfnIdeal.Run
public import proofs.«01_k».proof.Proof.Gen.Pre_half_named
public import proofs.«01_k».proof.Proof.Gen.Pre_slots_apart
public import proofs.«01_k».proof.Proof.Reduce.Value
public import proofs.«01_k».proof.Proof.Exchange.Value
public import proofs.«01_k».proof.Proof.Experts.Value

@[expose] public section

noncomputable section

namespace Cert.Proof

theorem claim : Cert.Claim := ⟨Cert.Kernel.Gen.facts, Cert.KernelIdeal.Gen.facts, Cert.ReferenceIdeal.Gen.facts,
  Cert.Exchange.Gen.facts, Cert.ExchangeIdeal.Gen.facts, Cert.GatesIdeal.Gen.facts,
  Cert.Experts.Gen.facts, Cert.ExpertsIdeal.Gen.facts, Cert.FfnIdeal.Gen.facts,
  Cert.Pre_finite_inputs_ExchangeIdeal.Gen.facts, Cert.Pre_finite_inputs_GatesIdeal.Gen.facts,
  Cert.Pre_half_named.Gen.facts, Cert.Pre_slots_apart.Gen.facts,
  Cert.ReduceProof.frame_kernel, Cert.ReduceProof.frame_kernelIdeal, Cert.ReduceProof.frame_reference,
  Cert.ExchangeProof.frame_exchange, Cert.ExchangeProof.frame_exchangeIdeal, Cert.ExchangeProof.frame_exchangeIdeal_pre,
  Cert.ExchangeProof.frame_gates, Cert.ExchangeProof.frame_gates_pre,
  Cert.ExpertsProof.frame_experts, Cert.ExpertsProof.frame_expertsIdeal, Cert.ExpertsProof.frame_expertsIdeal_pre,
  Cert.ExpertsProof.frame_ffn, Cert.ExpertsProof.frame_ffn_pre,
  trivial, Cert.ReduceProof.algebraic, trivial, Cert.ExchangeProof.algebraic, trivial, Cert.ExpertsProof.algebraic⟩

end Cert.Proof

end
